-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_state [hPre_finite_state : Cert.Pre_finite_state.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_state.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_state [hPre_finite_state : Cert.Pre_finite_state.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_state.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_finite_state [hKernel2Ideal : Cert.Kernel2Ideal.Facts] [hPre_finite_state : Cert.Pre_finite_state.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_state m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_finite_state [hReference2Ideal : Cert.Reference2Ideal.Facts] [hPre_finite_state : Cert.Pre_finite_state.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_state m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_state [hKernel2Ideal : Cert.Kernel2Ideal.Facts] [hReference2Ideal : Cert.Reference2Ideal.Facts] [hPre_finite_state : Cert.Pre_finite_state.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_state m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v93) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)) →
    ∃ (v0 : (c : Dev Cert.Kernel3Ideal.nD) → Buf (Elt Ideal) ((c.tc : Thread Cert.Kernel3Ideal.nD Cert.Kernel3Ideal.τ).loc Cert.Kernel3Ideal.main_v0_2)) (v1 : (c : Dev Cert.Kernel3Ideal.nD) → Buf (Elt Ideal) ((c.tc : Thread Cert.Kernel3Ideal.nD Cert.Kernel3Ideal.τ).loc Cert.Kernel3Ideal.main_v0_3)) (v2 : (c : Dev Cert.Kernel3Ideal.nD) → Buf (Elt Ideal) ((c.tc : Thread Cert.Kernel3Ideal.nD Cert.Kernel3Ideal.τ).loc Cert.Kernel3Ideal.main_v0_4)) (v3 : (c : Dev Cert.Kernel3Ideal.nD) → Buf (Elt Ideal) ((c.tc : Thread Cert.Kernel3Ideal.nD Cert.Kernel3Ideal.τ).loc Cert.Kernel3Ideal.main_v0_5)) (v4 : (c : Dev Cert.Kernel3Ideal.nD) → Buf (Elt Ideal) ((c.tc : Thread Cert.Kernel3Ideal.nD Cert.Kernel3Ideal.τ).loc Cert.Kernel3Ideal.main_v0_8)) (v5 : (c : Dev Cert.Kernel3Ideal.nD) → Buf (Elt Ideal) ((c.tc : Thread Cert.Kernel3Ideal.nD Cert.Kernel3Ideal.τ).loc Cert.Kernel3Ideal.main_v0_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_2) = v0 c
          ∧ r.2.mem ((c.tc : Thread Cert.Kernel3Ideal.nD Cert.Kernel3Ideal.τ).loc Cert.Kernel3Ideal.main_v0_3) = v1 c
          ∧ r.2.mem ((c.tc : Thread Cert.Kernel3Ideal.nD Cert.Kernel3Ideal.τ).loc Cert.Kernel3Ideal.main_v0_4) = v2 c
          ∧ r.2.mem ((c.tc : Thread Cert.Kernel3Ideal.nD Cert.Kernel3Ideal.τ).loc Cert.Kernel3Ideal.main_v0_5) = v3 c
          ∧ r.2.mem ((c.tc : Thread Cert.Kernel3Ideal.nD Cert.Kernel3Ideal.τ).loc Cert.Kernel3Ideal.main_v0_8) = v4 c
          ∧ r.2.mem ((c.tc : Thread Cert.Kernel3Ideal.nD Cert.Kernel3Ideal.τ).loc Cert.Kernel3Ideal.main_v0_9) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_v63) = v1 c
          ∧ r.2.mem ((c.tc : Thread Cert.Reference3Ideal.nD Cert.Reference3Ideal.τ).loc Cert.Reference3Ideal.main_v64) = v2 c
          ∧ r.2.mem ((c.tc : Thread Cert.Reference3Ideal.nD Cert.Reference3Ideal.τ).loc Cert.Reference3Ideal.main_v65) = v3 c
          ∧ r.2.mem ((c.tc : Thread Cert.Reference3Ideal.nD Cert.Reference3Ideal.τ).loc Cert.Reference3Ideal.main_v68) = v4 c
          ∧ r.2.mem ((c.tc : Thread Cert.Reference3Ideal.nD Cert.Reference3Ideal.τ).loc Cert.Reference3Ideal.main_v70) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_finite_state : Cert.Pre_finite_state.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_state (hKernel2Ideal := hKernel2Ideal) (hPre_finite_state := hPre_finite_state)
    ∧ quiescent_Reference2Ideal (hReference2Ideal := hReference2Ideal)
    ∧ quiescent_Reference2Ideal_pre_finite_state (hReference2Ideal := hReference2Ideal) (hPre_finite_state := hPre_finite_state)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_state (hKernel2Ideal := hKernel2Ideal) (hReference2Ideal := hReference2Ideal) (hPre_finite_state := hPre_finite_state)
    ∧ preserves_Kernel3_Kernel3Ideal
    ∧ algebraic_Kernel3Ideal_Reference3Ideal (hKernel3Ideal := hKernel3Ideal) (hReference3Ideal := hReference3Ideal)
-- ==== Pre_finite_scores.lean ====
abbrev S16896x1024 : Shape := ⟨2, ![16896, 1024]⟩
abbrev S512x16896 : Shape := ⟨2, ![512, 16896]⟩
abbrev S_ : Shape := ⟨0, ![]⟩

class Facts : Prop where
  bcast_S_S16896x1024 : S_.BroadcastsInDim S16896x1024 (![] : Fin 0 → Fin S16896x1024.rank)
  reducesTo_S16896x1024_S_d0_1 : S16896x1024.ReducesTo [0, 1] S_
  h_S_ : 0 < S_.numel

variable [Facts]

def fn {F : FTy → Type} [FloatOps F] (main_arg0 : FVec F S16896x1024 .bf16) (main_arg1 : FVec F S16896x1024 .bf16) (main_arg2 : FVec F S512x16896 .bf16) : IVec S_ 1 × IVec S_ 1 :=
  let main_v0 : FVec F S16896x1024 .bf16 := Host.absf main_arg0
  let main_cst : FVec F S_ .bf16 := constant S_ .bf16 0x7F80#16
  let main_v1 : FVec F S16896x1024 .bf16 := broadcastInDim S16896x1024 ![] bcast_S_S16896x1024 main_cst
  let main_v2 : IVec S16896x1024 1 := cmpf .olt main_v0 main_v1
  let main_c : IVec S_ 1 := constantI S_ 1 1#1
  let main_v3 : IVec S_ 1 := (fun x v => Host.reduce IntOp.andi x v reducesTo_S16896x1024_S_d0_1 h_S_) main_v2 main_c
  let main_v4 : FVec F S16896x1024 .bf16 := Host.absf main_arg1
  let main_cst_0 : FVec F S_ .bf16 := constant S_ .bf16 0x7F80#16
  let main_v5 : FVec F S16896x1024 .bf16 := broadcastInDim S16896x1024 ![] bcast_S_S16896x1024 main_cst_0
  let main_v6 : IVec S16896x1024 1 := cmpf .olt main_v4 main_v5
  let main_c_1 : IVec S_ 1 := constantI S_ 1 1#1
  let main_v7 : IVec S_ 1 := (fun x v => Host.reduce IntOp.andi x v reducesTo_S16896x1024_S_d0_1 h_S_) main_v6 main_c_1
  (main_v3, main_v7)
-- ==== Pre_finite_state.lean ====
abbrev S16896x1024 : Shape := ⟨2, ![16896, 1024]⟩
abbrev S4x8x6x1024 : Shape := ⟨4, ![4, 8, 6, 1024]⟩
abbrev S16384x256 : Shape := ⟨2, ![16384, 256]⟩
abbrev S16384x512 : Shape := ⟨2, ![16384, 512]⟩
abbrev S16896x256 : Shape := ⟨2, ![16896, 256]⟩
abbrev S4x1x256 : Shape := ⟨3, ![4, 1, 256]⟩
abbrev S4x1024x1024 : Shape := ⟨3, ![4, 1024, 1024]⟩
abbrev S4x1x1024 : Shape := ⟨3, ![4, 1, 1024]⟩
abbrev S4x1024x5632 : Shape := ⟨3, ![4, 1024, 5632]⟩
abbrev S4x2816x1024 : Shape := ⟨3, ![4, 2816, 1024]⟩
abbrev S_ : Shape := ⟨0, ![]⟩

class Facts : Prop where
  bcast_S_S16896x256 : S_.BroadcastsInDim S16896x256 (![] : Fin 0 → Fin S16896x256.rank)
  reducesTo_S16896x256_S_d0_1 : S16896x256.ReducesTo [0, 1] S_
  h_S_ : 0 < S_.numel

variable [Facts]

def fn {F : FTy → Type} [FloatOps F] (main_arg0 : FVec F S16896x1024 .f32) (main_arg1 : FVec F S4x8x6x1024 .f32) (main_arg2 : FVec F S16384x256 .bf16) (main_arg3 : FVec F S16384x512 .bf16) (main_arg4 : FVec F S16896x256 .f32) (main_arg5 : FVec F S16896x256 .f32) (main_arg6 : FVec F S16896x256 .f32) (main_arg7 : FVec F S4x1x256 .f32) (main_arg8 : FVec F S4x1024x1024 .bf16) (main_arg9 : FVec F S4x1x1024 .f32) (main_arg10 : FVec F S4x1024x5632 .bf16) (main_arg11 : FVec F S4x2816x1024 .bf16) : IVec S_ 1 :=
  let main_v0 : FVec F S16896x256 .f32 := addf main_arg4 main_arg5
  let main_v1 : FVec F S16896x256 .f32 := Host.absf main_v0
  let main_cst : FVec F S_ .f32 := constant S_ .f32 0x7F800000#32
  let main_v2 : FVec F S16896x256 .f32 := broadcastInDim S16896x256 ![] bcast_S_S16896x256 main_cst
  let main_v3 : IVec S16896x256 1 := cmpf .olt main_v1 main_v2
  let main_c : IVec S_ 1 := constantI S_ 1 1#1
  let main_v4 : IVec S_ 1 := (fun x v => Host.reduce IntOp.andi x v reducesTo_S16896x256_S_d0_1 h_S_) main_v3 main_c
  main_v4
-- ==== Kernel.lean ====
abbrev S16896x1024 : Shape := ⟨2, ![16896, 1024]⟩
abbrev S512x16896 : Shape := ⟨2, ![512, 16896]⟩
abbrev S16384x512 : Shape := ⟨2, ![16384, 512]⟩
abbrev S2048x256 : Shape := ⟨2, ![2048, 256]⟩
abbrev S8192x256 : Shape := ⟨2, ![8192, 256]⟩
abbrev S128x8192 : Shape := ⟨2, ![128, 8192]⟩
abbrev S256x256 : Shape := ⟨2, ![256, 256]⟩
abbrev S128x256 : Shape := ⟨2, ![128, 256]⟩
abbrev S2048x128 : Shape := ⟨2, ![2048, 128]⟩
abbrev S512x1024 : Shape := ⟨2, ![512, 1024]⟩
abbrev S1x1024 : Shape := ⟨2, ![1, 1024]⟩
abbrev S2x80x1024 : Shape := ⟨3, ![2, 80, 1024]⟩
abbrev S2x1x1024 : Shape := ⟨3, ![2, 1, 1024]⟩
abbrev S1024x256 : Shape := ⟨2, ![1024, 256]⟩
abbrev S1024x128 : Shape := ⟨2, ![1024, 128]⟩
abbrev S128x1024 : Shape := ⟨2, ![128, 1024]⟩
abbrev S256x128 : Shape := ⟨2, ![256, 128]⟩
abbrev S256x1024 : Shape := ⟨2, ![256, 1024]⟩
abbrev S512x128 : Shape := ⟨2, ![512, 128]⟩
abbrev S1024 : Shape := ⟨1, ![1024]⟩
abbrev S1x1x1024 : Shape := ⟨3, ![1, 1, 1024]⟩
abbrev S64x256 : Shape := ⟨2, ![64, 256]⟩
abbrev S16x256 : Shape := ⟨2, ![16, 256]⟩
abbrev S80x256 : Shape := ⟨2, ![80, 256]⟩
abbrev S80x1024 : Shape := ⟨2, ![80, 1024]⟩
abbrev S1x80x1024 : Shape := ⟨3, ![1, 80, 1024]⟩
abbrev S64x512 : Shape := ⟨2, ![64, 512]⟩
abbrev S16x512 : Shape := ⟨2, ![16, 512]⟩
abbrev S80x512 : Shape := ⟨2, ![80, 512]⟩
abbrev S1x64x1024 : Shape := ⟨3, ![1, 64, 1024]⟩
abbrev S64x1024 : Shape := ⟨2, ![64, 1024]⟩

abbrev nBuf : Space → Nat
  | .hbm => 4
  | .vmem => 24
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S512x16896, .bf16⟩
  | .hbm, ⟨3, _⟩ => ⟨S16384x512, .bf16⟩
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x256, .bf16⟩
  | .local _ .vmem, ⟨4, _⟩ => ⟨S128x8192, .bf16⟩
  | .local _ .vmem, ⟨5, _⟩ => ⟨S128x8192, .bf16⟩
  | .local _ .vmem, ⟨6, _⟩ => ⟨S256x256, .bf16⟩
  | .local _ .vmem, ⟨7, _⟩ => ⟨S256x256, .bf16⟩
  | .local _ .vmem, ⟨8, _⟩ => ⟨S128x256, .bf16⟩
  | .local _ .vmem, ⟨9, _⟩ => ⟨S128x256, .bf16⟩
  | .local _ .vmem, ⟨10, _⟩ => ⟨S2048x128, .bf16⟩
  | .local _ .vmem, ⟨11, _⟩ => ⟨S2048x128, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S2x80x1024, .f32⟩
  | .local _ .vmem, ⟨21, _⟩ => ⟨S2x1x1024, .f32⟩
  | .local _ .vmem, ⟨22, _⟩ => ⟨S2x80x1024, .f32⟩
  | .local _ .vmem, ⟨23, _⟩ => ⟨S2x1x1024, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 4], ![false, false, false]⟩

@[reducible] def k0_t1_loop : Scf.Loop 32 :=
  let c0_i32 : BitVec 32 := 0#32
  let c3_i32 : BitVec 32 := 3#32
  let v65 : BitVec 32 := Scalar.addi c0_i32 c3_i32
  let c1_i32 : BitVec 32 := 1#32
  ⟨c0_i32, v65, c1_i32⟩
def k0_mult1 (k0_t1 : Fin k0_t1_loop.trips) : BitVec 32 :=
  let c0_i32 : BitVec 32 := 0#32
  let c1_i32 : BitVec 32 := 1#32
  let arg21 : BitVec 32 := Scf.iv c0_i32 c1_i32 k0_t1
  let c2048_i32 : BitVec 32 := 2048#32
  let v700 : BitVec 32 := Scalar.muli arg21 c2048_i32
  v700
def k0_off1 (k0_t1 : Fin k0_t1_loop.trips) (c0_i32_531 : BitVec 32) : Fin 2 → Nat :=
  let c0_i32 : BitVec 32 := 0#32
  let c1_i32 : BitVec 32 := 1#32
  let arg21 : BitVec 32 := Scf.iv c0_i32 c1_i32 k0_t1
  let c2048_i32 : BitVec 32 := 2048#32
  let v700 : BitVec 32 := Scalar.muli arg21 c2048_i32
  let v701 : BitVec 32 := v700
  let v702 : BitVec 32 := Scalar.addi v701 c0_i32_531
  let c512_i32 : BitVec 32 := 512#32
  let v703 : BitVec 32 := Scalar.addi v702 c512_i32
  let v704 : Index := Scalar.indexCast v703
  let c0_532 : Index := 0#32
  ![v704.toNat, 0]
def k0_off2 (k0_t1 : Fin k0_t1_loop.trips) (c0_i32_531 : BitVec 32) : Fin 2 → Nat :=
  let c64_549 : Index := 64#32
  let c0_i32 : BitVec 32 := 0#32
  let c1_i32 : BitVec 32 := 1#32
  let arg21 : BitVec 32 := Scf.iv c0_i32 c1_i32 k0_t1
  let c2048_i32 : BitVec 32 := 2048#32
  let v700 : BitVec 32 := Scalar.muli arg21 c2048_i32
  let v701 : BitVec 32 := v700
  let v702 : BitVec 32 := Scalar.addi v701 c0_i32_531
  let v729 : Index := Scalar.indexCast v702
  ![64, v729.toNat]
def k0_off3 (k0_t1 : Fin k0_t1_loop.trips) (c0_i32_531 : BitVec 32) : Fin 2 → Nat :=
  let c0_i32 : BitVec 32 := 0#32
  let c1_i32 : BitVec 32 := 1#32
  let arg21 : BitVec 32 := Scf.iv c0_i32 c1_i32 k0_t1
  let c2048_i32 : BitVec 32 := 2048#32
  let v700 : BitVec 32 := Scalar.muli arg21 c2048_i32
  let v701 : BitVec 32 := v700
  let v702 : BitVec 32 := Scalar.addi v701 c0_i32_531
  let c512_i32_558 : BitVec 32 := 512#32
  let v742 : BitVec 32 := Scalar.addi v702 c512_i32_558
  let v743 : Index := Scalar.indexCast v742
  let c128_559 : Index := 128#32
  ![v743.toNat, 128]
def k0_off4 (k0_t1 : Fin k0_t1_loop.trips) (c0_i32_531 : BitVec 32) : Fin 2 → Nat :=
  let c0_576 : Index := 0#32
  let c0_i32 : BitVec 32 := 0#32
  let c1_i32 : BitVec 32 := 1#32
  let arg21 : BitVec 32 := Scf.iv c0_i32 c1_i32 k0_t1
  let c2048_i32 : BitVec 32 := 2048#32
  let v700 : BitVec 32 := Scalar.muli arg21 c2048_i32
  let v701 : BitVec 32 := v700
  let v702 : BitVec 32 := Scalar.addi v701 c0_i32_531
  let v768 : Index := Scalar.indexCast v702
  ![0, v768.toNat]
@[reducible] def k0_t2_loop : Scf.Loop 32 :=
  let c0_i32_305 : BitVec 32 := 0#32
  let c3_i32_306 : BitVec 32 := 3#32
  let v415 : BitVec 32 := Scalar.addi c0_i32_305 c3_i32_306
  let c1_i32_307 : BitVec 32 := 1#32
  ⟨c0_i32_305, v415, c1_i32_307⟩
def k0_mult2 (k0_t2 : Fin k0_t2_loop.trips) : BitVec 32 :=
  let c0_i32_305 : BitVec 32 := 0#32
  let c1_i32_307 : BitVec 32 := 1#32
  let arg21 : BitVec 32 := Scf.iv c0_i32_305 c1_i32_307 k0_t2
  let c2048_i32 : BitVec 32 := 2048#32
  let v700 : BitVec 32 := Scalar.muli arg21 c2048_i32
  v700
def k0_off5 (k0_t2 : Fin k0_t2_loop.trips) (c0_i32_531 : BitVec 32) : Fin 2 → Nat :=
  let c0_i32_305 : BitVec 32 := 0#32
  let c1_i32_307 : BitVec 32 := 1#32
  let arg21 : BitVec 32 := Scf.iv c0_i32_305 c1_i32_307 k0_t2
  let c2048_i32 : BitVec 32 := 2048#32
  let v700 : BitVec 32 := Scalar.muli arg21 c2048_i32
  let v701 : BitVec 32 := v700
  let v702 : BitVec 32 := Scalar.addi v701 c0_i32_531
  let c512_i32 : BitVec 32 := 512#32
  let v703 : BitVec 32 := Scalar.addi v702 c512_i32
  let v704 : Index := Scalar.indexCast v703
  let c0_532 : Index := 0#32
  ![v704.toNat, 0]
def k0_off6 (k0_t2 : Fin k0_t2_loop.trips) (c0_i32_531 : BitVec 32) : Fin 2 → Nat :=
  let c64_549 : Index := 64#32
  let c0_i32_305 : BitVec 32 := 0#32
  let c1_i32_307 : BitVec 32 := 1#32
  let arg21 : BitVec 32 := Scf.iv c0_i32_305 c1_i32_307 k0_t2
  let c2048_i32 : BitVec 32 := 2048#32
  let v700 : BitVec 32 := Scalar.muli arg21 c2048_i32
  let v701 : BitVec 32 := v700
  let v702 : BitVec 32 := Scalar.addi v701 c0_i32_531
  let v729 : Index := Scalar.indexCast v702
  ![64, v729.toNat]
def k0_off7 (k0_t2 : Fin k0_t2_loop.trips) (c0_i32_531 : BitVec 32) : Fin 2 → Nat :=
  let c0_i32_305 : BitVec 32 := 0#32
  let c1_i32_307 : BitVec 32 := 1#32
  let arg21 : BitVec 32 := Scf.iv c0_i32_305 c1_i32_307 k0_t2
  let c2048_i32 : BitVec 32 := 2048#32
  let v700 : BitVec 32 := Scalar.muli arg21 c2048_i32
  let v701 : BitVec 32 := v700
  let v702 : BitVec 32 := Scalar.addi v701 c0_i32_531
  let c512_i32_558 : BitVec 32 := 512#32
  let v742 : BitVec 32 := Scalar.addi v702 c512_i32_558
  let v743 : Index := Scalar.indexCast v742
  let c128_559 : Index := 128#32
  ![v743.toNat, 128]
def k0_off8 (k0_t2 : Fin k0_t2_loop.trips) (c0_i32_531 : BitVec 32) : Fin 2 → Nat :=
  let c0_576 : Index := 0#32
  let c0_i32_305 : BitVec 32 := 0#32
  let c1_i32_307 : BitVec 32 := 1#32
  let arg21 : BitVec 32 := Scf.iv c0_i32_305 c1_i32_307 k0_t2
  let c2048_i32 : BitVec 32 := 2048#32
  let v700 : BitVec 32 := Scalar.muli arg21 c2048_i32
  let v701 : BitVec 32 := v700
  let v702 : BitVec 32 := Scalar.addi v701 c0_i32_531
  let v768 : Index := Scalar.indexCast v702
  ![0, v768.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16896x1024 : Shape := ⟨2, ![16896, 1024]⟩
abbrev S512x16896 : Shape := ⟨2, ![512, 16896]⟩
abbrev S16384x1024 : Shape := ⟨2, ![16384, 1024]⟩
abbrev S2x8192x8x128 : Shape := ⟨4, ![2, 8192, 8, 128]⟩
abbrev S512x1024 : Shape := ⟨2, ![512, 1024]⟩
abbrev S2x256x8x128 : Shape := ⟨4, ![2, 256, 8, 128]⟩
abbrev S2x8448x8x128 : Shape := ⟨4, ![2, 8448, 8, 128]⟩
abbrev S16896x512 : Shape := ⟨2, ![16896, 512]⟩
abbrev S16384x512 : Shape := ⟨2, ![16384, 512]⟩
abbrev S2x8192x8x64 : Shape := ⟨4, ![2, 8192, 8, 64]⟩
abbrev S512x512 : Shape := ⟨2, ![512, 512]⟩
abbrev S2x256x8x64 : Shape := ⟨4, ![2, 256, 8, 64]⟩
abbrev S2x8448x8x64 : Shape := ⟨4, ![2, 8448, 8, 64]⟩
abbrev S_ : Shape := ⟨0, ![]⟩
abbrev S2x8x8192x8448 : Shape := ⟨4, ![2, 8, 8192, 8448]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩

abbrev nBuf : Space → Nat
  | .hbm => 43
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S512x16896, .bf16⟩
  | .hbm, ⟨3, _⟩ => ⟨S16384x1024, .bf16⟩
  | .hbm, ⟨4, _⟩ => ⟨S2x8192x8x128, .bf16⟩
  | .hbm, ⟨5, _⟩ => ⟨S512x1024, .bf16⟩
  | .hbm, ⟨6, _⟩ => ⟨S2x256x8x128, .bf16⟩
  | .hbm, ⟨7, _⟩ => ⟨S16384x1024, .bf16⟩
  | .hbm, ⟨8, _⟩ => ⟨S2x8192x8x128, .bf16⟩
  | .hbm, ⟨9, _⟩ => ⟨S512x1024, .bf16⟩
  | .hbm, ⟨10, _⟩ => ⟨S2x256x8x128, .bf16⟩
  | .hbm, ⟨11, _⟩ => ⟨S2x8448x8x128, .bf16⟩
  | .hbm, ⟨12, _⟩ => ⟨S16896x512, .bf16⟩
  | .hbm, ⟨13, _⟩ => ⟨S16384x512, .bf16⟩
  | .hbm, ⟨14, _⟩ => ⟨S2x8192x8x64, .bf16⟩
  | .hbm, ⟨15, _⟩ => ⟨S512x512, .bf16⟩
  | .hbm, ⟨16, _⟩ => ⟨S2x256x8x64, .bf16⟩
  | .hbm, ⟨17, _⟩ => ⟨S2x8448x8x64, .bf16⟩
  | .hbm, ⟨18, _⟩ => ⟨S_, .f32⟩
  | .hbm, ⟨19, _⟩ => ⟨S_, .f32⟩
  | .hbm, ⟨20, _⟩ => ⟨S2x8x8192x8448, .f32⟩
  | .hbm, ⟨21, _⟩ => ⟨S_, .f32⟩
  | .hbm, ⟨22, _⟩ => ⟨S2x8x8192x8448, .f32⟩
  | .hbm, ⟨23, _⟩ => ⟨S2x8x8192x8448, .f32⟩
  | .hbm, ⟨24, _⟩ => ⟨S_, .f32⟩
  | .hbm, ⟨25, _⟩ => ⟨S2x8x8192, .f32⟩
  | .hbm, ⟨26, _⟩ => ⟨S_, .f32⟩
  | .hbm, ⟨27, _⟩ => ⟨S2x8x8192, .f32⟩
  | .hbm, ⟨28, _⟩ => ⟨S2x8x8192, .f32⟩
  | .hbm, ⟨29, _⟩ => ⟨S2x8x8192x1, .f32⟩
  | .hbm, ⟨30, _⟩ => ⟨S2x8x8192x8448, .f32⟩
  | .hbm, ⟨31, _⟩ => ⟨S2x8x8192x8448, .f32⟩
  | .hbm, ⟨32, _⟩ => ⟨S2x8x8192x8448, .f32⟩
  | .hbm, ⟨33, _⟩ => ⟨S_, .f32⟩
  | .hbm, ⟨34, _⟩ => ⟨S2x8x8192, .f32⟩
  | .hbm, ⟨35, _⟩ => ⟨S2x8x8192x1, .f32⟩
  | .hbm, ⟨36, _⟩ => ⟨S2x8x8192x8448, .f32⟩
  | .hbm, ⟨37, _⟩ => ⟨S2x8x8192x8448, .f32⟩
  | .hbm, ⟨38, _⟩ => ⟨S2x8x8192x8448, .bf16⟩
  | .hbm, ⟨39, _⟩ => ⟨S2x8x64x8192, .f32⟩
  | .hbm, ⟨40, _⟩ => ⟨S2x8192x8x64, .f32⟩
  | .hbm, ⟨41, _⟩ => ⟨S2x8192x8x64, .bf16⟩
  | .hbm, ⟨42, _⟩ => ⟨S16384x512, .bf16⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Kernel2.lean ====
abbrev S16896x1024 : Shape := ⟨2, ![16896, 1024]⟩
abbrev S4x8x6x1024 : Shape := ⟨4, ![4, 8, 6, 1024]⟩
abbrev S16384x256 : Shape := ⟨2, ![16384, 256]⟩
abbrev S16384x512 : Shape := ⟨2, ![16384, 512]⟩
abbrev S16896x256 : Shape := ⟨2, ![16896, 256]⟩
abbrev S4x1x256 : Shape := ⟨3, ![4, 1, 256]⟩
abbrev S4x1024x1024 : Shape := ⟨3, ![4, 1024, 1024]⟩
abbrev S4x1x1024 : Shape := ⟨3, ![4, 1, 1024]⟩
abbrev S4x1024x5632 : Shape := ⟨3, ![4, 1024, 5632]⟩
abbrev S4x2816x1024 : Shape := ⟨3, ![4, 2816, 1024]⟩
abbrev S256x256 : Shape := ⟨2, ![256, 256]⟩
abbrev S16384x1024 : Shape := ⟨2, ![16384, 1024]⟩
abbrev S512x1024 : Shape := ⟨2, ![512, 1024]⟩
abbrev S1x1x6x1024 : Shape := ⟨4, ![1, 1, 6, 1024]⟩
abbrev S512x256 : Shape := ⟨2, ![512, 256]⟩
abbrev S512x512 : Shape := ⟨2, ![512, 512]⟩
abbrev S1x1x256 : Shape := ⟨3, ![1, 1, 256]⟩
abbrev S1x1024x1024 : Shape := ⟨3, ![1, 1024, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1x1x1x1024 : Shape := ⟨4, ![1, 1, 1, 1024]⟩
abbrev S1x1024 : Shape := ⟨2, ![1, 1024]⟩
abbrev S1x256 : Shape := ⟨2, ![1, 256]⟩
abbrev S1024x1024 : Shape := ⟨2, ![1024, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1x512x1024 : Shape := ⟨3, ![1, 512, 1024]⟩
abbrev S1x1024x768 : Shape := ⟨3, ![1, 1024, 768]⟩
abbrev S1024x768 : Shape := ⟨2, ![1024, 768]⟩
abbrev S512x768 : Shape := ⟨2, ![512, 768]⟩
abbrev S1x768x1024 : Shape := ⟨3, ![1, 768, 1024]⟩
abbrev S768x1024 : Shape := ⟨2, ![768, 1024]⟩

abbrev nBuf : Space → Nat
  | .hbm => 14
  | .vmem => 25
  | .smem => 0
  | _ => 0

abbrev bufTy : (tb : Table) → Fin (tcTables nBuf tb) → BufTy
  | .hbm, ⟨0, _⟩ => ⟨S16896x1024, .f32⟩
  | .hbm, ⟨1, _⟩ => ⟨S4x8x6x1024, .f32⟩
  | .hbm, ⟨2, _⟩ => ⟨S16384x256, .bf16⟩
  | .hbm, ⟨3, _⟩ => ⟨S16384x512, .bf16⟩
  | .hbm, ⟨4, _⟩ => ⟨S16896x256, .f32⟩
  | .hbm, ⟨5, _⟩ => ⟨S16896x256, .f32⟩
  | .hbm, ⟨6, _⟩ => ⟨S16896x256, .f32⟩
  | .hbm, ⟨7, _⟩ => ⟨S4x1x256, .f32⟩
  | .hbm, ⟨8, _⟩ => ⟨S4x1024x1024, .bf16⟩
  | .hbm, ⟨9, _⟩ => ⟨S4x1x1024, .f32⟩
  | .hbm, ⟨10, _⟩ => ⟨S4x1024x5632, .bf16⟩
  | .hbm, ⟨11, _⟩ => ⟨S4x2816x1024, .bf16⟩
  | .hbm, ⟨12, _⟩ => ⟨S256x256, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1x6x1024, .f32⟩
  | .local _ .vmem, ⟨4, _⟩ => ⟨S1x1x6x1024, .f32⟩
  | .local _ .vmem, ⟨5, _⟩ => ⟨S512x256, .bf16⟩
  | .local _ .vmem, ⟨6, _⟩ => ⟨S512x256, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S1x1x256, .f32⟩
  | .local _ .vmem, ⟨18, _⟩ => ⟨S256x256, .bf16⟩
  | .local _ .vmem, ⟨19, _⟩ => ⟨S1x1024x1024, .bf16⟩
  | .local _ .vmem, ⟨20, _⟩ => ⟨S1x1x1024, .f32⟩
  | .local _ .vmem, ⟨21, _⟩ => ⟨S1x1024x5632, .bf16⟩
  | .local _ .vmem, ⟨22, _⟩ => ⟨S1x2816x1024, .bf16⟩
  | .local _ .vmem, ⟨23, _⟩ => ⟨S512x1024, .f32⟩
  | .local _ .vmem, ⟨24, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c3_i32 : BitVec 32 := 3#32
  let c0_i32_4 : BitVec 32 := 0#32
  let c0_i32_5 : BitVec 32 := 0#32
  let c0_i32_6 : BitVec 32 := 0#32
  ![c3_i32.toNat, v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x5632 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S16896x1024 : Shape := ⟨2, ![16896, 1024]⟩
abbrev S4x8x6x1024 : Shape := ⟨4, ![4, 8, 6, 1024]⟩
abbrev S16384x256 : Shape := ⟨2, ![16384, 256]⟩
abbrev S16384x512 : Shape := ⟨2, ![16384, 512]⟩
abbrev S16896x256 : Shape := ⟨2, ![16896, 256]⟩
abbrev S4x1x256 : Shape := ⟨3, ![4, 1, 256]⟩
abbrev S4x1024x1024 : Shape := ⟨3, ![4, 1024, 1024]⟩
abbrev S4x1x1024 : Shape := ⟨3, ![4, 1, 1024]⟩
abbrev S4x1024x5632 : Shape := ⟨3, ![4, 1024, 5632]⟩
abbrev S4x2816x1024 : Shape := ⟨3, ![4, 2816, 1024]⟩
abbrev S1x2x1x1024 : Shape := ⟨4, ![1, 2, 1, 1024]⟩
abbrev S2x1024 : Shape := ⟨2, ![2, 1024]⟩
abbrev S2x8192x256 : Shape := ⟨3, ![2, 8192, 256]⟩
abbrev S2x8192x4x64 : Shape := ⟨4, ![2, 8192, 4, 64]⟩
abbrev S1x1x256 : Shape := ⟨3, ![1, 1, 256]⟩
abbrev S1x256 : Shape := ⟨2, ![1, 256]⟩
abbrev S4x64 : Shape := ⟨2, ![4, 64]⟩
abbrev S_ : Shape := ⟨0, ![]⟩
abbrev S2x8192x4 : Shape := ⟨3, ![2, 8192, 4]⟩
abbrev S2x8192x4x1 : Shape := ⟨4, ![2, 8192, 4, 1]⟩
abbrev S1x1x4x64 : Shape := ⟨4, ![1, 1, 4, 64]⟩
abbrev S2x8192x512 : Shape := ⟨3, ![2, 8192, 512]⟩
abbrev S2x8192x1024 : Shape := ⟨3, ![2, 8192, 1024]⟩
abbrev S1x1024x1024 : Shape := ⟨3, ![1, 1024, 1024]⟩
abbrev S1024x1024 : Shape := ⟨2, ![1024, 1024]⟩
abbrev S16384x1024 : Shape := ⟨2, ![16384, 1024]⟩
abbrev S2x1x1024 : Shape := ⟨3, ![2, 1, 1024]⟩
abbrev S1x1x1024 : Shape := ⟨3, ![1, 1, 1024]⟩
abbrev S1024 : Shape := ⟨1, ![1024]⟩
abbrev S2x8192 : Shape := ⟨2, ![2, 8192]⟩
abbrev S2x8192x1 : Shape := ⟨3, ![2, 8192, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩

abbrev nBuf : Space → Nat
  | .hbm => 123
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S4x8x6x1024, .f32⟩
  | .hbm, ⟨2, _⟩ => ⟨S16384x256, .bf16⟩
  | .hbm, ⟨3, _⟩ => ⟨S16384x512, .bf16⟩
  | .hbm, ⟨4, _⟩ => ⟨S16896x256, .f32⟩
  | .hbm, ⟨5, _⟩ => ⟨S16896x256, .f32⟩
  | .hbm, ⟨6, _⟩ => ⟨S16896x256, .f32⟩
  | .hbm, ⟨7, _⟩ => ⟨S4x1x256, .f32⟩
  | .hbm, ⟨8, _⟩ => ⟨S4x1024x1024, .bf16⟩
  | .hbm, ⟨9, _⟩ => ⟨S4x1x1024, .f32⟩
  | .hbm, ⟨10, _⟩ => ⟨S4x1024x5632, .bf16⟩
  | .hbm, ⟨11, _⟩ => ⟨S4x2816x1024, .bf16⟩
  | .hbm, ⟨12, _⟩ => ⟨S1x2x1x1024, .f32⟩
  | .hbm, ⟨13, _⟩ => ⟨S2x1024, .f32⟩
  | .hbm, ⟨14, _⟩ => ⟨S1x2x1x1024, .f32⟩
  | .hbm, ⟨15, _⟩ => ⟨S2x1024, .f32⟩
  | .hbm, ⟨16, _⟩ => ⟨S1x2x1x1024, .f32⟩
  | .hbm, ⟨17, _⟩ => ⟨S2x1024, .f32⟩
  | .hbm, ⟨18, _⟩ => ⟨S1x2x1x1024, .f32⟩
  | .hbm, ⟨19, _⟩ => ⟨S2x1024, .f32⟩
  | .hbm, ⟨20, _⟩ => ⟨S16896x256, .f32⟩
  | .hbm, ⟨21, _⟩ => ⟨S16384x256, .f32⟩
  | .hbm, ⟨22, _⟩ => ⟨S2x8192x256, .f32⟩
  | .hbm, ⟨23, _⟩ => ⟨S2x8192x4x64, .f32⟩
  | .hbm, ⟨24, _⟩ => ⟨S1x1x256, .f32⟩
  | .hbm, ⟨25, _⟩ => ⟨S1x256, .f32⟩
  | .hbm, ⟨26, _⟩ => ⟨S4x64, .f32⟩
  | .hbm, ⟨27, _⟩ => ⟨S2x8192x4x64, .f32⟩
  | .hbm, ⟨28, _⟩ => ⟨S_, .f32⟩
  | .hbm, ⟨29, _⟩ => ⟨S2x8192x4, .f32⟩
  | .hbm, ⟨30, _⟩ => ⟨S2x8192x4x1, .f32⟩
  | .hbm, ⟨31, _⟩ => ⟨S_, .f32⟩
  | .hbm, ⟨32, _⟩ => ⟨S2x8192x4x1, .f32⟩
  | .hbm, ⟨33, _⟩ => ⟨S2x8192x4x1, .f32⟩
  | .hbm, ⟨34, _⟩ => ⟨S_, .f32⟩
  | .hbm, ⟨35, _⟩ => ⟨S2x8192x4x1, .f32⟩
  | .hbm, ⟨36, _⟩ => ⟨S2x8192x4x1, .f32⟩
  | .hbm, ⟨37, _⟩ => ⟨S2x8192x4x1, .f32⟩
  | .hbm, ⟨38, _⟩ => ⟨S2x8192x4x64, .f32⟩
  | .hbm, ⟨39, _⟩ => ⟨S2x8192x4x64, .f32⟩
  | .hbm, ⟨40, _⟩ => ⟨S1x1x4x64, .f32⟩
  | .hbm, ⟨41, _⟩ => ⟨S2x8192x4x64, .f32⟩
  | .hbm, ⟨42, _⟩ => ⟨S2x8192x4x64, .f32⟩
  | .hbm, ⟨43, _⟩ => ⟨S16384x256, .f32⟩
  | .hbm, ⟨44, _⟩ => ⟨S2x8192x256, .f32⟩
  | .hbm, ⟨45, _⟩ => ⟨S2x8192x4x64, .f32⟩
  | .hbm, ⟨46, _⟩ => ⟨S2x8192x4x64, .f32⟩
  | .hbm, ⟨47, _⟩ => ⟨S2x8192x4x64, .f32⟩
  | .hbm, ⟨48, _⟩ => ⟨S_, .f32⟩
  | .hbm, ⟨49, _⟩ => ⟨S2x8192x4x64, .f32⟩
  | .hbm, ⟨50, _⟩ => ⟨S2x8192x4x64, .f32⟩
  | .hbm, ⟨51, _⟩ => ⟨S_, .f32⟩
  | .hbm, ⟨52, _⟩ => ⟨S2x8192x4x64, .f32⟩
  | .hbm, ⟨53, _⟩ => ⟨S2x8192x4x64, .f32⟩
  | .hbm, ⟨54, _⟩ => ⟨S2x8192x4x64, .f32⟩
  | .hbm, ⟨55, _⟩ => ⟨S2x8192x256, .f32⟩
  | .hbm, ⟨56, _⟩ => ⟨S2x8192x256, .bf16⟩
  | .hbm, ⟨57, _⟩ => ⟨S2x8192x256, .f32⟩
  | .hbm, ⟨58, _⟩ => ⟨S2x8192x512, .bf16⟩
  | .hbm, ⟨59, _⟩ => ⟨S2x8192x512, .f32⟩
  | .hbm, ⟨60, _⟩ => ⟨S2x8192x1024, .f32⟩
  | .hbm, ⟨61, _⟩ => ⟨S1x1024x1024, .bf16⟩
  | .hbm, ⟨62, _⟩ => ⟨S1024x1024, .bf16⟩
  | .hbm, ⟨63, _⟩ => ⟨S1024x1024, .f32⟩
  | .hbm, ⟨64, _⟩ => ⟨S2x8192x1024, .f32⟩
  | .hbm, ⟨65, _⟩ => ⟨S16384x1024, .f32⟩
  | .hbm, ⟨66, _⟩ => ⟨S2x8192x1024, .f32⟩
  | .hbm, ⟨67, _⟩ => ⟨S2x1x1024, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S1x1x1024, .f32⟩
  | .hbm, ⟨72, _⟩ => ⟨S1024, .f32⟩
  | .hbm, ⟨73, _⟩ => ⟨S2x8192x1024, .f32⟩
  | .hbm, ⟨74, _⟩ => ⟨S_, .f32⟩
  | .hbm, ⟨75, _⟩ => ⟨S2x8192, .f32⟩
  | .hbm, ⟨76, _⟩ => ⟨S2x8192x1, .f32⟩
  | .hbm, ⟨77, _⟩ => ⟨S_, .f32⟩
  | .hbm, ⟨78, _⟩ => ⟨S2x8192x1, .f32⟩
  | .hbm, ⟨79, _⟩ => ⟨S2x8192x1, .f32⟩
  | .hbm, ⟨80, _⟩ => ⟨S_, .f32⟩
  | .hbm, ⟨81, _⟩ => ⟨S2x8192x1, .f32⟩
  | .hbm, ⟨82, _⟩ => ⟨S2x8192x1, .f32⟩
  | .hbm, ⟨83, _⟩ => ⟨S2x8192x1, .f32⟩
  | .hbm, ⟨84, _⟩ => ⟨S2x8192x1024, .f32⟩
  | .hbm, ⟨85, _⟩ => ⟨S2x8192x1024, .f32⟩
  | .hbm, ⟨86, _⟩ => ⟨S1x1x1024, .f32⟩
  | .hbm, ⟨87, _⟩ => ⟨S2x8192x1024, .f32⟩
  | .hbm, ⟨88, _⟩ => ⟨S2x8192x1024, .f32⟩
  | .hbm, ⟨89, _⟩ => ⟨S2x1x1024, .f32⟩
  | .hbm, ⟨90, _⟩ => ⟨S_, .f32⟩
  | .hbm, ⟨91, _⟩ => ⟨S2x1x1024, .f32⟩
  | .hbm, ⟨92, _⟩ => ⟨S2x1x1024, .f32⟩
  | .hbm, ⟨93, _⟩ => ⟨S2x8192x1024, .f32⟩
  | .hbm, ⟨94, _⟩ => ⟨S2x8192x1024, .f32⟩
  | .hbm, ⟨95, _⟩ => ⟨S2x1x1024, .f32⟩
  | .hbm, ⟨96, _⟩ => ⟨S2x8192x1024, .f32⟩
  | .hbm, ⟨97, _⟩ => ⟨S2x8192x1024, .f32⟩
  | .hbm, ⟨98, _⟩ => ⟨S2x1x1024, .f32⟩
  | .hbm, ⟨99, _⟩ => ⟨S1x1024x5632, .bf16⟩
  | .hbm, ⟨100, _⟩ => ⟨S1024x5632, .bf16⟩
  | .hbm, ⟨101, _⟩ => ⟨S1024x5632, .f32⟩
  | .hbm, ⟨102, _⟩ => ⟨S1x2816x1024, .bf16⟩
  | .hbm, ⟨103, _⟩ => ⟨S2816x1024, .bf16⟩
  | .hbm, ⟨104, _⟩ => ⟨S2816x1024, .f32⟩
  | .hbm, ⟨105, _⟩ => ⟨S2x8192x5632, .f32⟩
  | .hbm, ⟨106, _⟩ => ⟨S2x8192x2816, .f32⟩
  | .hbm, ⟨107, _⟩ => ⟨S2x8192x2816, .f32⟩
  | .hbm, ⟨108, _⟩ => ⟨S2x8192x2816, .f32⟩
  | .hbm, ⟨109, _⟩ => ⟨S2x8192x2816, .f32⟩
  | .hbm, ⟨110, _⟩ => ⟨S_, .f32⟩
  | .hbm, ⟨111, _⟩ => ⟨S2x8192x2816, .f32⟩
  | .hbm, ⟨112, _⟩ => ⟨S2x8192x2816, .f32⟩
  | .hbm, ⟨113, _⟩ => ⟨S_, .f32⟩
  | .hbm, ⟨114, _⟩ => ⟨S2x8192x2816, .f32⟩
  | .hbm, ⟨115, _⟩ => ⟨S2x8192x2816, .f32⟩
  | .hbm, ⟨116, _⟩ => ⟨S2x8192x2816, .f32⟩
  | .hbm, ⟨117, _⟩ => ⟨S2x8192x2816, .f32⟩
  | .hbm, ⟨118, _⟩ => ⟨S2x8192x1024, .f32⟩
  | .hbm, ⟨119, _⟩ => ⟨S2x8192x1024, .f32⟩
  | .hbm, ⟨120, _⟩ => ⟨S2x8192x1024, .f32⟩
  | .hbm, ⟨121, _⟩ => ⟨S2x8192x1024, .f32⟩
  | .hbm, ⟨122, _⟩ => ⟨S16384x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_4 : Ref sig .tc := ⟨.hbm, 74, rfl⟩
abbrev main_v57 : Ref sig .tc := ⟨.hbm, 75, rfl⟩
abbrev main_v58 : Ref sig .tc := ⟨.hbm, 76, rfl⟩
abbrev main_cst_5 : Ref sig .tc := ⟨.hbm, 77, rfl⟩
abbrev main_v59 : Ref sig .tc := ⟨.hbm, 78, rfl⟩
abbrev main_v60 : Ref sig .tc := ⟨.hbm, 79, rfl⟩
abbrev main_cst_6 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_7 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_call0_v0 : Ref sig .tc := ⟨.hbm, 108, rfl⟩
abbrev main_call0_v1 : Ref sig .tc := ⟨.hbm, 109, rfl⟩
abbrev main_call0_cst : Ref sig .tc := ⟨.hbm, 110, rfl⟩
abbrev main_call0_v2 : Ref sig .tc := ⟨.hbm, 111, rfl⟩
abbrev main_call0_v3 : Ref sig .tc := ⟨.hbm, 112, rfl⟩
abbrev main_call0_cst_0 : Ref sig .tc := ⟨.hbm, 113, rfl⟩
abbrev main_call0_v4 : Ref sig .tc := ⟨.hbm, 114, rfl⟩
abbrev main_call0_v5 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]
-- ==== Kernel3.lean ====
abbrev S16896x1024 : Shape := ⟨2, ![16896, 1024]⟩
abbrev S4x8x6x1024 : Shape := ⟨4, ![4, 8, 6, 1024]⟩
abbrev S4x1x1024 : Shape := ⟨3, ![4, 1, 1024]⟩
abbrev S4x1024x2688 : Shape := ⟨3, ![4, 1024, 2688]⟩
abbrev S4x384x1024 : Shape := ⟨3, ![4, 384, 1024]⟩
abbrev S4x256x1024 : Shape := ⟨3, ![4, 256, 1024]⟩
abbrev S4x256x512 : Shape := ⟨3, ![4, 256, 512]⟩
abbrev S4x1x384 : Shape := ⟨3, ![4, 1, 384]⟩
abbrev S4x1x256 : Shape := ⟨3, ![4, 1, 256]⟩
abbrev S256x256 : Shape := ⟨2, ![256, 256]⟩
abbrev S8704x128 : Shape := ⟨2, ![8704, 128]⟩
abbrev S16896x256 : Shape := ⟨2, ![16896, 256]⟩
abbrev S16896x512 : Shape := ⟨2, ![16896, 512]⟩
abbrev S16896x128 : Shape := ⟨2, ![16896, 128]⟩
abbrev S256x16896 : Shape := ⟨2, ![256, 16896]⟩
abbrev S512x16896 : Shape := ⟨2, ![512, 16896]⟩
abbrev S512x1024 : Shape := ⟨2, ![512, 1024]⟩
abbrev S1x1x6x1024 : Shape := ⟨4, ![1, 1, 6, 1024]⟩
abbrev S1x1x1024 : Shape := ⟨3, ![1, 1, 1024]⟩
abbrev S1x1024x2688 : Shape := ⟨3, ![1, 1024, 2688]⟩
abbrev S1x384x1024 : Shape := ⟨3, ![1, 384, 1024]⟩
abbrev S1x256x1024 : Shape := ⟨3, ![1, 256, 1024]⟩
abbrev S1x256x512 : Shape := ⟨3, ![1, 256, 512]⟩
abbrev S1x1x384 : Shape := ⟨3, ![1, 1, 384]⟩
abbrev S1x1x256 : Shape := ⟨3, ![1, 1, 256]⟩
abbrev S512x128 : Shape := ⟨2, ![512, 128]⟩
abbrev S512x256 : Shape := ⟨2, ![512, 256]⟩
abbrev S512x512 : Shape := ⟨2, ![512, 512]⟩
abbrev S256x512 : Shape := ⟨2, ![256, 512]⟩
abbrev S1x1x1x1024 : Shape := ⟨4, ![1, 1, 1, 1024]⟩
abbrev S1x1024 : Shape := ⟨2, ![1, 1024]⟩
abbrev S512 : Shape := ⟨1, ![512]⟩
abbrev S512x1 : Shape := ⟨2, ![512, 1]⟩
abbrev S1x1024x896 : Shape := ⟨3, ![1, 1024, 896]⟩
abbrev S1024x896 : Shape := ⟨2, ![1024, 896]⟩
abbrev S512x896 : Shape := ⟨2, ![512, 896]⟩
abbrev S512x384 : Shape := ⟨2, ![512, 384]⟩
abbrev S1x384 : Shape := ⟨2, ![1, 384]⟩
abbrev S1x256 : Shape := ⟨2, ![1, 256]⟩
abbrev S1x1024x768 : Shape := ⟨3, ![1, 1024, 768]⟩
abbrev S1024x768 : Shape := ⟨2, ![1024, 768]⟩
abbrev S512x768 : Shape := ⟨2, ![512, 768]⟩
abbrev S384x1024 : Shape := ⟨2, ![384, 1024]⟩
abbrev S256x1024 : Shape := ⟨2, ![256, 1024]⟩
abbrev S1x1024x1024 : Shape := ⟨3, ![1, 1024, 1024]⟩
abbrev S1024x1024 : Shape := ⟨2, ![1024, 1024]⟩
abbrev S1x1x128 : Shape := ⟨3, ![1, 1, 128]⟩
abbrev S1x128 : Shape := ⟨2, ![1, 128]⟩

abbrev nBuf : Space → Nat
  | .hbm => 30
  | .vmem => 45
  | .smem => 0
  | _ => 0

abbrev bufTy : (tb : Table) → Fin (tcTables nBuf tb) → BufTy
  | .hbm, ⟨0, _⟩ => ⟨S16896x1024, .f32⟩
  | .hbm, ⟨1, _⟩ => ⟨S4x8x6x1024, .f32⟩
  | .hbm, ⟨2, _⟩ => ⟨S4x1x1024, .f32⟩
  | .hbm, ⟨3, _⟩ => ⟨S4x1024x2688, .bf16⟩
  | .hbm, ⟨4, _⟩ => ⟨S4x384x1024, .bf16⟩
  | .hbm, ⟨5, _⟩ => ⟨S4x384x1024, .bf16⟩
  | .hbm, ⟨6, _⟩ => ⟨S4x256x1024, .bf16⟩
  | .hbm, ⟨7, _⟩ => ⟨S4x256x512, .bf16⟩
  | .hbm, ⟨8, _⟩ => ⟨S4x1x384, .f32⟩
  | .hbm, ⟨9, _⟩ => ⟨S4x1x256, .f32⟩
  | .hbm, ⟨10, _⟩ => ⟨S4x1x256, .f32⟩
  | .hbm, ⟨11, _⟩ => ⟨S4x1x256, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S256x256, .bf16⟩
  | .hbm, ⟨17, _⟩ => ⟨S256x256, .bf16⟩
  | .hbm, ⟨18, _⟩ => ⟨S8704x128, .f32⟩
  | .hbm, ⟨19, _⟩ => ⟨S8704x128, .f32⟩
  | .hbm, ⟨20, _⟩ => ⟨S16896x256, .bf16⟩
  | .hbm, ⟨21, _⟩ => ⟨S16896x256, .bf16⟩
  | .hbm, ⟨22, _⟩ => ⟨S16896x512, .f32⟩
  | .hbm, ⟨23, _⟩ => ⟨S16896x256, .bf16⟩
  | .hbm, ⟨24, _⟩ => ⟨S16896x256, .f32⟩
  | .hbm, ⟨25, _⟩ => ⟨S16896x128, .f32⟩
  | .hbm, ⟨26, _⟩ => ⟨S16896x1024, .bf16⟩
  | .hbm, ⟨27, _⟩ => ⟨S16896x1024, .bf16⟩
  | .hbm, ⟨28, _⟩ => ⟨S256x16896, .bf16⟩
  | .hbm, ⟨29, _⟩ => ⟨S512x16896, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1x6x1024, .f32⟩
  | .local _ .vmem, ⟨4, _⟩ => ⟨S1x1x6x1024, .f32⟩
  | .local _ .vmem, ⟨5, _⟩ => ⟨S1x1x1024, .f32⟩
  | .local _ .vmem, ⟨6, _⟩ => ⟨S1x1024x2688, .bf16⟩
  | .local _ .vmem, ⟨7, _⟩ => ⟨S1x384x1024, .bf16⟩
  | .local _ .vmem, ⟨8, _⟩ => ⟨S1x384x1024, .bf16⟩
  | .local _ .vmem, ⟨9, _⟩ => ⟨S1x256x1024, .bf16⟩
  | .local _ .vmem, ⟨10, _⟩ => ⟨S1x256x512, .bf16⟩
  | .local _ .vmem, ⟨11, _⟩ => ⟨S1x1x384, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S256x256, .bf16⟩
  | .local _ .vmem, ⟨20, _⟩ => ⟨S256x256, .bf16⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x512, .f32⟩
  | .local _ .vmem, ⟨30, _⟩ => ⟨S512x512, .f32⟩
  | .local _ .vmem, ⟨31, _⟩ => ⟨S512x256, .bf16⟩
  | .local _ .vmem, ⟨32, _⟩ => ⟨S512x256, .bf16⟩
  | .local _ .vmem, ⟨33, _⟩ => ⟨S512x256, .f32⟩
  | .local _ .vmem, ⟨34, _⟩ => ⟨S512x256, .f32⟩
  | .local _ .vmem, ⟨35, _⟩ => ⟨S512x128, .f32⟩
  | .local _ .vmem, ⟨36, _⟩ => ⟨S512x128, .f32⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S256x512, .bf16⟩
  | .local _ .vmem, ⟨42, _⟩ => ⟨S256x512, .bf16⟩
  | .local _ .vmem, ⟨43, _⟩ => ⟨S512x512, .bf16⟩
  | .local _ .vmem, ⟨44, _⟩ => ⟨S512x512, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v0_4 : Ref sig .tc := ⟨.hbm, 24, rfl⟩
abbrev main_v0_5 : Ref sig .tc := ⟨.hbm, 25, rfl⟩
abbrev main_v0_6 : Ref sig .tc := ⟨.hbm, 26, rfl⟩
abbrev main_v0_7 : Ref sig .tc := ⟨.hbm, 27, rfl⟩
abbrev main_v0_8 : Ref sig .tc := ⟨.hbm, 28, rfl⟩
abbrev main_v0_9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_stg25_0 : Ref sig .tc := ⟨.vmem, 33, rfl⟩
abbrev cc0_stg25_1 : Ref sig .tc := ⟨.vmem, 34, rfl⟩
abbrev cc0_stg26_0 : Ref sig .tc := ⟨.vmem, 35, rfl⟩
abbrev cc0_stg26_1 : Ref sig .tc := ⟨.vmem, 36, rfl⟩
abbrev cc0_stg27_0 : Ref sig .tc := ⟨.vmem, 37, rfl⟩
abbrev cc0_stg27_1 : Ref sig .tc := ⟨.vmem, 38, rfl⟩
abbrev cc0_stg28_0 : Ref sig .tc := ⟨.vmem, 39, rfl⟩
abbrev cc0_stg28_1 : Ref sig .tc := ⟨.vmem, 40, rfl⟩
abbrev cc0_stg29_0 : Ref sig .tc := ⟨.vmem, 41, rfl⟩
abbrev cc0_stg29_1 : Ref sig .tc := ⟨.vmem, 42, rfl⟩
abbrev cc0_stg30_0 : Ref sig .tc := ⟨.vmem, 43, rfl⟩
abbrev cc0_stg30_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem25_1 : DmaSem sig := 34
abbrev cc0_sem26_0 : DmaSem sig := 35
abbrev cc0_sem26_1 : DmaSem sig := 36
abbrev cc0_sem27_0 : DmaSem sig := 37
abbrev cc0_sem27_1 : DmaSem sig := 38
abbrev cc0_sem28_0 : DmaSem sig := 39
abbrev cc0_sem28_1 : DmaSem sig := 40
abbrev cc0_sem29_0 : DmaSem sig := 41
abbrev cc0_sem29_1 : DmaSem sig := 42
abbrev cc0_sem30_0 : DmaSem sig := 43
abbrev cc0_sem30_1 : DmaSem sig := 44

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c3_i32 : BitVec 32 := 3#32
  let c0_i32_4 : BitVec 32 := 0#32
  let c0_i32_5 : BitVec 32 := 0#32
  let c0_i32_6 : BitVec 32 := 0#32
  ![c3_i32.toNat, v17.toNat, c0_i32_4.toNat, c0_i32_5.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_15 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_16 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.subi arg0 c32_i32_3
  let c16_i32_4 : BitVec 32 := 16#32
  let v12 : BitVec 32 := Scalar.addi c16_i32_4 v11
  let v13 : BitVec 32 := Scalar.select v0 v10 v12
  let c0_i32_5 : BitVec 32 := 0#32
  let c0_i32_6 : BitVec 32 := 0#32
  ![v13.toNat, c0_i32_5.toNat]

def cc0_transform_20 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.subi arg0 c32_i32_3
  let c16_i32_4 : BitVec 32 := 16#32
  let v12 : BitVec 32 := Scalar.addi c16_i32_4 v11
  let v13 : BitVec 32 := Scalar.select v0 v10 v12
  let c0_i32_5 : BitVec 32 := 0#32
  let c0_i32_6 : BitVec 32 := 0#32
  ![v13.toNat, c0_i32_5.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_30 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x512 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S512x512 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]
-- ==== Reference3Ideal.lean ====
abbrev S16896x1024 : Shape := ⟨2, ![16896, 1024]⟩
abbrev S4x8x6x1024 : Shape := ⟨4, ![4, 8, 6, 1024]⟩
abbrev S4x1x1024 : Shape := ⟨3, ![4, 1, 1024]⟩
abbrev S4x1024x2688 : Shape := ⟨3, ![4, 1024, 2688]⟩
abbrev S4x384x1024 : Shape := ⟨3, ![4, 384, 1024]⟩
abbrev S4x256x1024 : Shape := ⟨3, ![4, 256, 1024]⟩
abbrev S4x256x512 : Shape := ⟨3, ![4, 256, 512]⟩
abbrev S4x1x384 : Shape := ⟨3, ![4, 1, 384]⟩
abbrev S4x1x256 : Shape := ⟨3, ![4, 1, 256]⟩
abbrev S256x256 : Shape := ⟨2, ![256, 256]⟩
abbrev S8704x128 : Shape := ⟨2, ![8704, 128]⟩
abbrev S1x1x1024 : Shape := ⟨3, ![1, 1, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S2x8192x1024 : Shape := ⟨3, ![2, 8192, 1024]⟩
abbrev S16384x1024 : Shape := ⟨2, ![16384, 1024]⟩
abbrev S1x1x1x1024 : Shape := ⟨4, ![1, 1, 1, 1024]⟩
abbrev S512x1024 : Shape := ⟨2, ![512, 1024]⟩
abbrev S1x1024x2688 : Shape := ⟨3, ![1, 1024, 2688]⟩
abbrev S1024x2688 : Shape := ⟨2, ![1024, 2688]⟩
abbrev S16896x2688 : Shape := ⟨2, ![16896, 2688]⟩
abbrev S16896x256 : Shape := ⟨2, ![16896, 256]⟩
abbrev S1x1x256 : Shape := ⟨3, ![1, 1, 256]⟩
abbrev S256 : Shape := ⟨1, ![256]⟩
abbrev S1x256 : Shape := ⟨2, ![1, 256]⟩
abbrev S1x256x512 : Shape := ⟨3, ![1, 256, 512]⟩
abbrev S256x512 : Shape := ⟨2, ![256, 512]⟩
abbrev S16896x512 : Shape := ⟨2, ![16896, 512]⟩
abbrev S16896x128 : Shape := ⟨2, ![16896, 128]⟩
abbrev S256x16896 : Shape := ⟨2, ![256, 16896]⟩
abbrev S512x16896 : Shape := ⟨2, ![512, 16896]⟩

abbrev nBuf : Space → Nat
  | .hbm => 98
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S4x8x6x1024, .f32⟩
  | .hbm, ⟨2, _⟩ => ⟨S4x1x1024, .f32⟩
  | .hbm, ⟨3, _⟩ => ⟨S4x1024x2688, .bf16⟩
  | .hbm, ⟨4, _⟩ => ⟨S4x384x1024, .bf16⟩
  | .hbm, ⟨5, _⟩ => ⟨S4x384x1024, .bf16⟩
  | .hbm, ⟨6, _⟩ => ⟨S4x256x1024, .bf16⟩
  | .hbm, ⟨7, _⟩ => ⟨S4x256x512, .bf16⟩
  | .hbm, ⟨8, _⟩ => ⟨S4x1x384, .f32⟩
  | .hbm, ⟨9, _⟩ => ⟨S4x1x256, .f32⟩
  | .hbm, ⟨10, _⟩ => ⟨S4x1x256, .f32⟩
  | .hbm, ⟨11, _⟩ => ⟨S4x1x256, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S256x256, .bf16⟩
  | .hbm, ⟨17, _⟩ => ⟨S256x256, .bf16⟩
  | .hbm, ⟨18, _⟩ => ⟨S8704x128, .f32⟩
  | .hbm, ⟨19, _⟩ => ⟨S8704x128, .f32⟩
  | .hbm, ⟨20, _⟩ => ⟨S1x1x1024, .f32⟩
  | .hbm, ⟨21, _⟩ => ⟨S1024, .f32⟩
  | .hbm, ⟨22, _⟩ => ⟨S16896x1024, .f32⟩
  | .hbm, ⟨23, _⟩ => ⟨S_, .f32⟩
  | .hbm, ⟨24, _⟩ => ⟨S16896, .f32⟩
  | .hbm, ⟨25, _⟩ => ⟨S16896x1, .f32⟩
  | .hbm, ⟨26, _⟩ => ⟨S_, .f32⟩
  | .hbm, ⟨27, _⟩ => ⟨S16896x1, .f32⟩
  | .hbm, ⟨28, _⟩ => ⟨S16896x1, .f32⟩
  | .hbm, ⟨29, _⟩ => ⟨S_, .f32⟩
  | .hbm, ⟨30, _⟩ => ⟨S16896x1, .f32⟩
  | .hbm, ⟨31, _⟩ => ⟨S16896x1, .f32⟩
  | .hbm, ⟨32, _⟩ => ⟨S16896x1, .f32⟩
  | .hbm, ⟨33, _⟩ => ⟨S16896x1024, .f32⟩
  | .hbm, ⟨34, _⟩ => ⟨S16896x1024, .f32⟩
  | .hbm, ⟨35, _⟩ => ⟨S1x1024, .f32⟩
  | .hbm, ⟨36, _⟩ => ⟨S16896x1024, .f32⟩
  | .hbm, ⟨37, _⟩ => ⟨S16896x1024, .f32⟩
  | .hbm, ⟨38, _⟩ => ⟨S1x2x1x1024, .f32⟩
  | .hbm, ⟨39, _⟩ => ⟨S2x1024, .f32⟩
  | .hbm, ⟨40, _⟩ => ⟨S2x1x1024, .f32⟩
  | .hbm, ⟨41, _⟩ => ⟨S2x8192x1024, .f32⟩
  | .hbm, ⟨42, _⟩ => ⟨S16384x1024, .f32⟩
  | .hbm, ⟨43, _⟩ => ⟨S1x1x1x1024, .f32⟩
  | .hbm, ⟨44, _⟩ => ⟨S1x1024, .f32⟩
  | .hbm, ⟨45, _⟩ => ⟨S512x1024, .f32⟩
  | .hbm, ⟨46, _⟩ => ⟨S16896x1024, .f32⟩
  | .hbm, ⟨47, _⟩ => ⟨S_, .f32⟩
  | .hbm, ⟨48, _⟩ => ⟨S16896x1024, .f32⟩
  | .hbm, ⟨49, _⟩ => ⟨S16896x1024, .f32⟩
  | .hbm, ⟨50, _⟩ => ⟨S16896x1024, .f32⟩
  | .hbm, ⟨51, _⟩ => ⟨S1x2x1x1024, .f32⟩
  | .hbm, ⟨52, _⟩ => ⟨S2x1024, .f32⟩
  | .hbm, ⟨53, _⟩ => ⟨S2x1x1024, .f32⟩
  | .hbm, ⟨54, _⟩ => ⟨S2x8192x1024, .f32⟩
  | .hbm, ⟨55, _⟩ => ⟨S16384x1024, .f32⟩
  | .hbm, ⟨56, _⟩ => ⟨S1x1x1x1024, .f32⟩
  | .hbm, ⟨57, _⟩ => ⟨S1x1024, .f32⟩
  | .hbm, ⟨58, _⟩ => ⟨S512x1024, .f32⟩
  | .hbm, ⟨59, _⟩ => ⟨S16896x1024, .f32⟩
  | .hbm, ⟨60, _⟩ => ⟨S16896x1024, .f32⟩
  | .hbm, ⟨61, _⟩ => ⟨S1x1024x2688, .bf16⟩
  | .hbm, ⟨62, _⟩ => ⟨S1024x2688, .bf16⟩
  | .hbm, ⟨63, _⟩ => ⟨S1024x2688, .f32⟩
  | .hbm, ⟨64, _⟩ => ⟨S16896x2688, .f32⟩
  | .hbm, ⟨65, _⟩ => ⟨S16896x256, .f32⟩
  | .hbm, ⟨66, _⟩ => ⟨S1x1x256, .f32⟩
  | .hbm, ⟨67, _⟩ => ⟨S256, .f32⟩
  | .hbm, ⟨68, _⟩ => ⟨S16896x256, .f32⟩
  | .hbm, ⟨69, _⟩ => ⟨S_, .f32⟩
  | .hbm, ⟨70, _⟩ => ⟨S16896, .f32⟩
  | .hbm, ⟨71, _⟩ => ⟨S16896x1, .f32⟩
  | .hbm, ⟨72, _⟩ => ⟨S_, .f32⟩
  | .hbm, ⟨73, _⟩ => ⟨S16896x1, .f32⟩
  | .hbm, ⟨74, _⟩ => ⟨S16896x1, .f32⟩
  | .hbm, ⟨75, _⟩ => ⟨S_, .f32⟩
  | .hbm, ⟨76, _⟩ => ⟨S16896x1, .f32⟩
  | .hbm, ⟨77, _⟩ => ⟨S16896x1, .f32⟩
  | .hbm, ⟨78, _⟩ => ⟨S16896x1, .f32⟩
  | .hbm, ⟨79, _⟩ => ⟨S16896x256, .f32⟩
  | .hbm, ⟨80, _⟩ => ⟨S16896x256, .f32⟩
  | .hbm, ⟨81, _⟩ => ⟨S1x256, .f32⟩
  | .hbm, ⟨82, _⟩ => ⟨S16896x256, .f32⟩
  | .hbm, ⟨83, _⟩ => ⟨S16896x256, .f32⟩
  | .hbm, ⟨84, _⟩ => ⟨S1x256x512, .bf16⟩
  | .hbm, ⟨85, _⟩ => ⟨S256x512, .bf16⟩
  | .hbm, ⟨86, _⟩ => ⟨S256x512, .f32⟩
  | .hbm, ⟨87, _⟩ => ⟨S16896x512, .f32⟩
  | .hbm, ⟨88, _⟩ => ⟨S16896x512, .f32⟩
  | .hbm, ⟨89, _⟩ => ⟨S16896x256, .f32⟩
  | .hbm, ⟨90, _⟩ => ⟨S16896x256, .bf16⟩
  | .hbm, ⟨91, _⟩ => ⟨S16896x256, .f32⟩
  | .hbm, ⟨92, _⟩ => ⟨S16896x128, .f32⟩
  | .hbm, ⟨93, _⟩ => ⟨S16896x256, .f32⟩
  | .hbm, ⟨94, _⟩ => ⟨S256x16896, .f32⟩
  | .hbm, ⟨95, _⟩ => ⟨S256x16896, .bf16⟩
  | .hbm, ⟨96, _⟩ => ⟨S512x16896, .f32⟩
  | .hbm, ⟨97, _⟩ => ⟨S512x16896, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]
-- ==== Proof.Trip.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the eight score buffers (two slots of scores and of row maxima for the two heads), the accumulator and the
    running maximum of one query tile hold. -/
structure Scr (c : Dev nD) (arg9 : Memref sig .tc .vmem S512x1024 .f32) (arg10 : Memref sig .tc .vmem S512x1024 .f32) (arg11 : Memref sig .tc .vmem S512x1024 .f32) (arg12 : Memref sig .tc .vmem S512x1024 .f32) (arg13 : Memref sig .tc .vmem S1x1024 .f32) (arg14 : Memref sig .tc .vmem S1x1024 .f32) (arg15 : Memref sig .tc .vmem S1x1024 .f32) (arg16 : Memref sig .tc .vmem S1x1024 .f32) (arg17 : Memref sig .tc .vmem S2x80x1024 .f32) (arg18 : Memref sig .tc .vmem S2x1x1024 .f32) where
  s0 : Buf (Elt F) (arg9.view.loc (c : Thread nD τ))
  s1 : Buf (Elt F) (arg10.view.loc (c : Thread nD τ))
  s2 : Buf (Elt F) (arg11.view.loc (c : Thread nD τ))
  s3 : Buf (Elt F) (arg12.view.loc (c : Thread nD τ))
  s4 : Buf (Elt F) (arg13.view.loc (c : Thread nD τ))
  s5 : Buf (Elt F) (arg14.view.loc (c : Thread nD τ))
  s6 : Buf (Elt F) (arg15.view.loc (c : Thread nD τ))
  s7 : Buf (Elt F) (arg16.view.loc (c : Thread nD τ))
  acc : Buf (Elt F) (arg17.view.loc (c : Thread nD τ))
  mx : Buf (Elt F) (arg18.view.loc (c : Thread nD τ))

/-- A memref held at contents. -/
abbrev pt {S : Shape} {e : EltTy} (c : Dev nD) (M : Memref sig .tc .vmem S e) (f : Buf (Elt F) (M.view.loc (c : Thread nD τ))) : sProp 𝕄 :=
  M.view.loc (c : Thread nD τ) ↦[M.view.set]{fullShare} f

/-- The keys, the values and the ten buffers above, held. -/
abbrev held (c : Dev nD) (arg4 : Memref sig .tc .vmem S8192x256 .bf16) (arg5 : Memref sig .tc .vmem S128x8192 .bf16) (arg9 : Memref sig .tc .vmem S512x1024 .f32) (arg10 : Memref sig .tc .vmem S512x1024 .f32) (arg11 : Memref sig .tc .vmem S512x1024 .f32) (arg12 : Memref sig .tc .vmem S512x1024 .f32) (arg13 : Memref sig .tc .vmem S1x1024 .f32) (arg14 : Memref sig .tc .vmem S1x1024 .f32) (arg15 : Memref sig .tc .vmem S1x1024 .f32) (arg16 : Memref sig .tc .vmem S1x1024 .f32) (arg17 : Memref sig .tc .vmem S2x80x1024 .f32) (arg18 : Memref sig .tc .vmem S2x1x1024 .f32)
    (f4 : Buf (Elt F) (arg4.view.loc (c : Thread nD τ))) (f5 : Buf (Elt F) (arg5.view.loc (c : Thread nD τ))) (g : Scr (F := F) c arg9 arg10 arg11 arg12 arg13 arg14 arg15 arg16 arg17 arg18) : sProp 𝕄 :=
  iprop(pt c arg4 f4 ∗ pt c arg5 f5 ∗ pt c arg9 g.s0 ∗ pt c arg10 g.s1 ∗ pt c arg11 g.s2 ∗ pt c arg12 g.s3 ∗ pt c arg13 g.s4 ∗ pt c arg14 g.s5 ∗ pt c arg15 g.s6 ∗ pt c arg16 g.s7 ∗ pt c arg17 g.acc ∗ pt c arg18 g.mx)

/-! ## The loop of query tile 0 -/

section
variable (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S128x8192 .bf16) (harg5 : arg5.IsWhole) (arg6 : Memref sig .tc .vmem S256x256 .bf16) (harg6 : arg6.IsWhole) (arg7 : Memref sig .tc .vmem S128x256 .bf16) (harg7 : arg7.IsWhole) (arg8 : Memref sig .tc .vmem S2048x128 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S2x80x1024 .f32) (harg17 : arg17.IsWhole) (arg18 : Memref sig .tc .vmem S2x1x1024 .f32) (harg18 : arg18.IsWhole) (arg19 : Memref sig .tc .vmem S2x80x1024 .f32) (harg19 : arg19.IsWhole) (arg20 : Memref sig .tc .vmem S2x1x1024 .f32) (harg20 : arg20.IsWhole)
    (v4 : FVec F S128x1024 .bf16) (v8 : FVec F S128x1024 .bf16) (v61 : FVec F S80x1024 .f32)
    (f4 : Buf (Elt F) (arg4.view.loc (c : Thread nD τ))) (f5 : Buf (Elt F) (arg5.view.loc (c : Thread nD τ)))

/-- One trip: what the score slots and the accumulators hold after it, from what they hold before. -/
@[irreducible] def trip1 (k : Fin k0_t1_loop.trips) (g : Scr (F := F) c arg9 arg10 arg11 arg12 arg13 arg14 arg15 arg16 arg17 arg18) :
    {g' : Scr (F := F) c arg9 arg10 arg11 arg12 arg13 arg14 arg15 arg16 arg17 arg18 // held c arg4 arg5 arg9 arg10 arg11 arg12 arg13 arg14 arg15 arg16 arg17 arg18 f4 f5 g
      ⊢ wp frame (wpE (defs₀ (F := F)) Variants.none (c : Thread nD τ) none) Set.univ
          (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 k ()) (fun _ => held c arg4 arg5 arg9 arg10 arg11 arg12 arg13 arg14 arg15 arg16 arg17 arg18 f4 f5 g')} := by
  refine ⟨⟨?_, ?_, ?_, ?_, ?_, ?_, ?_, ?_, ?_, ?_⟩, ?run⟩
  case run =>
    unfold held
    unfold Gen.k0_t1_body
    iintro ⟨H4, H5, H9, H10, H11, H12, H13, H14, H15, H16, H17, H18⟩
    sl_exec
    sl_step
    sl_close

/-- What they hold before trip `n`. -/
def at1 (g : Scr (F := F) c arg9 arg10 arg11 arg12 arg13 arg14 arg15 arg16 arg17 arg18) : ℕ → Scr (F := F) c arg9 arg10 arg11 arg12 arg13 arg14 arg15 arg16 arg17 arg18
  | 0 => g
  | n + 1 => if h : n < k0_t1_loop.trips then (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 ⟨n, h⟩ (at1 g n)).1 else at1 g n

theorem at1_succ (g : Scr (F := F) c arg9 arg10 arg11 arg12 arg13 arg14 arg15 arg16 arg17 arg18) (k : Fin k0_t1_loop.trips) :
    at1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 g (k.val + 1) = (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 k (at1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 g k.val)).1 := by
  rw [at1.eq_2]; exact dif_pos k.isLt

end

set_option warn.classDefReducibility false in
@[sl_loop] def loopInv1 (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S128x8192 .bf16) (harg5 : arg5.IsWhole) (arg6 : Memref sig .tc .vmem S256x256 .bf16) (harg6 : arg6.IsWhole) (arg7 : Memref sig .tc .vmem S128x256 .bf16) (harg7 : arg7.IsWhole) (arg8 : Memref sig .tc .vmem S2048x128 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S2x80x1024 .f32) (harg17 : arg17.IsWhole) (arg18 : Memref sig .tc .vmem S2x1x1024 .f32) (harg18 : arg18.IsWhole) (arg19 : Memref sig .tc .vmem S2x80x1024 .f32) (harg19 : arg19.IsWhole) (arg20 : Memref sig .tc .vmem S2x1x1024 .f32) (harg20 : arg20.IsWhole)
    (v4 : FVec F S128x1024 .bf16) (v8 : FVec F S128x1024 .bf16) (v61 : FVec F S80x1024 .f32)
    (f4 : Buf (Elt F) (arg4.view.loc (c : Thread nD τ))) (f5 : Buf (Elt F) (arg5.view.loc (c : Thread nD τ)))
    (g9 : Buf (Elt F) (arg9.view.loc (c : Thread nD τ))) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))) (g16 : Buf (Elt F) (arg16.view.loc (c : Thread nD τ))) (g17 : Buf (Elt F) (arg17.view.loc (c : Thread nD τ))) (g18 : Buf (Elt F) (arg18.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 where
  inv k _ := match k with
    | 0 => held c arg4 arg5 arg9 arg10 arg11 arg12 arg13 arg14 arg15 arg16 arg17 arg18 f4 f5 ⟨g9, g10, g11, g12, g13, g14, g15, g16, g17, g18⟩
    | n + 1 => held c arg4 arg5 arg9 arg10 arg11 arg12 arg13 arg14 arg15 arg16 arg17 arg18 f4 f5 (at1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 ⟨g9, g10, g11, g12, g13, g14, g15, g16, g17, g18⟩ (n + 1))
  step k _ := by
    have e := at1_succ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 ⟨g9, g10, g11, g12, g13, g14, g15, g16, g17, g18⟩ k
    have h := (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 k (at1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 ⟨g9, g10, g11, g12, g13, g14, g15, g16, g17, g18⟩ k.val)).2
    rw [← e] at h
    obtain ⟨k, hk⟩ := k
    cases k <;> exact h

/-! ## The loop of query tile 1 -/

section
variable (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S128x8192 .bf16) (harg5 : arg5.IsWhole) (arg6 : Memref sig .tc .vmem S256x256 .bf16) (harg6 : arg6.IsWhole) (arg7 : Memref sig .tc .vmem S128x256 .bf16) (harg7 : arg7.IsWhole) (arg8 : Memref sig .tc .vmem S2048x128 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S2x80x1024 .f32) (harg17 : arg17.IsWhole) (arg18 : Memref sig .tc .vmem S2x1x1024 .f32) (harg18 : arg18.IsWhole) (arg19 : Memref sig .tc .vmem S2x80x1024 .f32) (harg19 : arg19.IsWhole) (arg20 : Memref sig .tc .vmem S2x1x1024 .f32) (harg20 : arg20.IsWhole)
    (v354 : FVec F S128x1024 .bf16) (v358 : FVec F S128x1024 .bf16) (v411 : FVec F S80x1024 .f32)
    (f4 : Buf (Elt F) (arg4.view.loc (c : Thread nD τ))) (f5 : Buf (Elt F) (arg5.view.loc (c : Thread nD τ)))

/-- One trip: what the score slots and the accumulators hold after it, from what they hold before. -/
@[irreducible] def trip2 (k : Fin k0_t2_loop.trips) (g : Scr (F := F) c arg9 arg10 arg11 arg12 arg13 arg14 arg15 arg16 arg19 arg20) :
    {g' : Scr (F := F) c arg9 arg10 arg11 arg12 arg13 arg14 arg15 arg16 arg19 arg20 // held c arg4 arg5 arg9 arg10 arg11 arg12 arg13 arg14 arg15 arg16 arg19 arg20 f4 f5 g
      ⊢ wp frame (wpE (defs₀ (F := F)) Variants.none (c : Thread nD τ) none) Set.univ
          (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 k ()) (fun _ => held c arg4 arg5 arg9 arg10 arg11 arg12 arg13 arg14 arg15 arg16 arg19 arg20 f4 f5 g')} := by
  refine ⟨⟨?_, ?_, ?_, ?_, ?_, ?_, ?_, ?_, ?_, ?_⟩, ?run⟩
  case run =>
    unfold held
    unfold Gen.k0_t2_body
    iintro ⟨H4, H5, H9, H10, H11, H12, H13, H14, H15, H16, H19, H20⟩
    sl_exec
    sl_step
    sl_close

/-- What they hold before trip `n`. -/
def at2 (g : Scr (F := F) c arg9 arg10 arg11 arg12 arg13 arg14 arg15 arg16 arg19 arg20) : ℕ → Scr (F := F) c arg9 arg10 arg11 arg12 arg13 arg14 arg15 arg16 arg19 arg20
  | 0 => g
  | n + 1 => if h : n < k0_t2_loop.trips then (trip2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 f4 f5 ⟨n, h⟩ (at2 g n)).1 else at2 g n

theorem at2_succ (g : Scr (F := F) c arg9 arg10 arg11 arg12 arg13 arg14 arg15 arg16 arg19 arg20) (k : Fin k0_t2_loop.trips) :
    at2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 f4 f5 g (k.val + 1) = (trip2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 f4 f5 k (at2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 f4 f5 g k.val)).1 := by
  rw [at2.eq_2]; exact dif_pos k.isLt

end

set_option warn.classDefReducibility false in
@[sl_loop] def loopInv2 (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S128x8192 .bf16) (harg5 : arg5.IsWhole) (arg6 : Memref sig .tc .vmem S256x256 .bf16) (harg6 : arg6.IsWhole) (arg7 : Memref sig .tc .vmem S128x256 .bf16) (harg7 : arg7.IsWhole) (arg8 : Memref sig .tc .vmem S2048x128 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S2x80x1024 .f32) (harg17 : arg17.IsWhole) (arg18 : Memref sig .tc .vmem S2x1x1024 .f32) (harg18 : arg18.IsWhole) (arg19 : Memref sig .tc .vmem S2x80x1024 .f32) (harg19 : arg19.IsWhole) (arg20 : Memref sig .tc .vmem S2x1x1024 .f32) (harg20 : arg20.IsWhole)
    (v354 : FVec F S128x1024 .bf16) (v358 : FVec F S128x1024 .bf16) (v411 : FVec F S80x1024 .f32)
    (f4 : Buf (Elt F) (arg4.view.loc (c : Thread nD τ))) (f5 : Buf (Elt F) (arg5.view.loc (c : Thread nD τ)))
    (g9 : Buf (Elt F) (arg9.view.loc (c : Thread nD τ))) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))) (g16 : Buf (Elt F) (arg16.view.loc (c : Thread nD τ))) (g19 : Buf (Elt F) (arg19.view.loc (c : Thread nD τ))) (g20 : Buf (Elt F) (arg20.view.loc (c : Thread nD τ))) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 where
  inv k _ := match k with
    | 0 => held c arg4 arg5 arg9 arg10 arg11 arg12 arg13 arg14 arg15 arg16 arg19 arg20 f4 f5 ⟨g9, g10, g11, g12, g13, g14, g15, g16, g19, g20⟩
    | n + 1 => held c arg4 arg5 arg9 arg10 arg11 arg12 arg13 arg14 arg15 arg16 arg19 arg20 f4 f5 (at2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 f4 f5 ⟨g9, g10, g11, g12, g13, g14, g15, g16, g19, g20⟩ (n + 1))
  step k _ := by
    have e := at2_succ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 f4 f5 ⟨g9, g10, g11, g12, g13, g14, g15, g16, g19, g20⟩ k
    have h := (trip2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 f4 f5 k (at2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 f4 f5 ⟨g9, g10, g11, g12, g13, g14, g15, g16, g19, g20⟩ k.val)).2
    rw [← e] at h
    obtain ⟨k, hk⟩ := k
    cases k <;> exact h

end Cert.KernelIdeal.Hand

end
-- ==== Proof.Body.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One grid point's body: what it stores into the output block, with everything it reads unchanged and the scratch
    buffers left at some contents. -/
@[irreducible] def bodyRun (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S128x8192 .bf16) (harg5 : arg5.IsWhole) (arg6 : Memref sig .tc .vmem S256x256 .bf16) (harg6 : arg6.IsWhole) (arg7 : Memref sig .tc .vmem S128x256 .bf16) (harg7 : arg7.IsWhole) (arg8 : Memref sig .tc .vmem S2048x128 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S2x80x1024 .f32) (harg17 : arg17.IsWhole) (arg18 : Memref sig .tc .vmem S2x1x1024 .f32) (harg18 : arg18.IsWhole) (arg19 : Memref sig .tc .vmem S2x80x1024 .f32) (harg19 : arg19.IsWhole) (arg20 : Memref sig .tc .vmem S2x1x1024 .f32) (harg20 : arg20.IsWhole)
    (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) :
    { L : List (View.Piece (Elt F) S2048x128 .bf16) //
      iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20)
        ⊢ wp frame (wpE (defs₀ (F := F)) Variants.none (c : Thread nD τ) none) Set.univ (cc0_flash i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
            (fun _ => iprop(pt c arg3 f3 ∗ pt c arg4 f4 ∗ pt c arg5 f5 ∗ pt c arg6 f6 ∗ pt c arg7 f7 ∗ pt c arg8 (arg8.view.writes (Elt F) f8 L)
              ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f))) } := by
  refine ⟨?_, ?run⟩
  case run =>
    unfold cc0_flash
    iintro ⟨H3, H4, H5, H6, H7, H8, H9, H10, H11, H12, H13, H14, H15, H16, H17, H18, H19, H20⟩
    sl_exec
    sl_step
    sl_close

end Cert.KernelIdeal.Hand

end
-- ==== Proof.Tile.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.Pipeline.ReadBack
public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The state of one query tile as values -/

/-- The key block of 512 tokens number `n` for head `e` of the pair. -/
def kblk (X : Vec F S8192x256 .bf16) (e n : ℕ) : Vec F S512x128 .bf16 := fun j =>
  X ((Rect.unit (s := S8192x256) ![512 * (n % 16), 128 * (e % 2)] S512x128.size
    (fun a => by
      match a with
      | ⟨0, _⟩ => show 512 * (n % 16) + 512 ≤ 8192; omega
      | ⟨1, _⟩ => show 128 * (e % 2) + 128 ≤ 256; omega)).emb j)

/-- The value block of 512 tokens number `n` for head `e` of the pair. -/
def vblk (X : Vec F S128x8192 .bf16) (e n : ℕ) : Vec F S64x512 .bf16 := fun j =>
  X ((Rect.unit (s := S128x8192) ![64 * (e % 2), 512 * (n % 16)] S64x512.size
    (fun a => by
      match a with
      | ⟨0, _⟩ => show 64 * (e % 2) + 64 ≤ 128; omega
      | ⟨1, _⟩ => show 512 * (n % 16) + 512 ≤ 8192; omega)).emb j)

/-- Per head: the scores of the block in flight, their row maxima, the accumulator and the running maximum. -/
structure St (F : FTy → Type) where
  s0 : Vec F S512x1024 .f32
  s1 : Vec F S512x1024 .f32
  m0 : Vec F S1x1024 .f32
  m1 : Vec F S1x1024 .f32
  A0 : Vec F S1x80x1024 .f32
  A1 : Vec F S1x80x1024 .f32
  M0 : Vec F S1x1x1024 .f32
  M1 : Vec F S1x1x1024 .f32

/-- The accumulator after a block is absorbed. -/
def absorb (M : Vec F S1x1x1024 .f32) (m : Vec F S1x1024 .f32) (s : Vec F S512x1024 .f32) (v : Vec F S64x512 .bf16)
    (A : Vec F S1x80x1024 .f32) : Vec F S1x80x1024 .f32 := k0_pay9 (k0_pay7 M m) (k0_pay8 M m s) v A

/-- One advance: block `n` is absorbed and the scores of block `n + 1` are taken. -/
def adv (q0 q1 : FVec F S128x1024 .bf16) (X4 : Vec F S8192x256 .bf16) (X5 : Vec F S128x8192 .bf16) (n : ℕ) (s : St F) : St F where
  s0 := k0_pay2 q0 (kblk X4 0 (n + 1))
  s1 := k0_pay2 q1 (kblk X4 1 (n + 1))
  m0 := k0_pay3 q0 (kblk X4 0 (n + 1))
  m1 := k0_pay3 q1 (kblk X4 1 (n + 1))
  A0 := absorb s.M0 s.m0 s.s0 (vblk X5 0 n) s.A0
  A1 := absorb s.M1 s.m1 s.s1 (vblk X5 1 n) s.A1
  M0 := k0_pay6 s.M0 s.m0
  M1 := k0_pay6 s.M1 s.m1

/-- The state after `n` advances. -/
def advs (q0 q1 : FVec F S128x1024 .bf16) (X4 : Vec F S8192x256 .bf16) (X5 : Vec F S128x8192 .bf16) (s : St F) : ℕ → St F
  | 0 => s
  | n + 1 => adv q0 q1 X4 X5 n (advs q0 q1 X4 X5 s n)

abbrev rS : Rect S512x1024 := Rect.unit (s := S512x1024) ![0, 0] S512x1024.size inb_S512x1024_S512x1024_0_0
abbrev rM : Rect S1x1024 := Rect.unit (s := S1x1024) ![0, 0] S1x1024.size inb_S1x1024_S1x1024_0_0
abbrev rA0 : Rect S2x80x1024 := Rect.unit (s := S2x80x1024) ![0, 0, 0] S1x80x1024.size inb_S2x80x1024_S1x80x1024_0_0_0
abbrev rA1 : Rect S2x80x1024 := Rect.unit (s := S2x80x1024) ![1, 0, 0] S1x80x1024.size inb_S2x80x1024_S1x80x1024_1_0_0
abbrev rX0 : Rect S2x1x1024 := Rect.unit (s := S2x1x1024) ![0, 0, 0] S1x1x1024.size inb_S2x1x1024_S1x1x1024_0_0_0
abbrev rX1 : Rect S2x1x1024 := Rect.unit (s := S2x1x1024) ![1, 0, 0] S1x1x1024.size inb_S2x1x1024_S1x1x1024_1_0_0

/-- The buffers hold the state. -/
structure Holds (c : Dev nD) (arg9 : Memref sig .tc .vmem S512x1024 .f32) (arg10 : Memref sig .tc .vmem S512x1024 .f32) (arg11 : Memref sig .tc .vmem S512x1024 .f32) (arg12 : Memref sig .tc .vmem S512x1024 .f32) (arg13 : Memref sig .tc .vmem S1x1024 .f32) (arg14 : Memref sig .tc .vmem S1x1024 .f32) (arg15 : Memref sig .tc .vmem S1x1024 .f32) (arg16 : Memref sig .tc .vmem S1x1024 .f32) (arg17 : Memref sig .tc .vmem S2x80x1024 .f32) (arg18 : Memref sig .tc .vmem S2x1x1024 .f32)
    (g : Scr (F := F) c arg9 arg10 arg11 arg12 arg13 arg14 arg15 arg16 arg17 arg18) (s : St F) : Prop where
  s0 : View.readAt (Elt F) arg9.view rS.toLoadRect g.s0 = s.s0
  s1 : View.readAt (Elt F) arg10.view rS.toLoadRect g.s1 = s.s1
  m0 : View.readAt (Elt F) arg13.view rM.toLoadRect g.s4 = s.m0
  m1 : View.readAt (Elt F) arg14.view rM.toLoadRect g.s5 = s.m1
  A0 : View.readAt (Elt F) arg17.view rA0.toLoadRect g.acc = s.A0
  A1 : View.readAt (Elt F) arg17.view rA1.toLoadRect g.acc = s.A1
  M0 : View.readAt (Elt F) arg18.view rX0.toLoadRect g.mx = s.M0
  M1 : View.readAt (Elt F) arg18.view rX1.toLoadRect g.mx = s.M1

/-! ## Reading back what was stored -/

section
variable {Val : EltTy → Type} {sg : RefSig} {κ : Kind} {sp : Space} {S : Shape} {e : EltTy}

theorem readAt_hit (v : View sg κ sp S e) (f : v.ty.Contents Val) (r : Rect S) (w : r.shape.Idx → Val e) (L : List (View.Piece Val S e)) :
    v.readAt Val r.toLoadRect (v.writes Val f (⟨r, w⟩ :: L)) = w := by
  funext j
  rw [View.readAt_apply]
  exact View.read_writes_cons_emb v f r w L j

theorem readAt_miss (v : View sg κ sp S e) (f : v.ty.Contents Val) (r : Rect S) (w : r.shape.Idx → Val e) (L : List (View.Piece Val S e))
    (B : LoadRect S) (h : LoadRect.disj r B = true) :
    v.readAt Val B (v.writes Val f (⟨r, w⟩ :: L)) = v.readAt Val B (v.writes Val f L) := by
  funext j
  rw [View.readAt_apply, View.readAt_apply]
  exact View.read_writes_cons_miss v f ⟨r, w⟩ L _ (LoadRect.idx_not_mem_of_disj h j)
end

theorem dA01 : LoadRect.disj rA0 rA1.toLoadRect = true := by decide
theorem dA10 : LoadRect.disj rA1 rA0.toLoadRect = true := by decide
theorem dX01 : LoadRect.disj rX0 rX1.toLoadRect = true := by decide
theorem dX10 : LoadRect.disj rX1 rX0.toLoadRect = true := by decide

theorem readAt_kblk {c : Dev nD} (M : Memref sig .tc .vmem S8192x256 .bf16) (f : Buf (Elt F) (M.view.loc (c : Thread nD τ))) (e n : ℕ)
    {off : Fin 2 → ℕ} (inb : ∀ a, off a + ![512, 128] a ≤ S8192x256.size a) (h : off = ![512 * (n % 16), 128 * (e % 2)]) :
    View.readAt (Elt F) M.view (Rect.unit (s := S8192x256) off ![512, 128] inb).toLoadRect f = kblk (M.view.read (Elt F) f) e n := by
  subst h; rfl

theorem readAt_vblk {c : Dev nD} (M : Memref sig .tc .vmem S128x8192 .bf16) (f : Buf (Elt F) (M.view.loc (c : Thread nD τ))) (e n : ℕ)
    {off : Fin 2 → ℕ} (inb : ∀ a, off a + ![64, 512] a ≤ S128x8192.size a) (h : off = ![64 * (e % 2), 512 * (n % 16)]) :
    View.readAt (Elt F) M.view (Rect.unit (s := S128x8192) off ![64, 512] inb).toLoadRect f = vblk (M.view.read (Elt F) f) e n := by
  subst h; rfl

theorem k0_off1_eq : ∀ (k : Fin k0_t1_loop.trips) (j : Fin 4), k0_off1 k (BitVec.ofNat 32 (512 * j.val)) = ![512 * ((4 * k.val + j.val + 1) % 16), 0] := by decide +kernel
theorem k0_off3_eq : ∀ (k : Fin k0_t1_loop.trips) (j : Fin 4), k0_off3 k (BitVec.ofNat 32 (512 * j.val)) = ![512 * ((4 * k.val + j.val + 1) % 16), 128] := by decide +kernel
theorem k0_off4_eq : ∀ (k : Fin k0_t1_loop.trips) (j : Fin 4), k0_off4 k (BitVec.ofNat 32 (512 * j.val)) = ![0, 512 * ((4 * k.val + j.val) % 16)] := by decide +kernel
theorem k0_off2_eq : ∀ (k : Fin k0_t1_loop.trips) (j : Fin 4), k0_off2 k (BitVec.ofNat 32 (512 * j.val)) = ![64, 512 * ((4 * k.val + j.val) % 16)] := by decide +kernel

section
variable (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S128x8192 .bf16) (harg5 : arg5.IsWhole) (arg6 : Memref sig .tc .vmem S256x256 .bf16) (harg6 : arg6.IsWhole) (arg7 : Memref sig .tc .vmem S128x256 .bf16) (harg7 : arg7.IsWhole) (arg8 : Memref sig .tc .vmem S2048x128 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S2x80x1024 .f32) (harg17 : arg17.IsWhole) (arg18 : Memref sig .tc .vmem S2x1x1024 .f32) (harg18 : arg18.IsWhole) (arg19 : Memref sig .tc .vmem S2x80x1024 .f32) (harg19 : arg19.IsWhole) (arg20 : Memref sig .tc .vmem S2x1x1024 .f32) (harg20 : arg20.IsWhole)
    (v4 : FVec F S128x1024 .bf16) (v8 : FVec F S128x1024 .bf16) (v61 : FVec F S80x1024 .f32)
    (f4 : Buf (Elt F) (arg4.view.loc (c : Thread nD τ))) (f5 : Buf (Elt F) (arg5.view.loc (c : Thread nD τ)))

/-- One trip is four advances. -/
theorem trip1_holds (k : Fin k0_t1_loop.trips) (g : Scr (F := F) c arg9 arg10 arg11 arg12 arg13 arg14 arg15 arg16 arg17 arg18) (s : St F)
    (H : Holds c arg9 arg10 arg11 arg12 arg13 arg14 arg15 arg16 arg17 arg18 g s) :
    Holds c arg9 arg10 arg11 arg12 arg13 arg14 arg15 arg16 arg17 arg18 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 k g).1
      (adv v4 v8 (arg4.view.read (Elt F) f4) (arg5.view.read (Elt F) f5) (4 * k.val + 3)
        (adv v4 v8 (arg4.view.read (Elt F) f4) (arg5.view.read (Elt F) f5) (4 * k.val + 2)
          (adv v4 v8 (arg4.view.read (Elt F) f4) (arg5.view.read (Elt F) f5) (4 * k.val + 1)
            (adv v4 v8 (arg4.view.read (Elt F) f4) (arg5.view.read (Elt F) f5) (4 * k.val) s)))) := by
  have hk00 := fun inb => readAt_kblk (off := k0_off1 k 0#32) arg4 f4 0 (4 * k.val + 0 + 1) inb (k0_off1_eq k 0)
  have hk01 := fun inb => readAt_kblk (off := k0_off1 k 512#32) arg4 f4 0 (4 * k.val + 1 + 1) inb (k0_off1_eq k 1)
  have hk02 := fun inb => readAt_kblk (off := k0_off1 k 1024#32) arg4 f4 0 (4 * k.val + 2 + 1) inb (k0_off1_eq k 2)
  have hk03 := fun inb => readAt_kblk (off := k0_off1 k 1536#32) arg4 f4 0 (4 * k.val + 3 + 1) inb (k0_off1_eq k 3)
  have hk10 := fun inb => readAt_kblk (off := k0_off3 k 0#32) arg4 f4 1 (4 * k.val + 0 + 1) inb (k0_off3_eq k 0)
  have hk11 := fun inb => readAt_kblk (off := k0_off3 k 512#32) arg4 f4 1 (4 * k.val + 1 + 1) inb (k0_off3_eq k 1)
  have hk12 := fun inb => readAt_kblk (off := k0_off3 k 1024#32) arg4 f4 1 (4 * k.val + 2 + 1) inb (k0_off3_eq k 2)
  have hk13 := fun inb => readAt_kblk (off := k0_off3 k 1536#32) arg4 f4 1 (4 * k.val + 3 + 1) inb (k0_off3_eq k 3)
  have hv00 := fun inb => readAt_vblk (off := k0_off4 k 0#32) arg5 f5 0 (4 * k.val + 0) inb (k0_off4_eq k 0)
  have hv01 := fun inb => readAt_vblk (off := k0_off4 k 512#32) arg5 f5 0 (4 * k.val + 1) inb (k0_off4_eq k 1)
  have hv02 := fun inb => readAt_vblk (off := k0_off4 k 1024#32) arg5 f5 0 (4 * k.val + 2) inb (k0_off4_eq k 2)
  have hv03 := fun inb => readAt_vblk (off := k0_off4 k 1536#32) arg5 f5 0 (4 * k.val + 3) inb (k0_off4_eq k 3)
  have hv10 := fun inb => readAt_vblk (off := k0_off2 k 0#32) arg5 f5 1 (4 * k.val + 0) inb (k0_off2_eq k 0)
  have hv11 := fun inb => readAt_vblk (off := k0_off2 k 512#32) arg5 f5 1 (4 * k.val + 1) inb (k0_off2_eq k 1)
  have hv12 := fun inb => readAt_vblk (off := k0_off2 k 1024#32) arg5 f5 1 (4 * k.val + 2) inb (k0_off2_eq k 2)
  have hv13 := fun inb => readAt_vblk (off := k0_off2 k 1536#32) arg5 f5 1 (4 * k.val + 3) inb (k0_off2_eq k 3)
  obtain ⟨h1, h2, h3, h4, h5, h6, h7, h8⟩ := H
  unfold trip1
  refine ⟨?_, ?_, ?_, ?_, ?_, ?_, ?_, ?_⟩ <;>
  simp only [readAt_hit, readAt_miss _ _ _ _ _ _ dA01, readAt_miss _ _ _ _ _ _ dA10, readAt_miss _ _ _ _ _ _ dX01, readAt_miss _ _ _ _ _ _ dX10,
    View.readCov_cons_toLoadRect, View.readCov_skip _ _ _ _ _ dA01, View.readCov_skip _ _ _ _ _ dA10,
    View.readCov_skip _ _ _ _ _ dX01, View.readCov_skip _ _ _ _ _ dX10, h1, h2, h3, h4, h5, h6, h7, h8,
    hk00, hk01, hk02, hk03, hk10, hk11, hk12, hk13, hv00, hv01, hv02, hv03, hv10, hv11, hv12, hv13,
    trip1.sl.H10_1, trip1.sl.H11_1, trip1.sl.H11_2, trip1.sl.H12_1, trip1.sl.H12_2, trip1.sl.H13_1, trip1.sl.H14_1, trip1.sl.H15_1, trip1.sl.H15_2,
    trip1.sl.H16_1, trip1.sl.H16_2, trip1.sl.H17_2, trip1.sl.H17_3, trip1.sl.H17_4, trip1.sl.H17_5, trip1.sl.H17_6, trip1.sl.H17_7, trip1.sl.H18_2,
    trip1.sl.H18_3, trip1.sl.H18_4, trip1.sl.H18_5, trip1.sl.H18_6, trip1.sl.H18_7, trip1.sl.H9_1, trip1.sl.arg21, trip1.sl.r, trip1.sl.r_1,
    trip1.sl.r_10, trip1.sl.r_11, trip1.sl.r_12, trip1.sl.r_13, trip1.sl.r_14, trip1.sl.r_15, trip1.sl.r_16, trip1.sl.r_2, trip1.sl.r_3,
    trip1.sl.r_4, trip1.sl.r_5, trip1.sl.r_6, trip1.sl.r_7, trip1.sl.r_8, trip1.sl.r_9, trip1.sl.v1000, trip1.sl.v1007, trip1.sl.v700, trip1.sl.v702,
    trip1.sl.v754, trip1.sl.v770, trip1.sl.v781, trip1.sl.v794, trip1.sl.v796, trip1.sl.v803, trip1.sl.v810, trip1.sl.v833, trip1.sl.v835,
    trip1.sl.v842, trip1.sl.v849, trip1.sl.v860, trip1.sl.v873, trip1.sl.v875, trip1.sl.v882, trip1.sl.v889, trip1.sl.v912, trip1.sl.v914,
    trip1.sl.v921, trip1.sl.v928, trip1.sl.v939, trip1.sl.v952, trip1.sl.v954, trip1.sl.v961, trip1.sl.v968, trip1.sl.v991, trip1.sl.v993, Nat.add_zero] <;>
  (try simp only [adv, absorb, Nat.add_zero, Nat.add_assoc, Nat.reduceAdd, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]) <;> rfl
end

theorem k0_off5_eq : ∀ (k : Fin k0_t2_loop.trips) (j : Fin 4), k0_off5 k (BitVec.ofNat 32 (512 * j.val)) = ![512 * ((4 * k.val + j.val + 1) % 16), 0] := by decide +kernel
theorem k0_off7_eq : ∀ (k : Fin k0_t2_loop.trips) (j : Fin 4), k0_off7 k (BitVec.ofNat 32 (512 * j.val)) = ![512 * ((4 * k.val + j.val + 1) % 16), 128] := by decide +kernel
theorem k0_off8_eq : ∀ (k : Fin k0_t2_loop.trips) (j : Fin 4), k0_off8 k (BitVec.ofNat 32 (512 * j.val)) = ![0, 512 * ((4 * k.val + j.val) % 16)] := by decide +kernel
theorem k0_off6_eq : ∀ (k : Fin k0_t2_loop.trips) (j : Fin 4), k0_off6 k (BitVec.ofNat 32 (512 * j.val)) = ![64, 512 * ((4 * k.val + j.val) % 16)] := by decide +kernel

section
variable (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S128x8192 .bf16) (harg5 : arg5.IsWhole) (arg6 : Memref sig .tc .vmem S256x256 .bf16) (harg6 : arg6.IsWhole) (arg7 : Memref sig .tc .vmem S128x256 .bf16) (harg7 : arg7.IsWhole) (arg8 : Memref sig .tc .vmem S2048x128 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S2x80x1024 .f32) (harg17 : arg17.IsWhole) (arg18 : Memref sig .tc .vmem S2x1x1024 .f32) (harg18 : arg18.IsWhole) (arg19 : Memref sig .tc .vmem S2x80x1024 .f32) (harg19 : arg19.IsWhole) (arg20 : Memref sig .tc .vmem S2x1x1024 .f32) (harg20 : arg20.IsWhole)
    (v354 : FVec F S128x1024 .bf16) (v358 : FVec F S128x1024 .bf16) (v411 : FVec F S80x1024 .f32)
    (f4 : Buf (Elt F) (arg4.view.loc (c : Thread nD τ))) (f5 : Buf (Elt F) (arg5.view.loc (c : Thread nD τ)))

/-- One trip is four advances. -/
theorem trip2_holds (k : Fin k0_t2_loop.trips) (g : Scr (F := F) c arg9 arg10 arg11 arg12 arg13 arg14 arg15 arg16 arg19 arg20) (s : St F)
    (H : Holds c arg9 arg10 arg11 arg12 arg13 arg14 arg15 arg16 arg19 arg20 g s) :
    Holds c arg9 arg10 arg11 arg12 arg13 arg14 arg15 arg16 arg19 arg20 (trip2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 f4 f5 k g).1
      (adv v354 v358 (arg4.view.read (Elt F) f4) (arg5.view.read (Elt F) f5) (4 * k.val + 3)
        (adv v354 v358 (arg4.view.read (Elt F) f4) (arg5.view.read (Elt F) f5) (4 * k.val + 2)
          (adv v354 v358 (arg4.view.read (Elt F) f4) (arg5.view.read (Elt F) f5) (4 * k.val + 1)
            (adv v354 v358 (arg4.view.read (Elt F) f4) (arg5.view.read (Elt F) f5) (4 * k.val) s)))) := by
  have hk00 := fun inb => readAt_kblk (off := k0_off5 k 0#32) arg4 f4 0 (4 * k.val + 0 + 1) inb (k0_off5_eq k 0)
  have hk01 := fun inb => readAt_kblk (off := k0_off5 k 512#32) arg4 f4 0 (4 * k.val + 1 + 1) inb (k0_off5_eq k 1)
  have hk02 := fun inb => readAt_kblk (off := k0_off5 k 1024#32) arg4 f4 0 (4 * k.val + 2 + 1) inb (k0_off5_eq k 2)
  have hk03 := fun inb => readAt_kblk (off := k0_off5 k 1536#32) arg4 f4 0 (4 * k.val + 3 + 1) inb (k0_off5_eq k 3)
  have hk10 := fun inb => readAt_kblk (off := k0_off7 k 0#32) arg4 f4 1 (4 * k.val + 0 + 1) inb (k0_off7_eq k 0)
  have hk11 := fun inb => readAt_kblk (off := k0_off7 k 512#32) arg4 f4 1 (4 * k.val + 1 + 1) inb (k0_off7_eq k 1)
  have hk12 := fun inb => readAt_kblk (off := k0_off7 k 1024#32) arg4 f4 1 (4 * k.val + 2 + 1) inb (k0_off7_eq k 2)
  have hk13 := fun inb => readAt_kblk (off := k0_off7 k 1536#32) arg4 f4 1 (4 * k.val + 3 + 1) inb (k0_off7_eq k 3)
  have hv00 := fun inb => readAt_vblk (off := k0_off8 k 0#32) arg5 f5 0 (4 * k.val + 0) inb (k0_off8_eq k 0)
  have hv01 := fun inb => readAt_vblk (off := k0_off8 k 512#32) arg5 f5 0 (4 * k.val + 1) inb (k0_off8_eq k 1)
  have hv02 := fun inb => readAt_vblk (off := k0_off8 k 1024#32) arg5 f5 0 (4 * k.val + 2) inb (k0_off8_eq k 2)
  have hv03 := fun inb => readAt_vblk (off := k0_off8 k 1536#32) arg5 f5 0 (4 * k.val + 3) inb (k0_off8_eq k 3)
  have hv10 := fun inb => readAt_vblk (off := k0_off6 k 0#32) arg5 f5 1 (4 * k.val + 0) inb (k0_off6_eq k 0)
  have hv11 := fun inb => readAt_vblk (off := k0_off6 k 512#32) arg5 f5 1 (4 * k.val + 1) inb (k0_off6_eq k 1)
  have hv12 := fun inb => readAt_vblk (off := k0_off6 k 1024#32) arg5 f5 1 (4 * k.val + 2) inb (k0_off6_eq k 2)
  have hv13 := fun inb => readAt_vblk (off := k0_off6 k 1536#32) arg5 f5 1 (4 * k.val + 3) inb (k0_off6_eq k 3)
  obtain ⟨h1, h2, h3, h4, h5, h6, h7, h8⟩ := H
  unfold trip2
  refine ⟨?_, ?_, ?_, ?_, ?_, ?_, ?_, ?_⟩ <;>
  simp only [readAt_hit, readAt_miss _ _ _ _ _ _ dA01, readAt_miss _ _ _ _ _ _ dA10, readAt_miss _ _ _ _ _ _ dX01, readAt_miss _ _ _ _ _ _ dX10,
    View.readCov_cons_toLoadRect, View.readCov_skip _ _ _ _ _ dA01, View.readCov_skip _ _ _ _ _ dA10,
    View.readCov_skip _ _ _ _ _ dX01, View.readCov_skip _ _ _ _ _ dX10, h1, h2, h3, h4, h5, h6, h7, h8,
    hk00, hk01, hk02, hk03, hk10, hk11, hk12, hk13, hv00, hv01, hv02, hv03, hv10, hv11, hv12, hv13,
    trip2.sl.H10_1, trip2.sl.H11_1, trip2.sl.H11_2, trip2.sl.H12_1, trip2.sl.H12_2, trip2.sl.H13_1, trip2.sl.H14_1, trip2.sl.H15_1, trip2.sl.H15_2,
    trip2.sl.H16_1, trip2.sl.H16_2, trip2.sl.H19_2, trip2.sl.H19_3, trip2.sl.H19_4, trip2.sl.H19_5, trip2.sl.H19_6, trip2.sl.H19_7, trip2.sl.H20_2,
    trip2.sl.H20_3, trip2.sl.H20_4, trip2.sl.H20_5, trip2.sl.H20_6, trip2.sl.H20_7, trip2.sl.H9_1, trip2.sl.arg21, trip2.sl.r, trip2.sl.r_1,
    trip2.sl.r_10, trip2.sl.r_11, trip2.sl.r_12, trip2.sl.r_13, trip2.sl.r_14, trip2.sl.r_15, trip2.sl.r_16, trip2.sl.r_2, trip2.sl.r_3,
    trip2.sl.r_4, trip2.sl.r_5, trip2.sl.r_6, trip2.sl.r_7, trip2.sl.r_8, trip2.sl.r_9, trip2.sl.v1000, trip2.sl.v1007, trip2.sl.v700, trip2.sl.v702,
    trip2.sl.v754, trip2.sl.v770, trip2.sl.v781, trip2.sl.v794, trip2.sl.v796, trip2.sl.v803, trip2.sl.v810, trip2.sl.v833, trip2.sl.v835,
    trip2.sl.v842, trip2.sl.v849, trip2.sl.v860, trip2.sl.v873, trip2.sl.v875, trip2.sl.v882, trip2.sl.v889, trip2.sl.v912, trip2.sl.v914,
    trip2.sl.v921, trip2.sl.v928, trip2.sl.v939, trip2.sl.v952, trip2.sl.v954, trip2.sl.v961, trip2.sl.v968, trip2.sl.v991, trip2.sl.v993, Nat.add_zero] <;>
  (try simp only [adv, absorb, Nat.add_zero, Nat.add_assoc, Nat.reduceAdd, k0_pay1, k0_pay2, k0_pay3, k0_pay4, k0_pay5, k0_pay6, k0_pay7, k0_pay8, k0_pay9, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128]) <;> rfl
end

end Cert.KernelIdeal.Hand

end
-- ==== Proof.Reads.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.ValueIdxCore
public import Idealize.ShloMosaic.Lib.Pipeline.ReadBack
public import proofs.«01_k».proof.Proof.Tile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point leaves in the output block -/

/-- The context keys of head `e` of the pair. -/
def ckblk (X : Vec F S256x256 .bf16) (e : ℕ) : Vec F S256x128 .bf16 := fun j =>
  X ((Rect.unit (s := S256x256) ![0, 128 * (e % 2)] S256x128.size
    (fun a => by
      match a with
      | ⟨0, _⟩ => show 0 + 256 ≤ 256; omega
      | ⟨1, _⟩ => show 128 * (e % 2) + 128 ≤ 256; omega)).emb j)

/-- The context values of head `e` of the pair. -/
def cvblk (X : Vec F S128x256 .bf16) (e : ℕ) : Vec F S64x256 .bf16 := fun j =>
  X ((Rect.unit (s := S128x256) ![64 * (e % 2), 0] S64x256.size
    (fun a => by
      match a with
      | ⟨0, _⟩ => show 64 * (e % 2) + 64 ≤ 128; omega
      | ⟨1, _⟩ => show 0 + 256 ≤ 256; omega)).emb j)

/-- The queries of tile `t`. -/
def qblk (X : Vec F S2048x256 .bf16) (t : ℕ) : Vec F S1024x256 .bf16 := fun j =>
  X ((Rect.unit (s := S2048x256) ![1024 * (t % 2), 0] S1024x256.size
    (fun a => by
      match a with
      | ⟨0, _⟩ => show 1024 * (t % 2) + 1024 ≤ 2048; omega
      | ⟨1, _⟩ => show 0 + 256 ≤ 256; omega)).emb j)

/-- The state before the first token block: its scores are in flight and the context is absorbed. -/
def init (qb : Vec F S1024x256 .bf16) (X4 : Vec F S8192x256 .bf16) (X6 : Vec F S256x256 .bf16) (X7 : Vec F S128x256 .bf16) : St F where
  s0 := k0_pay2 (k0_pay129 qb) (kblk X4 0 0)
  s1 := k0_pay2 (k0_pay130 qb) (kblk X4 1 0)
  m0 := k0_pay3 (k0_pay129 qb) (kblk X4 0 0)
  m1 := k0_pay3 (k0_pay130 qb) (kblk X4 1 0)
  A0 := k0_pay144 (k0_pay131 qb (ckblk X6 0)) (cvblk X7 0)
  A1 := k0_pay146 (k0_pay145 (k0_pay132 qb (ckblk X6 1)) (cvblk X7 1))
  M0 := k0_pay141 (k0_pay131 qb (ckblk X6 0))
  M1 := k0_pay143 (k0_pay132 qb (ckblk X6 1))

/-- The state once the scores of the last token block are in flight. -/
def last (qb : Vec F S1024x256 .bf16) (X4 : Vec F S8192x256 .bf16) (X5 : Vec F S128x8192 .bf16) (X6 : Vec F S256x256 .bf16) (X7 : Vec F S128x256 .bf16) : St F :=
  adv (k0_pay129 qb) (k0_pay130 qb) X4 X5 14 (adv (k0_pay129 qb) (k0_pay130 qb) X4 X5 13 (adv (k0_pay129 qb) (k0_pay130 qb) X4 X5 12
    (advs (k0_pay129 qb) (k0_pay130 qb) X4 X5 (init qb X4 X6 X7) 12)))

/-- The weighted sums of an accumulator. -/
def top (A : Vec F S1x80x1024 .f32) : Vec F S1x64x1024 .f32 := fun j =>
  A ((Rect.unit (s := S1x80x1024) ![0, 0, 0] S1x64x1024.size (by decide)).emb j)

/-- The sum of the weights of an accumulator. -/
def den (A : Vec F S1x80x1024 .f32) : Vec F S1x1x1024 .f32 := fun j =>
  A ((Rect.unit (s := S1x80x1024) ![0, 64, 0] S1x1x1024.size (by decide)).emb j)

/-- The results of one query tile. -/
def tile (qb : Vec F S1024x256 .bf16) (X4 : Vec F S8192x256 .bf16) (X5 : Vec F S128x8192 .bf16) (X6 : Vec F S256x256 .bf16) (X7 : Vec F S128x256 .bf16) :
    FVec F S1024x128 .bf16 :=
  k0_pay202
    (top (absorb (last qb X4 X5 X6 X7).M0 (last qb X4 X5 X6 X7).m0 (last qb X4 X5 X6 X7).s0 (vblk X5 0 15) (last qb X4 X5 X6 X7).A0))
    (den (absorb (last qb X4 X5 X6 X7).M0 (last qb X4 X5 X6 X7).m0 (last qb X4 X5 X6 X7).s0 (vblk X5 0 15) (last qb X4 X5 X6 X7).A0))
    (top (absorb (last qb X4 X5 X6 X7).M1 (last qb X4 X5 X6 X7).m1 (last qb X4 X5 X6 X7).s1 (vblk X5 1 15) (last qb X4 X5 X6 X7).A1))
    (den (absorb (last qb X4 X5 X6 X7).M1 (last qb X4 X5 X6 X7).m1 (last qb X4 X5 X6 X7).s1 (vblk X5 1 15) (last qb X4 X5 X6 X7).A1))

/-- The output block of a point: its two query tiles. -/
def OUT (X3 : Vec F S2048x256 .bf16) (X4 : Vec F S8192x256 .bf16) (X5 : Vec F S128x8192 .bf16) (X6 : Vec F S256x256 .bf16) (X7 : Vec F S128x256 .bf16) :
    Vec F S2048x128 .bf16 := fun y =>
  tile (qblk X3 ((y 0).val / 1024)) X4 X5 X6 X7 (ValueIdx.ix2 ⟨(y 0).val % 1024, Nat.mod_lt _ (by decide)⟩ (y 1))

section
variable {Val : EltTy → Type} {sg : RefSig} {κ : Kind} {sp : Space} {S : Shape} {e : EltTy}

theorem readCov_sub [∀ e, Nonempty (Val e)] (v : View sg κ sp S e) (r : Rect S) (w : r.shape.Idx → Val e) (L : List (View.Piece Val S e))
    (B : Rect S) (g : B.shape.Idx → r.shape.Idx) (h : ∀ j a, (B.emb j a).val = (r.emb (g j) a).val) :
    v.readCov (⟨r, w⟩ :: L) B.toLoadRect = fun j => w (g j) := by
  rw [View.readCov_eq_canon']
  funext j
  have e : B.toLoadRect.idx j = r.emb (g j) := funext fun a => Fin.ext (h j a)
  rw [e]
  exact View.canon_cons_emb r w L (g j)
end

abbrev rT0 : Rect S2x80x1024 := Rect.unit (s := S2x80x1024) ![0, 0, 0] S1x64x1024.size inb_S2x80x1024_S1x64x1024_0_0_0
abbrev rT1 : Rect S2x80x1024 := Rect.unit (s := S2x80x1024) ![1, 0, 0] S1x64x1024.size inb_S2x80x1024_S1x64x1024_1_0_0
abbrev rD0 : Rect S2x80x1024 := Rect.unit (s := S2x80x1024) ![0, 64, 0] S1x1x1024.size inb_S2x80x1024_S1x1x1024_0_64_0
abbrev rD1 : Rect S2x80x1024 := Rect.unit (s := S2x80x1024) ![1, 64, 0] S1x1x1024.size inb_S2x80x1024_S1x1x1024_1_64_0

theorem dT : LoadRect.disj rA1 rT0.toLoadRect = true := by decide
theorem dD : LoadRect.disj rA1 rD0.toLoadRect = true := by decide

theorem readCov_top (v : View sig .tc .vmem S2x80x1024 .f32) (w : rA0.shape.Idx → Elt F .f32) (w' : rA1.shape.Idx → Elt F .f32) (L : List (View.Piece (Elt F) S2x80x1024 .f32)) :
    v.readCov (⟨rA1, w'⟩ :: ⟨rA0, w⟩ :: L) rT0.toLoadRect = top w :=
  (View.readCov_skip v _ _ _ _ dT).trans <| readCov_sub v rA0 w L rT0 (fun j => (Rect.unit (s := S1x80x1024) ![0, 0, 0] S1x64x1024.size (by decide)).emb j) fun j => by
    refine Fin.forall_fin_succ.mpr ⟨?_, Fin.forall_fin_two.mpr ⟨?_, ?_⟩⟩ <;> simp [Rect.emb, Rect.unit]
theorem readCov_den (v : View sig .tc .vmem S2x80x1024 .f32) (w : rA0.shape.Idx → Elt F .f32) (w' : rA1.shape.Idx → Elt F .f32) (L : List (View.Piece (Elt F) S2x80x1024 .f32)) :
    v.readCov (⟨rA1, w'⟩ :: ⟨rA0, w⟩ :: L) rD0.toLoadRect = den w :=
  (View.readCov_skip v _ _ _ _ dD).trans <| readCov_sub v rA0 w L rD0 (fun j => (Rect.unit (s := S1x80x1024) ![0, 64, 0] S1x1x1024.size (by decide)).emb j) fun j => by
    refine Fin.forall_fin_succ.mpr ⟨?_, Fin.forall_fin_two.mpr ⟨?_, ?_⟩⟩ <;> simp [Rect.emb, Rect.unit]
theorem readCov_top1 (v : View sig .tc .vmem S2x80x1024 .f32) (w : rA1.shape.Idx → Elt F .f32) (L : List (View.Piece (Elt F) S2x80x1024 .f32)) :
    v.readCov (⟨rA1, w⟩ :: L) rT1.toLoadRect = top w :=
  readCov_sub v rA1 w L rT1 (fun j => (Rect.unit (s := S1x80x1024) ![0, 0, 0] S1x64x1024.size (by decide)).emb j) fun j => by
    refine Fin.forall_fin_succ.mpr ⟨?_, Fin.forall_fin_two.mpr ⟨?_, ?_⟩⟩ <;> simp [Rect.emb, Rect.unit]
theorem readCov_den1 (v : View sig .tc .vmem S2x80x1024 .f32) (w : rA1.shape.Idx → Elt F .f32) (L : List (View.Piece (Elt F) S2x80x1024 .f32)) :
    v.readCov (⟨rA1, w⟩ :: L) rD1.toLoadRect = den w :=
  readCov_sub v rA1 w L rD1 (fun j => (Rect.unit (s := S1x80x1024) ![0, 64, 0] S1x1x1024.size (by decide)).emb j) fun j => by
    refine Fin.forall_fin_succ.mpr ⟨?_, Fin.forall_fin_two.mpr ⟨?_, ?_⟩⟩ <;> simp [Rect.emb, Rect.unit]

section
variable (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S128x8192 .bf16) (harg5 : arg5.IsWhole) (arg6 : Memref sig .tc .vmem S256x256 .bf16) (harg6 : arg6.IsWhole) (arg7 : Memref sig .tc .vmem S128x256 .bf16) (harg7 : arg7.IsWhole) (arg8 : Memref sig .tc .vmem S2048x128 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S2x80x1024 .f32) (harg17 : arg17.IsWhole) (arg18 : Memref sig .tc .vmem S2x1x1024 .f32) (harg18 : arg18.IsWhole) (arg19 : Memref sig .tc .vmem S2x80x1024 .f32) (harg19 : arg19.IsWhole) (arg20 : Memref sig .tc .vmem S2x1x1024 .f32) (harg20 : arg20.IsWhole)
    (v4 : FVec F S128x1024 .bf16) (v8 : FVec F S128x1024 .bf16) (v61 : FVec F S80x1024 .f32)
    (f4 : Buf (Elt F) (arg4.view.loc (c : Thread nD τ))) (f5 : Buf (Elt F) (arg5.view.loc (c : Thread nD τ)))

/-- The three trips are twelve advances from what the buffers hold before them. -/
theorem at1_holds (g : Scr (F := F) c arg9 arg10 arg11 arg12 arg13 arg14 arg15 arg16 arg17 arg18) :
    Holds c arg9 arg10 arg11 arg12 arg13 arg14 arg15 arg16 arg17 arg18 (at1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 g (2 + 1))
      (advs v4 v8 (arg4.view.read (Elt F) f4) (arg5.view.read (Elt F) f5)
        ⟨View.readAt (Elt F) arg9.view rS.toLoadRect g.s0, View.readAt (Elt F) arg10.view rS.toLoadRect g.s1,
          View.readAt (Elt F) arg13.view rM.toLoadRect g.s4, View.readAt (Elt F) arg14.view rM.toLoadRect g.s5,
          View.readAt (Elt F) arg17.view rA0.toLoadRect g.acc, View.readAt (Elt F) arg17.view rA1.toLoadRect g.acc,
          View.readAt (Elt F) arg18.view rX0.toLoadRect g.mx, View.readAt (Elt F) arg18.view rX1.toLoadRect g.mx⟩ 12) := by
  have step : ∀ (k : Fin k0_t1_loop.trips) (s : St F), Holds c arg9 arg10 arg11 arg12 arg13 arg14 arg15 arg16 arg17 arg18 (at1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 g k.val) s → Holds c arg9 arg10 arg11 arg12 arg13 arg14 arg15 arg16 arg17 arg18 (at1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 g (k.val + 1)) _ :=
    fun k s h => by
      rw [at1_succ]
      exact trip1_holds c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 k _ s h
  exact step ⟨2, by decide⟩ _ (step ⟨1, by decide⟩ _ (step ⟨0, by decide⟩ _ ⟨rfl, rfl, rfl, rfl, rfl, rfl, rfl, rfl⟩))
end

section
variable (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S128x8192 .bf16) (harg5 : arg5.IsWhole) (arg6 : Memref sig .tc .vmem S256x256 .bf16) (harg6 : arg6.IsWhole) (arg7 : Memref sig .tc .vmem S128x256 .bf16) (harg7 : arg7.IsWhole) (arg8 : Memref sig .tc .vmem S2048x128 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S2x80x1024 .f32) (harg17 : arg17.IsWhole) (arg18 : Memref sig .tc .vmem S2x1x1024 .f32) (harg18 : arg18.IsWhole) (arg19 : Memref sig .tc .vmem S2x80x1024 .f32) (harg19 : arg19.IsWhole) (arg20 : Memref sig .tc .vmem S2x1x1024 .f32) (harg20 : arg20.IsWhole)
    (v354 : FVec F S128x1024 .bf16) (v358 : FVec F S128x1024 .bf16) (v411 : FVec F S80x1024 .f32)
    (f4 : Buf (Elt F) (arg4.view.loc (c : Thread nD τ))) (f5 : Buf (Elt F) (arg5.view.loc (c : Thread nD τ)))

/-- The three trips are twelve advances from what the buffers hold before them. -/
theorem at2_holds (g : Scr (F := F) c arg9 arg10 arg11 arg12 arg13 arg14 arg15 arg16 arg19 arg20) :
    Holds c arg9 arg10 arg11 arg12 arg13 arg14 arg15 arg16 arg19 arg20 (at2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 f4 f5 g (2 + 1))
      (advs v354 v358 (arg4.view.read (Elt F) f4) (arg5.view.read (Elt F) f5)
        ⟨View.readAt (Elt F) arg9.view rS.toLoadRect g.s0, View.readAt (Elt F) arg10.view rS.toLoadRect g.s1,
          View.readAt (Elt F) arg13.view rM.toLoadRect g.s4, View.readAt (Elt F) arg14.view rM.toLoadRect g.s5,
          View.readAt (Elt F) arg19.view rA0.toLoadRect g.acc, View.readAt (Elt F) arg19.view rA1.toLoadRect g.acc,
          View.readAt (Elt F) arg20.view rX0.toLoadRect g.mx, View.readAt (Elt F) arg20.view rX1.toLoadRect g.mx⟩ 12) := by
  have step : ∀ (k : Fin k0_t2_loop.trips) (s : St F), Holds c arg9 arg10 arg11 arg12 arg13 arg14 arg15 arg16 arg19 arg20 (at2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 f4 f5 g k.val) s → Holds c arg9 arg10 arg11 arg12 arg13 arg14 arg15 arg16 arg19 arg20 (at2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 f4 f5 g (k.val + 1)) _ :=
    fun k s h => by
      rw [at2_succ]
      exact trip2_holds c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v354 v358 v411 f4 f5 k _ s h
  exact step ⟨2, by decide⟩ _ (step ⟨1, by decide⟩ _ (step ⟨0, by decide⟩ _ ⟨rfl, rfl, rfl, rfl, rfl, rfl, rfl, rfl⟩))
end

section
variable (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S128x8192 .bf16) (harg5 : arg5.IsWhole) (arg6 : Memref sig .tc .vmem S256x256 .bf16) (harg6 : arg6.IsWhole) (arg7 : Memref sig .tc .vmem S128x256 .bf16) (harg7 : arg7.IsWhole) (arg8 : Memref sig .tc .vmem S2048x128 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S2x80x1024 .f32) (harg17 : arg17.IsWhole) (arg18 : Memref sig .tc .vmem S2x1x1024 .f32) (harg18 : arg18.IsWhole) (arg19 : Memref sig .tc .vmem S2x80x1024 .f32) (harg19 : arg19.IsWhole) (arg20 : Memref sig .tc .vmem S2x1x1024 .f32) (harg20 : arg20.IsWhole)
    (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ)))

theorem readAt_qblk {off : Fin 2 → ℕ} (t : ℕ) (inb : ∀ a, off a + ![1024, 256] a ≤ S2048x256.size a) (h : off = ![1024 * (t % 2), 0]) :
    View.readAt (Elt F) arg3.view (Rect.unit (s := S2048x256) off ![1024, 256] inb).toLoadRect f3 = qblk (arg3.view.read (Elt F) f3) t := by
  subst h; rfl
theorem readAt_ckblk {off : Fin 2 → ℕ} (e : ℕ) (inb : ∀ a, off a + ![256, 128] a ≤ S256x256.size a) (h : off = ![0, 128 * (e % 2)]) :
    View.readAt (Elt F) arg6.view (Rect.unit (s := S256x256) off ![256, 128] inb).toLoadRect f6 = ckblk (arg6.view.read (Elt F) f6) e := by
  subst h; rfl
theorem readAt_cvblk {off : Fin 2 → ℕ} (e : ℕ) (inb : ∀ a, off a + ![64, 256] a ≤ S128x256.size a) (h : off = ![64 * (e % 2), 0]) :
    View.readAt (Elt F) arg7.view (Rect.unit (s := S128x256) off ![64, 256] inb).toLoadRect f7 = cvblk (arg7.view.read (Elt F) f7) e := by
  subst h; rfl

set_option maxHeartbeats 4000000 in
/-- The pieces a point stores are its two tiles' results. -/
theorem body_pieces : (bodyRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f3 f4 f5 f6 f7 f8 f9 f10 f11 f12 f13 f14 f15 f16 f17 f18 f19 f20).1
    = [⟨Rect.unit (s := S2048x128) ![1024, 0] S1024x128.size inb_S2048x128_S1024x128_1024_0,
        tile (qblk (arg3.view.read (Elt F) f3) 1) (arg4.view.read (Elt F) f4) (arg5.view.read (Elt F) f5) (arg6.view.read (Elt F) f6) (arg7.view.read (Elt F) f7)⟩,
       ⟨Rect.unit (s := S2048x128) ![0, 0] S1024x128.size inb_S2048x128_S1024x128_0_0,
        tile (qblk (arg3.view.read (Elt F) f3) 0) (arg4.view.read (Elt F) f4) (arg5.view.read (Elt F) f5) (arg6.view.read (Elt F) f6) (arg7.view.read (Elt F) f7)⟩] := by
  have h1 := fun v4 v8 v61 g => at1_holds c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 g
  have h2 := fun v4 v8 v61 g => at2_holds c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v8 v61 f4 f5 g
  have a0_0 := fun inb => readAt_kblk arg4 f4 0 0 (off := ![0, 0]) inb rfl
  have a0_13 := fun inb => readAt_kblk arg4 f4 0 13 (off := ![6656, 0]) inb rfl
  have a0_14 := fun inb => readAt_kblk arg4 f4 0 14 (off := ![7168, 0]) inb rfl
  have a0_15 := fun inb => readAt_kblk arg4 f4 0 15 (off := ![7680, 0]) inb rfl
  have b0_12 := fun inb => readAt_vblk arg5 f5 0 12 (off := ![0, 6144]) inb rfl
  have b0_13 := fun inb => readAt_vblk arg5 f5 0 13 (off := ![0, 6656]) inb rfl
  have b0_14 := fun inb => readAt_vblk arg5 f5 0 14 (off := ![0, 7168]) inb rfl
  have b0_15 := fun inb => readAt_vblk arg5 f5 0 15 (off := ![0, 7680]) inb rfl
  have a1_0 := fun inb => readAt_kblk arg4 f4 1 0 (off := ![0, 128]) inb rfl
  have a1_13 := fun inb => readAt_kblk arg4 f4 1 13 (off := ![6656, 128]) inb rfl
  have a1_14 := fun inb => readAt_kblk arg4 f4 1 14 (off := ![7168, 128]) inb rfl
  have a1_15 := fun inb => readAt_kblk arg4 f4 1 15 (off := ![7680, 128]) inb rfl
  have b1_12 := fun inb => readAt_vblk arg5 f5 1 12 (off := ![64, 6144]) inb rfl
  have b1_13 := fun inb => readAt_vblk arg5 f5 1 13 (off := ![64, 6656]) inb rfl
  have b1_14 := fun inb => readAt_vblk arg5 f5 1 14 (off := ![64, 7168]) inb rfl
  have b1_15 := fun inb => readAt_vblk arg5 f5 1 15 (off := ![64, 7680]) inb rfl
  have q0 := fun inb => readAt_qblk c arg3 f3 (off := ![0, 0]) 0 inb rfl
  have q1 := fun inb => readAt_qblk c arg3 f3 (off := ![1024, 0]) 1 inb rfl
  have c0 := fun inb => readAt_ckblk c arg6 f6 (off := ![0, 0]) 0 inb rfl
  have c1 := fun inb => readAt_ckblk c arg6 f6 (off := ![0, 128]) 1 inb rfl
  have w0 := fun inb => readAt_cvblk c arg7 f7 (off := ![0, 0]) 0 inb rfl
  have w1 := fun inb => readAt_cvblk c arg7 f7 (off := ![64, 0]) 1 inb rfl
  unfold bodyRun
  simp only [
    bodyRun.sl.H10_1, bodyRun.sl.H10_1_1, bodyRun.sl.H10_1_2, bodyRun.sl.H10_2, bodyRun.sl.H11_1, bodyRun.sl.H11_1_1, bodyRun.sl.H11_2,
    bodyRun.sl.H11_2_1, bodyRun.sl.H12_1, bodyRun.sl.H12_1_1, bodyRun.sl.H12_2, bodyRun.sl.H12_2_1, bodyRun.sl.H13_1, bodyRun.sl.H13_1_1,
    bodyRun.sl.H13_1_2, bodyRun.sl.H13_2, bodyRun.sl.H14_1, bodyRun.sl.H14_1_1, bodyRun.sl.H14_1_2, bodyRun.sl.H14_2, bodyRun.sl.H15_1,
    bodyRun.sl.H15_1_1, bodyRun.sl.H15_2, bodyRun.sl.H15_2_1, bodyRun.sl.H16_1, bodyRun.sl.H16_1_1, bodyRun.sl.H16_2, bodyRun.sl.H16_2_1,
    bodyRun.sl.H17_2, bodyRun.sl.H17_2_1, bodyRun.sl.H17_3, bodyRun.sl.H17_4, bodyRun.sl.H17_5, bodyRun.sl.H17_6, bodyRun.sl.H17_7, bodyRun.sl.H17_8,
    bodyRun.sl.H18_2, bodyRun.sl.H18_2_1, bodyRun.sl.H18_3, bodyRun.sl.H18_4, bodyRun.sl.H18_5, bodyRun.sl.H18_6, bodyRun.sl.H18_7, bodyRun.sl.H18_8,
    bodyRun.sl.H19_2, bodyRun.sl.H19_2_1, bodyRun.sl.H19_3, bodyRun.sl.H19_4, bodyRun.sl.H19_5, bodyRun.sl.H19_6, bodyRun.sl.H19_7, bodyRun.sl.H19_8,
    bodyRun.sl.H20_2, bodyRun.sl.H20_2_1, bodyRun.sl.H20_3, bodyRun.sl.H20_4, bodyRun.sl.H20_5, bodyRun.sl.H20_6, bodyRun.sl.H20_7, bodyRun.sl.H9_1,
    bodyRun.sl.H9_1_1, bodyRun.sl.H9_1_2, bodyRun.sl.H9_2, bodyRun.sl.r, bodyRun.sl.r_1, bodyRun.sl.r_10, bodyRun.sl.r_11, bodyRun.sl.r_12,
    bodyRun.sl.r_13, bodyRun.sl.r_14, bodyRun.sl.r_15, bodyRun.sl.r_16, bodyRun.sl.r_17, bodyRun.sl.r_18, bodyRun.sl.r_19, bodyRun.sl.r_2,
    bodyRun.sl.r_20, bodyRun.sl.r_21, bodyRun.sl.r_22, bodyRun.sl.r_23, bodyRun.sl.r_24, bodyRun.sl.r_25, bodyRun.sl.r_26, bodyRun.sl.r_27,
    bodyRun.sl.r_28, bodyRun.sl.r_29, bodyRun.sl.r_3, bodyRun.sl.r_30, bodyRun.sl.r_31, bodyRun.sl.r_32, bodyRun.sl.r_33, bodyRun.sl.r_34,
    bodyRun.sl.r_35, bodyRun.sl.r_4, bodyRun.sl.r_5, bodyRun.sl.r_6, bodyRun.sl.r_7, bodyRun.sl.r_8, bodyRun.sl.r_9, bodyRun.sl.v, bodyRun.sl.v112,
    bodyRun.sl.v114, bodyRun.sl.v121, bodyRun.sl.v127, bodyRun.sl.v148, bodyRun.sl.v150, bodyRun.sl.v157, bodyRun.sl.v163, bodyRun.sl.v184,
    bodyRun.sl.v186, bodyRun.sl.v193, bodyRun.sl.v199, bodyRun.sl.v220, bodyRun.sl.v222, bodyRun.sl.v229, bodyRun.sl.v235, bodyRun.sl.v256,
    bodyRun.sl.v258, bodyRun.sl.v265, bodyRun.sl.v271, bodyRun.sl.v284, bodyRun.sl.v291, bodyRun.sl.v297, bodyRun.sl.v308, bodyRun.sl.v310,
    bodyRun.sl.v317, bodyRun.sl.v323, bodyRun.sl.v334, bodyRun.sl.v336, bodyRun.sl.v340, bodyRun.sl.v342, bodyRun.sl.v426, bodyRun.sl.v428,
    bodyRun.sl.v435, bodyRun.sl.v441, bodyRun.sl.v462, bodyRun.sl.v464, bodyRun.sl.v471, bodyRun.sl.v477, bodyRun.sl.v498, bodyRun.sl.v500,
    bodyRun.sl.v507, bodyRun.sl.v513, bodyRun.sl.v534, bodyRun.sl.v536, bodyRun.sl.v543, bodyRun.sl.v549, bodyRun.sl.v570, bodyRun.sl.v572,
    bodyRun.sl.v579, bodyRun.sl.v585, bodyRun.sl.v606, bodyRun.sl.v608, bodyRun.sl.v615, bodyRun.sl.v621, bodyRun.sl.v634, bodyRun.sl.v641,
    bodyRun.sl.v647, bodyRun.sl.v658, bodyRun.sl.v660, bodyRun.sl.v667, bodyRun.sl.v673, bodyRun.sl.v684, bodyRun.sl.v686, bodyRun.sl.v690,
    bodyRun.sl.v692, bodyRun.sl.v76, bodyRun.sl.v78, bodyRun.sl.v85, bodyRun.sl.v91, bodyRun.sl.v_1,
    a0_0, a0_13, a0_14, a0_15, b0_12, b0_13, b0_14, b0_15, a1_0, a1_13, a1_14, a1_15, b1_12, b1_13, b1_14, b1_15, q0, q1, c0, c1, w0, w1]
  simp only [(h1 _ _ _ _).s0, (h1 _ _ _ _).s1, (h1 _ _ _ _).m0, (h1 _ _ _ _).m1, (h1 _ _ _ _).A0, (h1 _ _ _ _).A1, (h1 _ _ _ _).M0, (h1 _ _ _ _).M1,
    (h2 _ _ _ _).s0, (h2 _ _ _ _).s1, (h2 _ _ _ _).m0, (h2 _ _ _ _).m1, (h2 _ _ _ _).A0, (h2 _ _ _ _).A1, (h2 _ _ _ _).M0, (h2 _ _ _ _).M1,
    readAt_hit, readAt_miss _ _ _ _ _ _ dA01, readAt_miss _ _ _ _ _ _ dA10, readAt_miss _ _ _ _ _ _ dX01, readAt_miss _ _ _ _ _ _ dX10,
    View.readCov_cons_toLoadRect, View.readCov_skip _ _ _ _ _ dA01, View.readCov_skip _ _ _ _ _ dA10,
    View.readCov_skip _ _ _ _ _ dX01, View.readCov_skip _ _ _ _ _ dX10]
  clear h1 h2
  rw [readCov_top, readCov_den, readCov_top1, readCov_den1, readCov_top, readCov_den, readCov_top1, readCov_den1]
  refine congrArg₂ List.cons ?_ (congrArg₂ List.cons ?_ rfl)
  all_goals refine congrArg (Sigma.mk _) ?_
  all_goals simp only [tile, last, adv, absorb, init, k0_pay1, k0_pay2, k0_pay3, k0_pay4, k0_pay5, k0_pay6, k0_pay7, k0_pay8, k0_pay9, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276]
  all_goals first | rfl | fail "bad"
end

end Cert.KernelIdeal.Hand

end
-- ==== Proof.Run.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WritesUnit
public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The run of the attention call -/

/-- The output block as it reads after one grid point. -/
theorem read_pieces {v : View sig .tc .vmem S2048x128 .bf16} (f : v.ref.ty.Contents (Elt F)) (X3 : Vec F S2048x256 .bf16) (X4 : Vec F S8192x256 .bf16) (X5 : Vec F S128x8192 .bf16) (X6 : Vec F S256x256 .bf16) (X7 : Vec F S128x256 .bf16) :
    v.read (Elt F) (v.writes (Elt F) f
      [⟨Rect.unit (s := S2048x128) ![1024, 0] S1024x128.size inb_S2048x128_S1024x128_1024_0, tile (qblk X3 1) X4 X5 X6 X7⟩,
       ⟨Rect.unit (s := S2048x128) ![0, 0] S1024x128.size inb_S2048x128_S1024x128_0_0, tile (qblk X3 0) X4 X5 X6 X7⟩])
      = OUT X3 X4 X5 X6 X7 := by
  funext y
  have hy : (y 0).val < 2048 := (y 0).isLt
  unfold OUT
  by_cases h : (y 0).val < 1024
  · rw [View.read_writes_cons_rows_of_not_mem v f inb_S2048x128_S1024x128_1024_0 _ _ y (o := 1024) (W := 1024) rfl rfl (Or.inl h),
      View.read_writes_cons_rows_of_mem v f inb_S2048x128_S1024x128_0_0 _ _ y
        (ValueIdx.ix2 ⟨(y 0).val % 1024, Nat.mod_lt _ (by decide)⟩ (y 1)) (o := 0) rfl
        (by show (y 0).val = 0 + (y 0).val % 1024; omega) rfl,
      show (y 0).val / 1024 = 0 by omega]
  · rw [View.read_writes_cons_rows_of_mem v f inb_S2048x128_S1024x128_1024_0 _ _ y
        (ValueIdx.ix2 ⟨(y 0).val % 1024, Nat.mod_lt _ (by decide)⟩ (y 1)) (o := 1024) rfl
        (by show (y 0).val = 1024 + (y 0).val % 1024; omega) rfl,
      show (y 0).val / 1024 = 1 by omega]

/-- One grid point's body over any staging buffers: the five inputs kept, the output block at `OUT` of them. -/
theorem body_sound (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S128x8192 .bf16) (harg5 : arg5.IsWhole) (arg6 : Memref sig .tc .vmem S256x256 .bf16) (harg6 : arg6.IsWhole) (arg7 : Memref sig .tc .vmem S128x256 .bf16) (harg7 : arg7.IsWhole) (arg8 : Memref sig .tc .vmem S2048x128 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S2x80x1024 .f32) (harg17 : arg17.IsWhole) (arg18 : Memref sig .tc .vmem S2x1x1024 .f32) (harg18 : arg18.IsWhole) (arg19 : Memref sig .tc .vmem S2x80x1024 .f32) (harg19 : arg19.IsWhole) (arg20 : Memref sig .tc .vmem S2x1x1024 .f32) (harg20 : arg20.IsWhole) (X3 : Vec F S2048x256 .bf16) (X4 : Vec F S8192x256 .bf16) (X5 : Vec F S128x8192 .bf16) (X6 : Vec F S256x256 .bf16) (X7 : Vec F S128x256 .bf16) :
    (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X)) : sProp 𝕄)
      ⊢ wp frame (wpE (defs₀ (F := F)) Variants.none (c : Thread nD τ) none) Set.univ (cc0_flash i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (OUT X3 X4 X5 X6 X7) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X))) := by
  unfold owns
  iintro ⟨⟨%f3, %h3, H3⟩, ⟨%f4, %h4, H4⟩, ⟨%f5, %h5, H5⟩, ⟨%f6, %h6, H6⟩, ⟨%f7, %h7, H7⟩, ⟨%Y8, %f8, %h8, H8⟩, ⟨%Y9, %f9, %h9, H9⟩, ⟨%Y10, %f10, %h10, H10⟩, ⟨%Y11, %f11, %h11, H11⟩, ⟨%Y12, %f12, %h12, H12⟩, ⟨%Y13, %f13, %h13, H13⟩, ⟨%Y14, %f14, %h14, H14⟩, ⟨%Y15, %f15, %h15, H15⟩, ⟨%Y16, %f16, %h16, H16⟩, ⟨%Y17, %f17, %h17, H17⟩, ⟨%Y18, %f18, %h18, H18⟩, ⟨%Y19, %f19, %h19, H19⟩, ⟨%Y20, %f20, %h20, H20⟩⟩
  iapply (wp_wand_r Idealize.ShloMosaic.frame (wpE (defs₀ (F := F)) Variants.none (c : Thread nD τ) none) Set.univ)
  isplitl [H3 H4 H5 H6 H7 H8 H9 H10 H11 H12 H13 H14 H15 H16 H17 H18 H19 H20]
  · iapply (bodyRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f3 f4 f5 f6 f7 f8 f9 f10 f11 f12 f13 f14 f15 f16 f17 f18 f19 f20).2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iintro %u ⟨H3, H4, H5, H6, H7, H8, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩⟩
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; rw [body_pieces, read_pieces, h3, h4, h5, h6, h7]
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  isplitl [H18]
  · iexists _; iexists _; isplitr; swap; · iexact H18
    ipureintro; rfl
  isplitl [H19]
  · iexists _; iexists _; isplitr; swap; · iexact H19
    ipureintro; rfl
  iexists _; iexists _; isplitr; swap; · iexact H20
  ipureintro; rfl

variable (m : (ℓ : Loc nD τ sig) → Buf (Elt F) ℓ) (ρ : Dev nD → PrngReg)

/-- What the call writes to its output block at grid point `t`. -/
def outAt (c : Dev nD) (t : Fin cfg0.N) : Vec F S2048x128 .bf16 := OUT (X0_0 m c t) (X0_1 m c t) (X0_2 m c t) (iblk m c 3 t) (iblk m c 4 t)

/-- The proof data of the call: its arrays as launched, the inputs' buffers kept, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = X0_0 m c t :=
  before0_0_of m (dats m 0 c) (A_eq m c 0) (fun _ => by dsimp only [dats]) t d
theorem before0_1 (c : Dev nD) (t : Fin cfg0.N) (d) : (dats m 0 c).before 1 t d = X0_1 m c t :=
  before0_1_of m (dats m 0 c) (A_eq m c 1) (fun _ => by dsimp only [dats]) t d
theorem before0_2 (c : Dev nD) (t : Fin cfg0.N) (d) : (dats m 0 c).before 2 t d = X0_2 m c t :=
  before0_2_of m (dats m 0 c) (A_eq m c 2) (fun _ => by dsimp only [dats]) t d
theorem before0_3 (c : Dev nD) (t : Fin cfg0.N) (d) : (dats m 0 c).before 3 t d = iblk m c 3 t :=
  before0_3_of m (dats m 0 c) (A_eq m c 3) (fun _ => by dsimp only [dats]) t d
theorem before0_4 (c : Dev nD) (t : Fin cfg0.N) (d) : (dats m 0 c).before 4 t d = iblk m c 4 t :=
  before0_4_of m (dats m 0 c) (A_eq m c 4) (fun _ => by dsimp only [dats]) t d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))

/-- What the body gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl, show (dats m 0 c).owed t.succ = 0 from rfl]
  iintro ⟨⟨⟨⟨%a0, S0⟩, ⟨%a1, S1⟩, ⟨%a2, S2⟩, ⟨%a3, S3⟩, ⟨%a4, S4⟩, ⟨%a5, S5⟩, ⟨%a6, S6⟩, ⟨%a7, S7⟩, ⟨%a8, S8⟩, ⟨%a9, S9⟩, ⟨%a10, S10⟩, ⟨%a11, S11⟩⟩, Hg⟩, HW, ⟨%d0, H0⟩, ⟨%d1, H1⟩, ⟨%d2, H2⟩, ⟨%d3, H3⟩, ⟨%d4, H4⟩, ⟨%d5, H5⟩⟩
  iapply (wp_wand_r Idealize.ShloMosaic.frame (wpE (defs₀ (F := F)) Variants.none (c : Thread nD τ) none) Set.univ)
  isplitl [H0 H1 H2 H3 H4 H5 S0 S1 S2 S3 S4 S5 S6 S7 S8 S9 S10 S11]
  · iapply (body_sound c (grid0.coords t) (st0_0 t) _ (st0_1 t) _ (st0_2 t) _ (st0_3 t) _ (st0_4 t) _ (st0_5 t) _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (X0_0 m c t) (X0_1 m c t) (X0_2 m c t) (iblk m c 3 t) (iblk m c 4 t))
    simp only [owns_whole]
    isplitl [H0]; · iexact H0
    isplitl [H1]; · iexact H1
    isplitl [H2]; · iexact H2
    isplitl [H3]; · iexact H3
    isplitl [H4]; · iexact H4
    isplitl [H5]; · iexists _; iexact H5
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    iexists _; iexact S11
  simp only [owns_whole]
  iintro %u ⟨H0, H1, H2, H3, H4, H5, S0, S1, S2, S3, S4, S5, S6, S7, S8, S9, S10, S11⟩
  isplitl [S0 S1 S2 S3 S4 S5 S6 S7 S8 S9 S10 S11 Hg]
  · isplitl [S0 S1 S2 S3 S4 S5 S6 S7 S8 S9 S10 S11]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    iexact Hg
  isplitl [HW]; · iexact HW
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The call runs: every array ends at what the grid points write to it, and every semaphore reads zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl) (howed := fun _ _ => rfl)
    (V := V m) (hmain := hmain m Variants.none) (hA := A_eq m) (hΦ := fun _ _ => rfl)

/-- The frame, at any arithmetic. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).1 0).trans (((dats m 0 c).arrAt_in 0 rfl _).trans (A_eq m c 0)),
       ((h.1 c).1 3).trans (((dats m 0 c).arrAt_in 3 rfl _).trans (A_eq m c 3)),
       ((h.1 c).1 4).trans (((dats m 0 c).arrAt_in 4 rfl _).trans (A_eq m c 4))⟩, h.2⟩) (run_main m ρ)

end Cert.KernelIdeal.Hand

end
-- ==== Proof.Softmax.lean ====
module

public import Idealize.ShloMosaic.PureOps.Ideal
public import Idealize.ShloMosaic.PureOps.Ideal.Laws
public import Idealize.ShloMosaic.Lib.IdealHost

@[expose] public section

noncomputable section

/-! Softmax sums taken against any real reference point: the arithmetic of a running softmax over extended reals. -/

namespace Cert.Softmax

open Idealize.ShloMosaic
open scoped BigOperators

/-- The weight of token `t` with score `s t`, taken against `μ`: two to the power of the difference. -/
def wt (s : ℕ → ℝ) (μ : ℝ) (t : ℕ) : ℝ := (2 : ℝ) ^ (s t - μ)

theorem wt_pos (s : ℕ → ℝ) (μ : ℝ) (t : ℕ) : 0 < wt s μ t := Real.rpow_pos_of_pos two_pos _

theorem exp2_sub (a b : ℝ) : Ideal.exp2 ((a : EReal) - (b : EReal)) = (((2 : ℝ) ^ (a - b) : ℝ) : EReal) := by
  rw [← EReal.coe_sub]; rfl

/-- The weighted sum of the values `v` over the tokens `P`. -/
def acc (s : ℕ → ℝ) (v : ℕ → EReal) (P : Finset ℕ) (μ : ℝ) : EReal := ∑ t ∈ P, v t * (wt s μ t : EReal)

theorem coe_mul_sum {ι : Type} (c : ℝ) (hc : 0 ≤ c) (P : Finset ι) (f : ι → EReal) :
    (c : EReal) * ∑ t ∈ P, f t = ∑ t ∈ P, (c : EReal) * f t := by
  classical
  induction P using Finset.induction_on with
  | empty => simp
  | insert a P h ih =>
    rw [Finset.sum_insert h, Finset.sum_insert h, EReal.left_distrib_of_nonneg_of_ne_top (EReal.coe_nonneg.mpr hc) (EReal.coe_ne_top c), ih]

theorem coe_sum {ι : Type} (P : Finset ι) (f : ι → ℝ) : ((∑ t ∈ P, f t : ℝ) : EReal) = ∑ t ∈ P, (f t : EReal) := by
  classical
  induction P using Finset.induction_on with
  | empty => simp
  | insert a P h ih => rw [Finset.sum_insert h, Finset.sum_insert h, EReal.coe_add, ih]

/-- Moving the reference point scales the sum. -/
theorem rescale (s : ℕ → ℝ) (v : ℕ → EReal) (P : Finset ℕ) (μ ν : ℝ) :
    (((2 : ℝ) ^ (μ - ν) : ℝ) : EReal) * acc s v P μ = acc s v P ν := by
  unfold acc
  rw [coe_mul_sum _ (Real.rpow_pos_of_pos two_pos _).le]
  refine Finset.sum_congr rfl fun t _ => ?_
  rw [mul_left_comm, ← EReal.coe_mul]
  unfold wt
  rw [← Real.rpow_add two_pos, add_comm, sub_add_sub_cancel]

/-- One block of tokens more. -/
theorem acc_block (s : ℕ → ℝ) (v : ℕ → EReal) (P : Finset ℕ) (μ : ℝ) (b n : ℕ) (hd : Disjoint P (Finset.Ico b (b + n))) :
    acc s v P μ + ∑ k : Fin n, v (b + k.val) * (wt s μ (b + k.val) : EReal) = acc s v (P ∪ Finset.Ico b (b + n)) μ := by
  unfold acc
  rw [Finset.sum_union hd, Finset.sum_Ico_eq_sum_range, Nat.add_sub_cancel_left, Finset.sum_range]

theorem acc_empty (s : ℕ → ℝ) (v : ℕ → EReal) (μ : ℝ) : acc s v ∅ μ = 0 := by simp [acc]

/-- The quotient of a weighted sum by the sum of the weights, whatever the reference point: the values weighted by the
    normalised exponentials of the scores times ln 2, taken against any real point. -/
theorem quotient (s : ℕ → ℝ) (v : ℕ → EReal) (P : Finset ℕ) (hP : P.Nonempty) (μ ρ : ℝ) :
    Ideal.div (acc s v P μ) (acc s (fun _ => 1) P μ)
      = ∑ t ∈ P, v t * Ideal.div (Real.exp (s t * Real.log 2 - ρ) : EReal) (0 + ∑ k ∈ P, (Real.exp (s k * Real.log 2 - ρ) : EReal)) := by
  have hD : 0 < ∑ t ∈ P, wt s μ t := Finset.sum_pos (fun t _ => wt_pos s μ t) hP
  have hden : acc s (fun _ => 1) P μ = ((∑ t ∈ P, wt s μ t : ℝ) : EReal) := by
    unfold acc; rw [coe_sum]; simp
  have hE : ∀ t, Real.exp (s t * Real.log 2 - ρ) = Real.exp (μ * Real.log 2 - ρ) * wt s μ t := fun t => by
    unfold wt
    rw [Real.rpow_def_of_pos two_pos, ← Real.exp_add]; congr 1; ring
  have hS : (0 : EReal) + ∑ k ∈ P, (Real.exp (s k * Real.log 2 - ρ) : EReal)
      = ((Real.exp (μ * Real.log 2 - ρ) * ∑ t ∈ P, wt s μ t : ℝ) : EReal) := by
    rw [zero_add, ← coe_sum, Finset.mul_sum]; simp only [hE]
  have hc : 0 < Real.exp (μ * Real.log 2 - ρ) := Real.exp_pos _
  rw [hS, hden]
  have dv : ∀ (x : EReal) (d : ℝ), 0 < d → Ideal.div x (d : EReal) = ((d⁻¹ : ℝ) : EReal) * x := fun x d hd => by
    unfold Ideal.div
    rw [if_neg (by exact_mod_cast hd.ne'), mul_comm, EReal.coe_inv]
  rw [dv _ _ hD]
  unfold acc
  rw [coe_mul_sum _ (inv_nonneg.mpr hD.le)]
  refine Finset.sum_congr rfl fun t _ => ?_
  rw [dv _ _ (mul_pos hc hD), mul_left_comm, ← EReal.coe_mul, ← EReal.coe_mul, hE]
  congr 2
  field_simp

/-- The greatest of finitely many reals, folded from minus infinity, is real. -/
theorem fold_max_real {n : ℕ} (hn : 0 < n) (f : Fin n → EReal) (r : Fin n → ℝ) (h : ∀ k, f k = (r k : EReal)) :
    ∃ x : ℝ, (Finset.univ : Finset (Fin n)).fold max (⊥ : EReal) f = (x : EReal) := by
  classical
  have key : ∀ P : Finset (Fin n), P.Nonempty → ∃ x : ℝ, P.fold max (⊥ : EReal) f = (x : EReal) := fun P hP => by
    induction hP using Finset.Nonempty.cons_induction with
    | singleton a => exact ⟨r a, by rw [Finset.fold_singleton, h]; exact max_eq_left bot_le⟩
    | cons a P ha hP ih =>
      obtain ⟨x, hx⟩ := ih
      refine ⟨max (r a) x, ?_⟩
      rw [Finset.fold_cons, hx, h]
      exact (EReal.coe_strictMono.monotone.map_max).symm
  exact key _ ⟨⟨0, hn⟩, Finset.mem_univ _⟩

theorem ofBits_neg_inf : Ideal.ofBits .f32 0xFF800000#32 = (⊥ : EReal) := by simp [Ideal.ofBits, Ideal.ieee]

theorem ofBits_two : Ideal.ofBits .f32 0x40000000#32 = ((2 : ℝ) : EReal) := by
  simp [Ideal.ofBits, Ideal.ieee, -EReal.coe_mul]; norm_num

theorem ofBits_inf : Ideal.ofBits .bf16 0x7F80#16 = (⊤ : EReal) := by simp [Ideal.ofBits, Ideal.ieee]

end Cert.Softmax

end
-- ==== Proof.Head.lean ====
module

public import proofs.«01_k».proof.Proof.Softmax
public import proofs.«01_k».proof.Proof.Reads
public import Idealize.ShloMosaic.Lib.MatmulPlain
public import Idealize.ShloMosaic.Lib.ValueLayout
public import Idealize.ShloMosaic.Lib.Pipeline.Value

@[expose] public section

set_option maxRecDepth 16384

noncomputable section

/-! One head of a query tile at the extended reals: the state of the running softmax as weighted sums. -/

namespace Cert.KernelIdeal.Hand

open Cert.KernelIdeal Cert.KernelIdeal.Gen Cert.Softmax
open Idealize.ShloMosaic Idealize.ShloMosaic.ValueIdx
open scoped BigOperators

/-- A product of two matrices into zero, read at an index. -/
theorem mm_apply {M K N : ℕ} {φ₁ φ₂ : FTy} (lhs : FVec Ideal ⟨2, ![M, K]⟩ φ₁) (rhs : FVec Ideal ⟨2, ![K, N]⟩ φ₂) (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_plain_apply]
  show Ideal.ofBits .f32 0x00000000#32 + _ = _
  rw [Ideal.ofBits_zero_f32, zero_add]

/-- The values with the rows of ones below them, read at an index. -/
theorem ones_apply {n : ℕ} (v : FVec Ideal ⟨2, ![64, n]⟩ .bf16) (h : Shape.Concatenates [⟨2, ![64, n]⟩, ⟨2, ![16, n]⟩] ⟨2, ![80, n]⟩ 0)
    (V : ℕ → ℕ → EReal) (b : ℕ) (hv : ∀ (j : Fin 64) (k : Fin n), v (ix2 j k) = V j.val (b + k.val)) (h1 : ∀ j t, 64 ≤ j → V j t = 1)
    (j : Fin 80) (k : Fin n) :
    concatenate (⟨2, ![80, n]⟩ : Shape) 0 [⟨⟨2, ![64, n]⟩, v⟩, ⟨⟨2, ![16, n]⟩, broadcast ⟨2, ![16, n]⟩ (Scalar.ofBits (F := Ideal) .bf16 0x3F80#16)⟩] h (ix2 j k)
      = V j.val (b + k.val) := by
  by_cases hj : j.val < 64
  · rw [concatenate_pair_apply_left (s₁ := ⟨2, ![64, n]⟩) (s₂ := ⟨2, ![16, n]⟩) 0 v _ h (ix2 j k) rfl (ix2 ⟨j.val, hj⟩ k)
      (fun a => match a with | ⟨0, _⟩ => rfl | ⟨1, _⟩ => rfl)]
    exact hv ⟨j.val, hj⟩ k
  · rw [concatenate_pair_apply_right (s₁ := ⟨2, ![64, n]⟩) (s₂ := ⟨2, ![16, n]⟩) 0 v _ h (ix2 j k) rfl rfl (ix2 ⟨j.val - 64, by omega⟩ k)
      (fun a => match a with | ⟨0, _⟩ => fun h => absurd rfl h | ⟨1, _⟩ => fun _ => rfl) (by show j.val - 64 + 64 = j.val; omega), h1 _ _ (by omega)]
    exact Ideal.ofBits_one_bf16

/-- A column's greatest entry, of reals, is real. -/
theorem colmax_real {n : ℕ} (hn : 0 < n) (S : FVec Ideal ⟨2, ![n, 1024]⟩ .f32) (h : Shape.Reduces (⟨2, ![n, 1024]⟩ : Shape) [0] S1024)
    (h' : S1024.ShapeCasts S1x1024) (col : Fin 1024) (r : Fin n → ℝ) (hr : ∀ k, S (ix2 k col) = (r k : EReal)) :
    ∃ x : ℝ, shapeCast S1x1024 (multiReduction .maximumf [0] S1024 S 0xFF800000#32 h (.inl rfl) rfl) h' (ix2 (0 : Fin 1) col) = (x : EReal) := by
  rw [shapeCast_a_1a_apply]
  have e : _ = (Finset.univ : Finset (Fin n)).fold max (Ideal.ofBits .f32 0xFF800000#32) _ :=
    Ideal.multiReduction_maximumf_single S 0xFF800000#32 h (.inl rfl) rfl (ix1 col)
  rw [ofBits_neg_inf] at e
  refine Exists.imp (fun x hx => e.trans hx) (fold_max_real hn _ r fun k => ?_)
  rw [← hr k]
  refine congrArg S (funext fun a => Fin.ext ?_)
  match a with
  | ⟨0, _⟩ => rfl
  | ⟨1, _⟩ => rfl

variable (col : Fin 1024) (s : ℕ → ℝ) (V : ℕ → ℕ → EReal)

/-- The running maximum is some real `μ`, and the accumulator holds the weighted sums of the tokens `P` against `μ`. -/
def HeadOk (P : Finset ℕ) (M : Vec Ideal S1x1x1024 .f32) (A : Vec Ideal S1x80x1024 .f32) : Prop :=
  ∃ μ : ℝ, M (ix3 0 0 col) = (μ : EReal) ∧ ∀ j : Fin 80, A (ix3 0 j col) = acc s (V j.val) P μ

theorem pay4_apply (M : Vec Ideal S1x1x1024 .f32) : k0_pay4 M (ix2 0 col) = M (ix3 0 0 col) := shapeCast_1ab_ab_apply M _ 0 col

theorem pay5_apply (M : Vec Ideal S1x1x1024 .f32) (m : Vec Ideal S1x1024 .f32) :
    k0_pay5 M m (ix2 0 col) = max (M (ix3 0 0 col)) (m (ix2 0 col)) := by
  rw [← pay4_apply col M]; rfl

theorem pay6_apply (M : Vec Ideal S1x1x1024 .f32) (m : Vec Ideal S1x1024 .f32) :
    k0_pay6 M m (ix3 0 0 col) = max (M (ix3 0 0 col)) (m (ix2 0 col)) := by
  rw [← pay5_apply col M m]; exact shapeCast_ab_1ab_apply (k0_pay5 M m) shapeCasts_S1x1024_S1x1x1024 (0 : Fin 1) (0 : Fin 1) col

theorem pay7_apply (M : Vec Ideal S1x1x1024 .f32) (m : Vec Ideal S1x1024 .f32) :
    k0_pay7 M m (ix2 0 col) = Ideal.exp2 (M (ix3 0 0 col) - max (M (ix3 0 0 col)) (m (ix2 0 col))) := by
  rw [← pay5_apply col M m, ← pay4_apply col M]; rfl

theorem pay8_apply (M : Vec Ideal S1x1x1024 .f32) (m : Vec Ideal S1x1024 .f32) (S : Vec Ideal S512x1024 .f32) (k : Fin 512) :
    k0_pay8 M m S (ix2 k col) = Ideal.exp2 (S (ix2 k col) - max (M (ix3 0 0 col)) (m (ix2 0 col))) := by
  rw [← pay5_apply col M m, ← broadcastTo_1b_ab_apply (k0_pay5 M m) broadcasts_S1x1024_S512x1024 k col]; rfl

/-- The absorption of a block: the accumulator moved to the new maximum and the block's weighted sums added. -/
theorem absorb_ok (P : Finset ℕ) (b : ℕ) (M : Vec Ideal S1x1x1024 .f32) (m : Vec Ideal S1x1024 .f32) (S : Vec Ideal S512x1024 .f32)
    (v : Vec Ideal S64x512 .bf16) (A : Vec Ideal S1x80x1024 .f32) (h : HeadOk col s V P M A) (hm : ∃ r : ℝ, m (ix2 0 col) = (r : EReal))
    (hS : ∀ k : Fin 512, S (ix2 k col) = (s (b + k.val) : EReal))
    (hv : ∀ (j : Fin 64) (k : Fin 512), v (ix2 j k) = V j.val (b + k.val)) (h1 : ∀ j t, 64 ≤ j → V j t = 1)
    (hd : Disjoint P (Finset.Ico b (b + 512))) :
    HeadOk col s V (P ∪ Finset.Ico b (b + 512)) (k0_pay6 M m) (absorb M m S v A) := by
  obtain ⟨μ, hM, hA⟩ := h
  obtain ⟨r, hr⟩ := hm
  have hmax : max (M (ix3 0 0 col)) (m (ix2 0 col)) = ((max μ r : ℝ) : EReal) := by
    rw [hM, hr]; exact (EReal.coe_strictMono.monotone.map_max).symm
  refine ⟨max μ r, (pay6_apply col M m).trans hmax, fun j => ?_⟩
  show shapeCast S1x80x1024 (addf (mulf (broadcastTo S80x1024 (k0_pay7 M m) broadcasts_S1x1024_S80x1024)
      (shapeCast S80x1024 A shapeCasts_S1x80x1024_S80x1024)) _) shapeCasts_S80x1024_S1x80x1024 (ix3 0 j col) = _
  rw [shapeCast_ab_1ab_apply]
  show broadcastTo S80x1024 (k0_pay7 M m) broadcasts_S1x1024_S80x1024 (ix2 j col) * shapeCast S80x1024 A shapeCasts_S1x80x1024_S80x1024 (ix2 j col)
    + FloatOps.matmul (DotDims.plain 80 512 1024) none _ (k0_pay8 M m S) (constant (F := Ideal) ⟨2, ![80, 1024]⟩ .f32 0x00000000#32) (ix2 j col) = _
  rw [broadcastTo_1b_ab_apply, shapeCast_1ab_ab_apply, mm_apply, pay7_apply, hA, hmax, hM, exp2_sub, rescale]
  rw [← acc_block s (V j.val) P (max μ r) b 512 hd]
  refine congrArg (_ + ·) (Finset.sum_congr rfl fun k _ => ?_)
  rw [pay8_apply, hmax, hS, exp2_sub]
  exact congrArg (· * _) (ones_apply v _ V b hv h1 j k)

/-- The start: the context tokens. -/
theorem start_ok (b : ℕ) (S : FVec Ideal S256x1024 .f32) (v : Vec Ideal S64x256 .bf16)
    (hS : ∀ k : Fin 256, S (ix2 k col) = (s (b + k.val) : EReal))
    (hv : ∀ (j : Fin 64) (k : Fin 256), v (ix2 j k) = V j.val (b + k.val)) (h1 : ∀ j t, 64 ≤ j → V j t = 1) :
    HeadOk col s V (Finset.Ico b (b + 256)) (k0_pay141 S) (k0_pay144 S v) := by
  obtain ⟨μ, hμ⟩ := colmax_real (n := 256) (by norm_num) S reduces_S256x1024_S1024 shapeCasts_S1024_S1x1024 col (fun k => s (b + k.val)) hS
  have hμ' : k0_pay140 S (ix2 0 col) = (μ : EReal) := hμ
  refine ⟨μ, (shapeCast_ab_1ab_apply (k0_pay140 S) shapeCasts_S1x1024_S1x1x1024 (0 : Fin 1) (0 : Fin 1) col).trans hμ', fun j => ?_⟩
  show shapeCast S1x80x1024 (FloatOps.matmul (DotDims.plain 80 256 1024) none _ _ _) shapeCasts_S80x1024_S1x80x1024 (ix3 (0 : Fin 1) j col) = _
  rw [shapeCast_ab_1ab_apply]
  show FloatOps.matmul (DotDims.plain 80 256 1024) none _ (truncf .bf16 (exp2 (subf S (broadcastTo S256x1024 (k0_pay140 S) broadcasts_S1x1024_S256x1024))) bitsLt_bf16_f32)
    (constant (F := Ideal) ⟨2, ![80, 1024]⟩ .f32 0x00000000#32) (ix2 j col) = _
  rw [mm_apply]
  have := acc_block s (V j.val) ∅ μ b 256 (Finset.disjoint_empty_left _)
  rw [acc_empty, zero_add, Finset.empty_union] at this
  rw [← this]
  refine Finset.sum_congr rfl fun k _ => ?_
  rw [ones_apply v _ V b hv h1 j k]
  refine congrArg (_ * ·) ?_
  show Ideal.exp2 (S (ix2 k col) - broadcastTo S256x1024 (k0_pay140 S) broadcasts_S1x1024_S256x1024 (ix2 k col)) = _
  rw [broadcastTo_1b_ab_apply, hμ', hS, exp2_sub]
  rfl

/-- The scores of a block of keys, and their greatest, from real queries and keys. -/
theorem scores_ok (q : FVec Ideal S128x1024 .bf16) (kb : Vec Ideal S512x128 .bf16) (b : ℕ) (qr : Fin 128 → ℝ) (kr : ℕ → Fin 128 → ℝ)
    (hq : ∀ d, q (ix2 d col) = (qr d : EReal)) (hk : ∀ (k : Fin 512) d, kb (ix2 k d) = (kr (b + k.val) d : EReal))
    (hs : ∀ t, s t = ∑ d, kr t d * qr d) (k : Fin 512) : k0_pay1 q kb (ix2 k col) = (s (b + k.val) : EReal) := by
  refine (mm_apply (M := 512) (K := 128) (N := 1024) kb q k col).trans ?_
  rw [hs, coe_sum]
  exact Finset.sum_congr rfl fun d _ => by rw [hq, hk, EReal.coe_mul]

theorem ctx_scores_ok (q : FVec Ideal S128x1024 .bf16) (kb : Vec Ideal S256x128 .bf16) (b : ℕ) (qr : Fin 128 → ℝ) (kr : ℕ → Fin 128 → ℝ)
    (hq : ∀ d, q (ix2 d col) = (qr d : EReal)) (hk : ∀ (k : Fin 256) d, kb (ix2 k d) = (kr (b + k.val) d : EReal))
    (hs : ∀ t, s t = ∑ d, kr t d * qr d) (k : Fin 256) :
    FloatOps.matmul (φ₁ := .bf16) (φ₂ := .bf16) (DotDims.plain 256 128 1024) none kb q (constant (F := Ideal) ⟨2, ![256, 1024]⟩ .f32 0x00000000#32) (ix2 k col)
      = (s (b + k.val) : EReal) := by
  refine (mm_apply (M := 256) (K := 128) (N := 1024) kb q k col).trans ?_
  rw [hs, coe_sum]
  exact Finset.sum_congr rfl fun d _ => by rw [hq, hk, EReal.coe_mul]

theorem pay2_eq (q : FVec Ideal S128x1024 .bf16) (kb : Vec Ideal S512x128 .bf16) : k0_pay2 q kb = k0_pay1 q kb :=
  shapeCast_self _ _

theorem pay3_real (q : FVec Ideal S128x1024 .bf16) (kb : Vec Ideal S512x128 .bf16) (r : Fin 512 → ℝ)
    (h : ∀ k, k0_pay1 q kb (ix2 k col) = (r k : EReal)) : ∃ x : ℝ, k0_pay3 q kb (ix2 0 col) = (x : EReal) := by
  obtain ⟨x, hx⟩ := colmax_real (n := 512) (by norm_num) (k0_pay1 q kb) reduces_S512x1024_S1024 shapeCasts_S1024_S1x1024 col r h
  exact ⟨x, (congrFun (shapeCast_self (shapeCast S1x1024 (multiReduction .maximumf [0] S1024 (k0_pay1 q kb) 0xFF800000#32 reduces_S512x1024_S1024 (.inl rfl) rfl) shapeCasts_S1024_S1x1024) shapeCasts_S1x1024_S1x1024) (ix2 (0 : Fin 1) col)).trans hx⟩

/-- The tokens absorbed before block `n`: the context and the blocks before it. -/
def before (n : ℕ) : Finset ℕ := Finset.Ico 8192 8448 ∪ Finset.Ico 0 (512 * n)

theorem before_succ (n : ℕ) : before n ∪ Finset.Ico (512 * n) (512 * n + 512) = before (n + 1) := by
  ext t; simp only [before, Finset.mem_union, Finset.mem_Ico]; omega

theorem before_disjoint (n : ℕ) (hn : n < 16) : Disjoint (before n) (Finset.Ico (512 * n) (512 * n + 512)) := by
  rw [Finset.disjoint_left]; intro t; simp only [before, Finset.mem_union, Finset.mem_Ico]; omega

theorem before_all : before 16 = Finset.range 8448 := by
  ext t; simp only [before, Finset.mem_union, Finset.mem_Ico, Finset.mem_range]; omega

theorem before_zero : Finset.Ico 8192 (8192 + 256) = before 0 := by
  ext t; simp only [before, Finset.mem_union, Finset.mem_Ico]; omega

/-- One head's state before block `n`: its scores in flight are block `n`'s. -/
structure HeadAt (n : ℕ) (S : Vec Ideal S512x1024 .f32) (m : Vec Ideal S1x1024 .f32) (A : Vec Ideal S1x80x1024 .f32) (M : Vec Ideal S1x1x1024 .f32) : Prop where
  ok : HeadOk col s V (before n) M A
  max : ∃ r : ℝ, m (ix2 0 col) = (r : EReal)
  scores : ∀ k : Fin 512, S (ix2 k col) = (s (512 * n + k.val) : EReal)

/-- What one head reads: its real queries and keys, and its values with a row of ones below them. -/
structure HeadIn (e : ℕ) (q : FVec Ideal S128x1024 .bf16) (X4 : Vec Ideal S8192x256 .bf16) (X5 : Vec Ideal S128x8192 .bf16) : Prop where
  score : ∃ (qr : Fin 128 → ℝ) (kr : ℕ → Fin 128 → ℝ), (∀ d, q (ix2 d col) = (qr d : EReal)) ∧ (∀ t, s t = ∑ d, kr t d * qr d)
    ∧ ∀ n, n < 16 → ∀ (k : Fin 512) d, kblk X4 e n (ix2 k d) = (kr (512 * n + k.val) d : EReal)
  value : ∀ n, n < 16 → ∀ (j : Fin 64) (k : Fin 512), vblk X5 e n (ix2 j k) = V j.val (512 * n + k.val)
  one : ∀ j t, 64 ≤ j → V j t = 1

variable {col s V}

theorem HeadIn.scores {e : ℕ} {q : FVec Ideal S128x1024 .bf16} {X4 : Vec Ideal S8192x256 .bf16} {X5 : Vec Ideal S128x8192 .bf16}
    (H : HeadIn col s V e q X4 X5) (n : ℕ) (hn : n < 16) (k : Fin 512) : k0_pay1 q (kblk X4 e n) (ix2 k col) = (s (512 * n + k.val) : EReal) := by
  obtain ⟨qr, kr, hq, hs, hk⟩ := H.score
  exact scores_ok col s q (kblk X4 e n) (512 * n) qr kr hq (hk n hn) hs k

theorem HeadIn.start {e : ℕ} {q : FVec Ideal S128x1024 .bf16} {X4 : Vec Ideal S8192x256 .bf16} {X5 : Vec Ideal S128x8192 .bf16}
    (H : HeadIn col s V e q X4 X5) {M : Vec Ideal S1x1x1024 .f32} {A : Vec Ideal S1x80x1024 .f32} (h : HeadOk col s V (before 0) M A) :
    HeadAt col s V 0 (k0_pay2 q (kblk X4 e 0)) (k0_pay3 q (kblk X4 e 0)) A M where
  ok := h
  max := pay3_real col q _ _ (H.scores 0 (by omega))
  scores k := by rw [pay2_eq]; exact H.scores 0 (by omega) k

theorem HeadIn.absorbed {e n : ℕ} {q : FVec Ideal S128x1024 .bf16} {X4 : Vec Ideal S8192x256 .bf16} {X5 : Vec Ideal S128x8192 .bf16}
    (H : HeadIn col s V e q X4 X5) (hn : n < 16) {S : Vec Ideal S512x1024 .f32} {m : Vec Ideal S1x1024 .f32} {M : Vec Ideal S1x1x1024 .f32}
    {A : Vec Ideal S1x80x1024 .f32} (h : HeadAt col s V n S m A M) :
    HeadOk col s V (before (n + 1)) (k0_pay6 M m) (absorb M m S (vblk X5 e n) A) := by
  rw [← before_succ]
  exact absorb_ok col s V (before n) (512 * n) M m S _ A h.ok h.max h.scores (H.value n hn) H.one (before_disjoint n hn)

theorem HeadIn.advance {e n : ℕ} {q : FVec Ideal S128x1024 .bf16} {X4 : Vec Ideal S8192x256 .bf16} {X5 : Vec Ideal S128x8192 .bf16}
    (H : HeadIn col s V e q X4 X5) (hn : n < 15) {S : Vec Ideal S512x1024 .f32} {m : Vec Ideal S1x1024 .f32} {M : Vec Ideal S1x1x1024 .f32}
    {A : Vec Ideal S1x80x1024 .f32} (h : HeadAt col s V n S m A M) :
    HeadAt col s V (n + 1) (k0_pay2 q (kblk X4 e (n + 1))) (k0_pay3 q (kblk X4 e (n + 1))) (absorb M m S (vblk X5 e n) A) (k0_pay6 M m) where
  ok := H.absorbed (by omega) h
  max := pay3_real col q _ _ (H.scores (n + 1) (by omega))
  scores k := by rw [pay2_eq]; exact H.scores (n + 1) (by omega) k

end Cert.KernelIdeal.Hand

end
-- ==== Proof.TileValue.lean ====
module

public import proofs.«01_k».proof.Proof.Head

@[expose] public section

set_option maxRecDepth 16384

noncomputable section

/-! The results of a query tile at the extended reals: for each query the softmax-weighted sum of the values. -/

namespace Cert.KernelIdeal.Hand

open Cert.KernelIdeal Cert.KernelIdeal.Gen Cert.Softmax
open Idealize.ShloMosaic Idealize.ShloMosaic.ValueIdx
open scoped BigOperators

/-- What one head reads, the context too. -/
structure HeadAll (col : Fin 1024) (s : ℕ → ℝ) (V : ℕ → ℕ → EReal) (e : ℕ) (q : FVec Ideal S128x1024 .bf16) (X4 : Vec Ideal S8192x256 .bf16)
    (X5 : Vec Ideal S128x8192 .bf16) (X6 : Vec Ideal S256x256 .bf16) (X7 : Vec Ideal S128x256 .bf16) : Prop where
  tok : HeadIn col s V e q X4 X5
  ctx : ∀ k : Fin 256, FloatOps.matmul (φ₁ := .bf16) (φ₂ := .bf16) (DotDims.plain 256 128 1024) none (ckblk X6 e) q
    (constant (F := Ideal) ⟨2, ![256, 1024]⟩ .f32 0x00000000#32) (ix2 k col) = (s (8192 + k.val) : EReal)
  ctxv : ∀ (j : Fin 64) (k : Fin 256), cvblk X7 e (ix2 j k) = V j.val (8192 + k.val)

section
variable {col : Fin 1024} {s : ℕ → ℕ → ℝ} {V : ℕ → ℕ → ℕ → EReal} {qb : Vec Ideal S1024x256 .bf16}
    {X4 : Vec Ideal S8192x256 .bf16} {X5 : Vec Ideal S128x8192 .bf16} {X6 : Vec Ideal S256x256 .bf16} {X7 : Vec Ideal S128x256 .bf16}

/-- The two heads of the pair before block `n`. -/
def BothAt (col : Fin 1024) (s : ℕ → ℕ → ℝ) (V : ℕ → ℕ → ℕ → EReal) (n : ℕ) (t : St Ideal) : Prop :=
  HeadAt col (s 0) (V 0) n t.s0 t.m0 t.A0 t.M0 ∧ HeadAt col (s 1) (V 1) n t.s1 t.m1 t.A1 t.M1

theorem pay143_eq (S : FVec Ideal S256x1024 .f32) : k0_pay143 S = k0_pay141 S := rfl
theorem pay146_eq (S : FVec Ideal S256x1024 .f32) (v : Vec Ideal S64x256 .bf16) : k0_pay146 (k0_pay145 S v) = k0_pay144 S v := rfl

theorem init_ok (H0 : HeadAll col (s 0) (V 0) 0 (k0_pay129 qb) X4 X5 X6 X7) (H1 : HeadAll col (s 1) (V 1) 1 (k0_pay130 qb) X4 X5 X6 X7) :
    BothAt col s V 0 (init qb X4 X6 X7) := by
  have h0 := start_ok col (s 0) (V 0) 8192 (k0_pay131 qb (ckblk X6 0)) (cvblk X7 0) H0.ctx H0.ctxv H0.tok.one
  have h1 := start_ok col (s 1) (V 1) 8192 (k0_pay132 qb (ckblk X6 1)) (cvblk X7 1) H1.ctx H1.ctxv H1.tok.one
  rw [before_zero] at h0 h1
  dsimp only [BothAt, init]
  rw [pay143_eq, pay146_eq]
  exact ⟨H0.tok.start h0, H1.tok.start h1⟩

theorem advs_ok (H0 : HeadAll col (s 0) (V 0) 0 (k0_pay129 qb) X4 X5 X6 X7) (H1 : HeadAll col (s 1) (V 1) 1 (k0_pay130 qb) X4 X5 X6 X7) :
    ∀ n, n ≤ 15 → BothAt col s V n (advs (k0_pay129 qb) (k0_pay130 qb) X4 X5 (init qb X4 X6 X7) n)
  | 0, _ => init_ok H0 H1
  | n + 1, h => by
    have ih := advs_ok H0 H1 n (by omega)
    dsimp only [BothAt, advs, adv] at ih ⊢
    exact ⟨H0.tok.advance (n := n) (by omega) ih.1, H1.tok.advance (n := n) (by omega) ih.2⟩

theorem top_apply (A : Vec Ideal S1x80x1024 .f32) (j : Fin 64) (col : Fin 1024) : top A (ix3 (0 : Fin 1) j col) = A (ix3 (0 : Fin 1) ⟨j.val, by omega⟩ col) :=
  congrArg A (funext fun a => Fin.ext (match a with
    | ⟨0, _⟩ => rfl
    | ⟨1, _⟩ => by show 0 + 1 * j.val = j.val; omega
    | ⟨2, _⟩ => by show 0 + 1 * col.val = col.val; omega))

theorem den_apply (A : Vec Ideal S1x80x1024 .f32) (col : Fin 1024) : den A (ix3 (0 : Fin 1) (0 : Fin 1) col) = A (ix3 (0 : Fin 1) ⟨64, by omega⟩ col) :=
  congrArg A (funext fun a => Fin.ext (match a with
    | ⟨0, _⟩ => rfl
    | ⟨1, _⟩ => rfl
    | ⟨2, _⟩ => by show 0 + 1 * col.val = col.val; omega))

/-- One head's share of the output, before the transposition. -/
def headOut (T : Vec Ideal S1x64x1024 .f32) (D : Vec Ideal S1x1x1024 .f32) : FVec Ideal S64x1024 .f32 :=
  divf (shapeCast S64x1024 T shapeCasts_S1x64x1024_S64x1024)
    (broadcastTo S64x1024 (shapeCast S1x1024 D shapeCasts_S1x1x1024_S1x1024) broadcasts_S1x1024_S64x1024)

theorem headOut_apply (A : Vec Ideal S1x80x1024 .f32) (M : Vec Ideal S1x1x1024 .f32) (s : ℕ → ℝ) (V : ℕ → ℕ → EReal) (h1 : ∀ j t, 64 ≤ j → V j t = 1)
    (h : HeadOk col s V (before 16) M A) (ρ : ℝ) (j : Fin 64) :
    headOut (top A) (den A) (ix2 j col) = ∑ t ∈ Finset.range 8448, V j.val t *
      Ideal.div (Real.exp (s t * Real.log 2 - ρ) : EReal) (0 + ∑ k ∈ Finset.range 8448, (Real.exp (s k * Real.log 2 - ρ) : EReal)) := by
  obtain ⟨μ, _, hA⟩ := h
  rw [before_all] at hA
  show Ideal.div (shapeCast S64x1024 (top A) shapeCasts_S1x64x1024_S64x1024 (ix2 j col))
    (broadcastTo S64x1024 (shapeCast S1x1024 (den A) shapeCasts_S1x1x1024_S1x1024) broadcasts_S1x1024_S64x1024 (ix2 j col)) = _
  rw [broadcastTo_1b_ab_apply, shapeCast_1ab_ab_apply, shapeCast_1ab_ab_apply, top_apply, den_apply, hA, hA,
    show V (⟨64, by omega⟩ : Fin 80).val = fun _ => 1 from funext fun t => h1 64 t le_rfl]
  exact quotient s (V j.val) _ ⟨0, by simp⟩ μ ρ

theorem pay202_apply (T0 T1 : Vec Ideal S1x64x1024 .f32) (D0 D1 : Vec Ideal S1x1x1024 .f32) (col : Fin 1024) (x : Fin 128) :
    k0_pay202 T0 D0 T1 D1 (ix2 col x)
      = if h : x.val < 64 then headOut T0 D0 (ix2 ⟨x.val, h⟩ col) else headOut T1 D1 (ix2 ⟨x.val - 64, by omega⟩ col) := by
  show transpose S1024x128 [1, 0] (concatenate S128x1024 0 [⟨S64x1024, headOut T0 D0⟩, ⟨S64x1024, headOut T1 D1⟩] concatenates_S64x1024_S64x1024_S128x1024_d0)
    transposes_S128x1024_p1_0_S1024x128 (ix2 col x) = _
  rw [transpose_ix2_apply]
  split
  case isTrue h =>
    exact concatenate_pair_apply_left (s₁ := S64x1024) (s₂ := S64x1024) 0 _ _ _ (ix2 x col) rfl (ix2 ⟨x.val, h⟩ col)
      (fun a => match a with | ⟨0, _⟩ => rfl | ⟨1, _⟩ => rfl)
  case isFalse h =>
    exact concatenate_pair_apply_right (s₁ := S64x1024) (s₂ := S64x1024) 0 _ _ _ (ix2 x col) rfl rfl (ix2 ⟨x.val - 64, by omega⟩ col)
      (fun a => match a with | ⟨0, _⟩ => fun h => absurd rfl h | ⟨1, _⟩ => fun _ => rfl) (by show x.val - 64 + 64 = x.val; omega)

/-- A tile's results: for the query of row `col`, the softmax-weighted sum of each head's values. -/
theorem tile_apply (H0 : HeadAll col (s 0) (V 0) 0 (k0_pay129 qb) X4 X5 X6 X7) (H1 : HeadAll col (s 1) (V 1) 1 (k0_pay130 qb) X4 X5 X6 X7)
    (x : Fin 128) (ρ : ℝ) :
    tile qb X4 X5 X6 X7 (ix2 col x) = ∑ t ∈ Finset.range 8448, V (x.val / 64) (x.val % 64) t *
      Ideal.div (Real.exp (s (x.val / 64) t * Real.log 2 - ρ) : EReal)
        (0 + ∑ k ∈ Finset.range 8448, (Real.exp (s (x.val / 64) k * Real.log 2 - ρ) : EReal)) := by
  have h := advs_ok H0 H1 15 le_rfl
  unfold tile
  rw [pay202_apply]
  split
  case isTrue hx =>
    rw [show x.val / 64 = 0 by omega, show x.val % 64 = x.val by omega]
    exact headOut_apply _ _ (s 0) (V 0) H0.tok.one (H0.tok.absorbed (by omega) h.1) ρ ⟨x.val, hx⟩
  case isFalse hx =>
    rw [show x.val / 64 = 1 by omega, show x.val % 64 = x.val - 64 by omega]
    exact headOut_apply _ _ (s 1) (V 1) H1.tok.one (H1.tok.absorbed (by omega) h.2) ρ ⟨x.val - 64, by omega⟩
end

/-! ## The queries of a tile -/

theorem pay129_apply (qb : Vec Ideal S1024x256 .bf16) (d : Fin 128) (col : Fin 1024) : k0_pay129 qb (ix2 d col) = qb (ix2 col ⟨d.val, by omega⟩) := by
  show transpose S128x1024 [1, 0] (extractStridedSlice S1024x128 ![0, 0] qb slices_S1024x256_o0_0_S1024x128) transposes_S1024x128_p1_0_S128x1024 (ix2 d col) = _
  rw [transpose_ix2_apply]
  exact extractStridedSlice_apply _ _ _ _ _ fun a => match a with
    | ⟨0, _⟩ => by show col.val = 0 + col.val; omega
    | ⟨1, _⟩ => by show d.val = 0 + d.val; omega

theorem pay130_apply (qb : Vec Ideal S1024x256 .bf16) (d : Fin 128) (col : Fin 1024) : k0_pay130 qb (ix2 d col) = qb (ix2 col ⟨128 + d.val, by omega⟩) := by
  show transpose S128x1024 [1, 0] (extractStridedSlice S1024x128 ![0, 128] qb slices_S1024x256_o0_128_S1024x128) transposes_S1024x128_p1_0_S128x1024 (ix2 d col) = _
  rw [transpose_ix2_apply]
  exact extractStridedSlice_apply _ _ _ _ _ fun a => match a with
    | ⟨0, _⟩ => by show col.val = 0 + col.val; omega
    | ⟨1, _⟩ => by show 128 + d.val = 128 + d.val; omega

end Cert.KernelIdeal.Hand

end
-- ==== Proof.Spec.lean ====
module

public import proofs.«01_k».proof.Proof.Softmax
public import Idealize.ShloMosaic.Lib.ValueIdxCore

@[expose] public section

noncomputable section

/-! The attention of the layer as one formula over the entries of its three arrays. -/

namespace Cert.Softmax

open Idealize.ShloMosaic Idealize.ShloMosaic.ValueIdx
open scoped BigOperators

/-- An entry of a matrix by its row and column numbers, 0 outside it. -/
def cell {a b : ℕ} {φ : FTy} (X : FVec Ideal ⟨2, ![a, b]⟩ φ) (r c : ℕ) : EReal := if h : r < a ∧ c < b then X (ix2 ⟨r, h.1⟩ ⟨c, h.2⟩) else 0

theorem cell_eq {a b : ℕ} {φ : FTy} (X : FVec Ideal ⟨2, ![a, b]⟩ φ) (j : (⟨2, ![a, b]⟩ : Shape).Idx) : X j = cell X (j 0).val (j 1).val := by
  rw [cell, dif_pos ⟨(j 0).isLt, (j 1).isLt⟩]
  exact congrArg X (eq_ix2 j)

/-- Every entry is a real number. -/
def Real2 {a b : ℕ} {φ : FTy} (X : FVec Ideal ⟨2, ![a, b]⟩ φ) : Prop := ∀ j, ((X j).toReal : EReal) = X j

theorem Real2.cell {a b : ℕ} {φ : FTy} {X : FVec Ideal ⟨2, ![a, b]⟩ φ} (h : Real2 X) (r c : ℕ) : ((cell X r c).toReal : EReal) = cell X r c := by
  unfold Softmax.cell; split
  · exact h _
  · simp

/-- The array row of token `t` of batch `b`: the frames' tokens first, then the context's. -/
def row (b t : ℕ) : ℕ := if t < 8192 then b * 8192 + t else 16384 + b * 256 + (t - 8192)

section
variable (a0 a1 : FVec Ideal ⟨2, ![16896, 1024]⟩ .bf16) (a2 : FVec Ideal ⟨2, ![512, 16896]⟩ .bf16)

/-- The score of token `t` against the query of row `y`, in head `h`. -/
def sc (h y t : ℕ) : ℝ := ∑ d : Fin 128, (cell a1 (row (y / 8192) t) (128 * h + d.val)).toReal * (cell a0 y (128 * h + d.val)).toReal

/-- Coordinate `j` of token `t`'s value in head `h`; from 64 on, ones. -/
def vl (b h j t : ℕ) : EReal := if j < 64 then cell a2 (64 * h + j) (row b t) else 1

/-- The weight of token `t`: its share of the exponentials, taken against any real `ρ`. -/
def share (h y : ℕ) (ρ : ℝ) (t : ℕ) : EReal :=
  Ideal.div (Real.exp (sc a0 a1 h y t * Real.log 2 - ρ) : EReal) (0 + ∑ k ∈ Finset.range 8448, (Real.exp (sc a0 a1 h y k * Real.log 2 - ρ) : EReal))

/-- The result in row `y`, column `x`: the values of the column's head weighted by the shares. -/
def attn (ρ : ℝ) (y x : ℕ) : EReal := ∑ t ∈ Finset.range 8448, vl a2 (y / 8192) (x / 64) (x % 64) t * share a0 a1 (x / 64) y ρ t
end

end Cert.Softmax

end
-- ==== Proof.Final.lean ====
module

public import proofs.«01_k».proof.Proof.TileValue
public import proofs.«01_k».proof.Proof.Spec
public import proofs.«01_k».proof.Proof.Run
public import Idealize.ShloMosaic.Lib.Pipeline.ValueKit.Geometry

@[expose] public section

set_option maxRecDepth 16384

noncomputable section

/-! The attention call's array at the extended reals, from its blocks. -/

namespace Cert.KernelIdeal.Hand

open Cert.KernelIdeal Cert.KernelIdeal.Gen Cert.Softmax
open Idealize.ShloMosaic Idealize.ShloMosaic.ValueIdx Idealize.ShloMosaic.TcCoe
open scoped BigOperators

section
variable (a0 a1 : FVec Ideal ⟨2, ![16896, 1024]⟩ .bf16) (a2 : FVec Ideal ⟨2, ![512, 16896]⟩ .bf16)

/-- What a grid point's windows show of the arrays: batch `b`, head pair `p`. -/
structure Shows (b p : ℕ) (X4 : Vec Ideal S8192x256 .bf16) (X5 : Vec Ideal S128x8192 .bf16) (X6 : Vec Ideal S256x256 .bf16) (X7 : Vec Ideal S128x256 .bf16) : Prop where
  key : ∀ j, X4 j = cell a1 (b * 8192 + (j 0).val) (p * 256 + (j 1).val)
  value : ∀ j, X5 j = cell a2 (p * 128 + (j 0).val) (b * 8192 + (j 1).val)
  ckey : ∀ j, X6 j = cell a1 ((64 + b) * 256 + (j 0).val) (p * 256 + (j 1).val)
  cvalue : ∀ j, X7 j = cell a2 (p * 128 + (j 0).val) ((64 + b) * 256 + (j 1).val)

variable {a0 a1 a2}

theorem headAll {b p : ℕ} {X4 : Vec Ideal S8192x256 .bf16} {X5 : Vec Ideal S128x8192 .bf16} {X6 : Vec Ideal S256x256 .bf16} {X7 : Vec Ideal S128x256 .bf16}
    (S : Shows a1 a2 b p X4 X5 X6 X7) (f0 : Real2 a0) (f1 : Real2 a1) (e : ℕ) (he : e < 2) (y : ℕ) (hy : y / 8192 = b) (col : Fin 1024)
    (q : FVec Ideal S128x1024 .bf16) (hq : ∀ d : Fin 128, q (ix2 d col) = cell a0 y (128 * (2 * p + e) + d.val)) :
    HeadAll col (sc a0 a1 (2 * p + e) y) (vl a2 b (2 * p + e)) e q X4 X5 X6 X7 := by
  have hq' : ∀ d : Fin 128, q (ix2 d col) = ((cell a0 y (128 * (2 * p + e) + d.val)).toReal : EReal) := fun d => (hq d).trans (f0.cell _ _).symm
  have hs : ∀ t, sc a0 a1 (2 * p + e) y t = ∑ d : Fin 128, (cell a1 (row b t) (128 * (2 * p + e) + d.val)).toReal * (cell a0 y (128 * (2 * p + e) + d.val)).toReal := by
    intro t; rw [← hy]; rfl
  refine ⟨⟨⟨_, fun t d => (cell a1 (row b t) (128 * (2 * p + e) + d.val)).toReal, hq', hs, fun n hn k d => ?_⟩, fun n hn j k => ?_, fun j t hj => ?_⟩, fun k => ?_, fun j k => ?_⟩
  · rw [f1.cell]
    refine (S.key _).trans ?_
    show cell a1 (b * 8192 + (512 * (n % 16) + 1 * k.val)) (p * 256 + (128 * (e % 2) + 1 * d.val)) = _
    unfold row
    congr 1 <;> (try split) <;> omega
  · refine (S.value _).trans ?_
    show cell a2 (p * 128 + (64 * (e % 2) + 1 * j.val)) (b * 8192 + (512 * (n % 16) + 1 * k.val)) = _
    unfold vl row
    rw [if_pos j.isLt]
    congr 1 <;> (try split) <;> omega
  · exact if_neg (by omega)
  · refine ctx_scores_ok col (sc a0 a1 (2 * p + e) y) q (ckblk X6 e) 8192 _ (fun t d => (cell a1 (row b t) (128 * (2 * p + e) + d.val)).toReal) hq' (fun k d => ?_) hs k
    rw [f1.cell]
    refine (S.ckey _).trans ?_
    show cell a1 ((64 + b) * 256 + (0 + 1 * k.val)) (p * 256 + (128 * (e % 2) + 1 * d.val)) = _
    unfold row
    congr 1 <;> (try split) <;> omega
  · refine (S.cvalue _).trans ?_
    show cell a2 (p * 128 + (64 * (e % 2) + 1 * j.val)) ((64 + b) * 256 + (0 + 1 * k.val)) = _
    unfold vl row
    rw [if_pos j.isLt]
    congr 1 <;> (try split) <;> omega

/-- A grid point's output block: the attention of its rows and heads. -/
theorem OUT_apply {b p i : ℕ} (hi : i < 4) {X3 : Vec Ideal S2048x256 .bf16} {X4 : Vec Ideal S8192x256 .bf16} {X5 : Vec Ideal S128x8192 .bf16}
    {X6 : Vec Ideal S256x256 .bf16} {X7 : Vec Ideal S128x256 .bf16} (S : Shows a1 a2 b p X4 X5 X6 X7) (f0 : Real2 a0) (f1 : Real2 a1)
    (hX3 : ∀ j, X3 j = cell a0 ((b * 4 + i) * 2048 + (j 0).val) (p * 256 + (j 1).val)) (y : S2048x128.Idx) (ρ : ℝ) :
    OUT X3 X4 X5 X6 X7 y = attn a0 a1 a2 ρ ((b * 4 + i) * 2048 + (y 0).val) (p * 128 + (y 1).val) := by
  have h0 : (y 0).val < 2048 := (y 0).isLt
  have h1 : (y 1).val < 128 := (y 1).isLt
  have hb : ((b * 4 + i) * 2048 + (y 0).val) / 8192 = b := by omega
  have hx1 : (p * 128 + (y 1).val) / 64 = 2 * p + (y 1).val / 64 := by omega
  have hx2 : (p * 128 + (y 1).val) % 64 = (y 1).val % 64 := by omega
  have hq : ∀ j, qblk X3 ((y 0).val / 1024) j = cell a0 ((b * 4 + i) * 2048 + 1024 * ((y 0).val / 1024) + (j 0).val) (p * 256 + (j 1).val) := fun j => by
    refine (hX3 _).trans ?_
    show cell a0 ((b * 4 + i) * 2048 + (1024 * ((y 0).val / 1024 % 2) + 1 * (j 0).val)) (p * 256 + (0 + 1 * (j 1).val)) = _
    congr 1 <;> omega
  have H : ∀ (e : ℕ), e < 2 → ∀ q : FVec Ideal S128x1024 .bf16, (∀ (d : Fin 128) (col : Fin 1024), q (ix2 d col)
      = cell a0 ((b * 4 + i) * 2048 + 1024 * ((y 0).val / 1024) + col.val) (p * 256 + (128 * e + d.val))) → HeadAll ⟨(y 0).val % 1024, Nat.mod_lt _ (by decide)⟩
      (sc a0 a1 (2 * p + e) ((b * 4 + i) * 2048 + (y 0).val)) (vl a2 b (2 * p + e)) e q X4 X5 X6 X7 := fun e he q h =>
    headAll S f0 f1 e he _ hb _ q fun d => (h d _).trans (by
      show cell a0 ((b * 4 + i) * 2048 + 1024 * ((y 0).val / 1024) + (y 0).val % 1024) _ = _
      congr 1 <;> omega)
  have T := tile_apply (s := fun e => sc a0 a1 (2 * p + e) ((b * 4 + i) * 2048 + (y 0).val)) (V := fun e => vl a2 b (2 * p + e))
    (H 0 (by omega) (k0_pay129 (qblk X3 ((y 0).val / 1024))) fun d col => by
      rw [pay129_apply, hq]
      show cell a0 _ (p * 256 + d.val) = _
      congr 1; omega)
    (H 1 (by omega) (k0_pay130 (qblk X3 ((y 0).val / 1024))) fun d col => by
      rw [pay130_apply, hq]) (y 1) ρ
  unfold attn share
  rw [hb, hx1, hx2]
  exact T
end

section
variable (m : (ℓ : Loc nD τ sig) → Buf (Elt Ideal) ℓ) (c : Dev nD) (t : Fin cfg0.N)

theorem idx0 : ∀ t : Fin cfg0.N, win0_0.index t = ![(grid0.coords t 0).val * 4 + (grid0.coords t 2).val, (grid0.coords t 1).val] :=
  (by decide +kernel : ∀ t : Fin grid0.N, _)
theorem idx1 : ∀ t : Fin cfg0.N, win0_1.index t = ![(grid0.coords t 0).val, (grid0.coords t 1).val] := (by decide +kernel : ∀ t : Fin grid0.N, _)
theorem idx2 : ∀ t : Fin cfg0.N, win0_2.index t = ![(grid0.coords t 1).val, (grid0.coords t 0).val] := (by decide +kernel : ∀ t : Fin grid0.N, _)
theorem idx3 : ∀ t : Fin cfg0.N, win0_3.index t = ![64 + (grid0.coords t 0).val, (grid0.coords t 1).val] := (by decide +kernel : ∀ t : Fin grid0.N, _)
theorem idx4 : ∀ t : Fin cfg0.N, win0_4.index t = ![(grid0.coords t 1).val, 64 + (grid0.coords t 0).val] := (by decide +kernel : ∀ t : Fin grid0.N, _)
theorem idx5 : ∀ t : Fin cfg0.N, win0_5.index t = ![(grid0.coords t 0).val * 4 + (grid0.coords t 2).val, (grid0.coords t 1).val] :=
  (by decide +kernel : ∀ t : Fin grid0.N, _)

/-- The queries, the keys and the values as the call finds them. -/
abbrev arr0 (m : (ℓ : Loc nD τ sig) → Buf (Elt Ideal) ℓ) (c : Dev nD) : FVec Ideal ⟨2, ![16896, 1024]⟩ .bf16 := V m c main_arg0
abbrev arr1 (m : (ℓ : Loc nD τ sig) → Buf (Elt Ideal) ℓ) (c : Dev nD) : FVec Ideal ⟨2, ![16896, 1024]⟩ .bf16 := V m c main_arg1
abbrev arr2 (m : (ℓ : Loc nD τ sig) → Buf (Elt Ideal) ℓ) (c : Dev nD) : FVec Ideal ⟨2, ![512, 16896]⟩ .bf16 := V m c main_arg2

theorem block0 (j : S2048x256.Idx) : X0_0 m c t j
    = cell (arr0 m c) (((grid0.coords t 0).val * 4 + (grid0.coords t 2).val) * 2048 + (j 0).val) ((grid0.coords t 1).val * 256 + (j 1).val) := by
  unfold X0_0 Pipeline.Window.fill
  rw [dif_pos (moved0_0 t j)]
  blk_simp [iblk]
  refine (cell_eq (arr0 m c) _).trans ?_
  blk_simp [idx0]

theorem block1 (j : S8192x256.Idx) : X0_1 m c t j
    = cell (arr1 m c) ((grid0.coords t 0).val * 8192 + (j 0).val) ((grid0.coords t 1).val * 256 + (j 1).val) := by
  unfold X0_1 Pipeline.Window.fill
  rw [dif_pos (moved0_1 t j)]
  blk_simp [iblk]
  refine (cell_eq (arr1 m c) _).trans ?_
  blk_simp [idx1]

theorem block2 (j : S128x8192.Idx) : X0_2 m c t j
    = cell (arr2 m c) ((grid0.coords t 1).val * 128 + (j 0).val) ((grid0.coords t 0).val * 8192 + (j 1).val) := by
  unfold X0_2 Pipeline.Window.fill
  rw [dif_pos (moved0_2 t j)]
  blk_simp [iblk]
  refine (cell_eq (arr2 m c) _).trans ?_
  blk_simp [idx2]

theorem block3 (j : S256x256.Idx) : iblk m c 3 t j
    = cell (arr1 m c) ((64 + (grid0.coords t 0).val) * 256 + (j 0).val) ((grid0.coords t 1).val * 256 + (j 1).val) := by
  blk_simp [iblk]
  refine (cell_eq (arr1 m c) _).trans ?_
  blk_simp [idx3]

theorem block4 (j : S128x256.Idx) : iblk m c 4 t j
    = cell (arr2 m c) ((grid0.coords t 1).val * 128 + (j 0).val) ((64 + (grid0.coords t 0).val) * 256 + (j 1).val) := by
  blk_simp [iblk]
  refine (cell_eq (arr2 m c) _).trans ?_
  blk_simp [idx4]

theorem shows : Shows (arr1 m c) (arr2 m c) (grid0.coords t 0).val (grid0.coords t 1).val (X0_1 m c t) (X0_2 m c t) (iblk m c 3 t) (iblk m c 4 t) :=
  ⟨block1 m c t, block2 m c t, block3 m c t, block4 m c t⟩

/-- The call's array: the attention of its queries, keys and values, against any real in each entry. -/
theorem final_eq (f0 : Real2 (arr0 m c)) (f1 : Real2 (arr1 m c)) (ρ : S16384x512.Idx → ℝ) :
    (dats m 0 c).arrAt 5 cfg0.N = fun y : S16384x512.Idx => attn (arr0 m c) (arr1 m c) (arr2 m c) (ρ y) (y 0).val (y 1).val := by
  refine (dats m 0 c).arrAt_eq_of_covers 5 _ (by decide +kernel) fun t hf y => ?_
  blk_simp
  show outAt m c t y = _
  refine (OUT_apply (a0 := arr0 m c) (grid0.coords t 2).isLt (shows m c t) f0 f1 (block0 m c t) y (ρ ((win0_5.blk t).view.emb y))).trans ?_
  blk_simp [idx5]
end

end Cert.KernelIdeal.Hand

end
-- ==== Proof.Reference.lean ====
module

public import proofs.«01_k».proof.Proof.Spec
public import proofs.«01_k».proof.Proof.Gen.ReferenceIdeal.Read
public import Idealize.ShloMosaic.Lib.Pipeline.Value

@[expose] public section

set_option maxRecDepth 16384

noncomputable section

/-! The reference's result at the extended reals, stage by stage: the attention against each row's greatest score. -/

namespace Cert.ReferenceIdeal.Hand

open Cert.ReferenceIdeal Cert.ReferenceIdeal.Gen Cert.ReferenceIdeal.Read Cert.Softmax
open Idealize.ShloMosaic Idealize.ShloMosaic.ValueIdx
open scoped BigOperators

variable (x0 x1 : FVec Ideal S16896x1024 .bf16) (x2 : FVec Ideal S512x16896 .bf16)

theorem queries_eq (i : S2x8192x8x128.Idx) : val_main_v1 (F := Ideal) x0 i = cell x0 (8192 * (i 0).val + (i 1).val) (128 * (i 2).val + (i 3).val) := by
  have h2 : (i 2).val < 8 := (i 2).isLt
  have h3 : (i 3).val < 128 := (i 3).isLt
  rw [val_main_v1_apply, val_main_v0_apply, cell_eq x0]
  refine congrArg₂ (cell x0) ?_ ?_
  · show ((((i 0).val * 8192 + (i 1).val) * 8 + (i 2).val) * 128 + (i 3).val) / 1024 = _
    omega
  · show ((((i 0).val * 8192 + (i 1).val) * 8 + (i 2).val) * 128 + (i 3).val) % 1024 = _
    omega

theorem ctx_keys_eq (i : S2x256x8x128.Idx) : val_main_v7 (F := Ideal) x1 i = cell x1 (16384 + 256 * (i 0).val + (i 1).val) (128 * (i 2).val + (i 3).val) := by
  have h2 : (i 2).val < 8 := (i 2).isLt
  have h3 : (i 3).val < 128 := (i 3).isLt
  rw [val_main_v7_apply, val_main_v6_apply, cell_eq x1]
  refine congrArg₂ (cell x1) ?_ ?_
  · show 16384 + ((((i 0).val * 256 + (i 1).val) * 8 + (i 2).val) * 128 + (i 3).val) / 1024 = _
    omega
  · show ((((i 0).val * 256 + (i 1).val) * 8 + (i 2).val) * 128 + (i 3).val) % 1024 = _
    omega

theorem keys_eq (i : S2x8448x8x128.Idx) : val_main_v8 (F := Ideal) x1 i = cell x1 (row (i 0).val (i 1).val) (128 * (i 2).val + (i 3).val) := by
  have h1 : (i 1).val < 8448 := (i 1).isLt
  unfold val_main_v8 row
  by_cases h : (i 1).val < 8192
  · rw [concatenate_pair_apply_left (s₁ := S2x8192x8x128) (s₂ := S2x256x8x128) 1 _ _ _ i rfl (ix4 (i 0) ⟨(i 1).val, h⟩ (i 2) (i 3))
      (fun a => match a with | ⟨0, _⟩ => rfl | ⟨1, _⟩ => rfl | ⟨2, _⟩ => rfl | ⟨3, _⟩ => rfl), if_pos h]
    refine (queries_eq x1 _).trans (congrArg₂ (cell x1) ?_ rfl)
    show 8192 * (i 0).val + (i 1).val = _
    omega
  · rw [concatenate_pair_apply_right (s₁ := S2x8192x8x128) (s₂ := S2x256x8x128) 1 _ _ _ i rfl rfl (ix4 (i 0) ⟨(i 1).val - 8192, by omega⟩ (i 2) (i 3))
      (fun a => match a with | ⟨0, _⟩ => fun _ => rfl | ⟨1, _⟩ => fun h => absurd rfl h | ⟨2, _⟩ => fun _ => rfl | ⟨3, _⟩ => fun _ => rfl)
      (by show (i 1).val - 8192 + 8192 = (i 1).val; omega), if_neg h]
    refine (ctx_keys_eq x1 _).trans (congrArg₂ (cell x1) ?_ rfl)
    show 16384 + 256 * (i 0).val + ((i 1).val - 8192) = _
    omega

theorem frame_values_eq (i : S2x8192x8x64.Idx) : val_main_v11 (F := Ideal) x2 i = cell x2 (64 * (i 2).val + (i 3).val) (8192 * (i 0).val + (i 1).val) := by
  have h2 : (i 2).val < 8 := (i 2).isLt
  have h3 : (i 3).val < 64 := (i 3).isLt
  rw [val_main_v11_apply, val_main_v10_apply, val_main_v9_apply, cell_eq x2]
  refine congrArg₂ (cell x2) ?_ ?_
  · show ((((i 0).val * 8192 + (i 1).val) * 8 + (i 2).val) * 64 + (i 3).val) % 512 = _
    omega
  · show ((((i 0).val * 8192 + (i 1).val) * 8 + (i 2).val) * 64 + (i 3).val) / 512 = _
    omega

theorem ctx_values_eq (i : S2x256x8x64.Idx) : val_main_v13 (F := Ideal) x2 i = cell x2 (64 * (i 2).val + (i 3).val) (16384 + 256 * (i 0).val + (i 1).val) := by
  have h2 : (i 2).val < 8 := (i 2).isLt
  have h3 : (i 3).val < 64 := (i 3).isLt
  rw [val_main_v13_apply, val_main_v12_apply, val_main_v9_apply, cell_eq x2]
  refine congrArg₂ (cell x2) ?_ ?_
  · show ((((i 0).val * 256 + (i 1).val) * 8 + (i 2).val) * 64 + (i 3).val) % 512 = _
    omega
  · show 16384 + ((((i 0).val * 256 + (i 1).val) * 8 + (i 2).val) * 64 + (i 3).val) / 512 = _
    omega

theorem values_eq (i : S2x8448x8x64.Idx) : val_main_v14 (F := Ideal) x2 i = vl x2 (i 0).val (i 2).val (i 3).val (i 1).val := by
  have h1 : (i 1).val < 8448 := (i 1).isLt
  have h3 : (i 3).val < 64 := (i 3).isLt
  unfold val_main_v14 vl row
  rw [if_pos h3]
  by_cases h : (i 1).val < 8192
  · rw [concatenate_pair_apply_left (s₁ := S2x8192x8x64) (s₂ := S2x256x8x64) 1 _ _ _ i rfl (ix4 (i 0) ⟨(i 1).val, h⟩ (i 2) (i 3))
      (fun a => match a with | ⟨0, _⟩ => rfl | ⟨1, _⟩ => rfl | ⟨2, _⟩ => rfl | ⟨3, _⟩ => rfl), if_pos h]
    refine (frame_values_eq x2 _).trans (congrArg₂ (cell x2) rfl ?_)
    show 8192 * (i 0).val + (i 1).val = _
    omega
  · rw [concatenate_pair_apply_right (s₁ := S2x8192x8x64) (s₂ := S2x256x8x64) 1 _ _ _ i rfl rfl (ix4 (i 0) ⟨(i 1).val - 8192, by omega⟩ (i 2) (i 3))
      (fun a => match a with | ⟨0, _⟩ => fun _ => rfl | ⟨1, _⟩ => fun h => absurd rfl h | ⟨2, _⟩ => fun _ => rfl | ⟨3, _⟩ => fun _ => rfl)
      (by show (i 1).val - 8192 + 8192 = (i 1).val; omega), if_neg h]
    refine (ctx_values_eq x2 _).trans (congrArg₂ (cell x2) rfl ?_)
    show 16384 + 256 * (i 0).val + ((i 1).val - 8192) = _
    omega

/-- The factor of the scores is the natural logarithm of 2. -/
theorem factor_eq (i : S2x8x8192x8448.Idx) : val_main_v18 (F := Ideal) i = ((Real.log 2 : ℝ) : EReal) := by
  rw [val_main_v18_apply]
  show Ideal.log (Ideal.ofBits .f32 0x40000000#32) = _
  rw [ofBits_two]
  exact (Ideal.log_coe 2).trans (if_neg (by norm_num))

/-- The greatest score of an entry's row. -/
def greatest (i : S16384x512.Idx) : ℝ :=
  (val_main_v22 (F := Ideal) x0 x1 (idx_main_v23 (idx_main_v24 (ridx_main_v32 (idx_main_v33 (idx_main_v35 i)) 0)))).toReal

variable {x0 x1} (f0 : Real2 x0) (f1 : Real2 x1)
include f0 f1

/-- The scores, in natural units. -/
theorem scores_eq (i : S2x8x8192x8448.Idx) :
    val_main_v19 (F := Ideal) x0 x1 i = ((sc x0 x1 (i 1).val (8192 * (i 0).val + (i 2).val) (i 3).val * Real.log 2 : ℝ) : EReal) := by
  have h2 : (i 2).val < 8192 := (i 2).isLt
  rw [val_main_v19_apply, val_main_v16_apply, factor_eq]
  show _ * _ = _
  rw [EReal.coe_mul]
  refine congrArg (· * _) ?_
  unfold sc
  rw [coe_sum, show (8192 * (i 0).val + (i 2).val) / 8192 = (i 0).val by omega]
  refine Finset.sum_congr rfl fun d _ => ?_
  rw [queries_eq, keys_eq, EReal.coe_mul, f0.cell, f1.cell, mul_comm]

/-- A row's greatest score is real. -/
theorem greatest_real (j : S2x8x8192.Idx) : ((val_main_v22 (F := Ideal) x0 x1 j).toReal : EReal) = val_main_v22 (F := Ideal) x0 x1 j := by
  have hr : Shape.Reduces S2x8x8192x8448 [3] S2x8x8192 := by decide
  have e : val_main_v20 (F := Ideal) x0 x1 j
      = (Finset.univ : Finset (Fin 8448)).fold max (Ideal.ofBits .f32 0xFF800000#32) (val_main_v19 (F := Ideal) x0 x1 ∘ hr.lift j) :=
    Host.reduce_eq_fold_single (max : EReal → EReal → EReal) (val_main_v19 (F := Ideal) x0 x1) (val_main_cst_0 (F := Ideal))
      reducesTo_S2x8x8192x8448_S2x8x8192_d3 hr h_S_ j
  rw [ofBits_neg_inf] at e
  obtain ⟨r, h⟩ := fold_max_real (n := 8448) (by norm_num) (val_main_v19 (F := Ideal) x0 x1 ∘ hr.lift j) _ fun k => scores_eq f0 f1 (hr.lift j k)
  have e' : val_main_v22 (F := Ideal) x0 x1 j = (r : EReal) := by
    rw [val_main_v22_apply, val_main_v21_apply]
    show max (Ideal.ofBits .f32 0xFF800000#32) _ = _
    rw [ofBits_neg_inf]
    exact (max_eq_right bot_le).trans (e.trans h)
  rw [e', EReal.toReal_coe]

/-- The exponentials. -/
theorem exps_eq (i : S2x8x8192x8448.Idx) (j : S2x8x8192.Idx) (hj : idx_main_v23 (idx_main_v24 i) = j) :
    val_main_v26 (F := Ideal) x0 x1 i
      = (Real.exp (sc x0 x1 (i 1).val (8192 * (i 0).val + (i 2).val) (i 3).val * Real.log 2 - (val_main_v22 (F := Ideal) x0 x1 j).toReal) : EReal) := by
  rw [val_main_v26_apply, val_main_v25_apply, val_main_v24_apply, val_main_v23_apply, hj, scores_eq f0 f1, ← greatest_real f0 f1 j, EReal.toReal_coe]
  exact (congrArg Ideal.exp (EReal.coe_sub _ _).symm).trans (Ideal.exp_coe _)

/-- The weights. -/
theorem weights_eq (i : S2x8x8192x8448.Idx) (j : S2x8x8192.Idx) (hj : idx_main_v23 (idx_main_v24 i) = j) :
    val_main_v31 (F := Ideal) x0 x1 i
      = share x0 x1 (i 1).val (8192 * (i 0).val + (i 2).val) (val_main_v22 (F := Ideal) x0 x1 j).toReal (i 3).val := by
  have hj' : idx_main_v28 (idx_main_v29 i) = j := hj
  show Ideal.div (val_main_v26 (F := Ideal) x0 x1 i) (val_main_v29 (F := Ideal) x0 x1 i) = _
  rw [exps_eq f0 f1 i j hj, val_main_v29_apply, val_main_v28_apply, hj', val_main_v27_apply]
  unfold share
  refine congrArg (Ideal.div _) ?_
  rw [Finset.sum_range]
  refine congrArg₂ (· + ·) Ideal.ofBits_zero_f32 (Finset.sum_congr rfl fun k _ => ?_)
  rw [exps_eq f0 f1 (idx_main_v27 j k) j (by funext a; match a with | ⟨0, _⟩ => rfl | ⟨1, _⟩ => rfl | ⟨2, _⟩ => rfl), ← hj]

/-- The reference's result, each entry against its row's greatest score. -/
theorem result_eq (i : S16384x512.Idx) : val_main_v35 (F := Ideal) x0 x1 x2 i
    = attn x0 x1 x2 (greatest x0 x1 i) (i 0).val (i 1).val := by
  have h1 : (i 1).val < 512 := (i 1).isLt
  rw [val_main_v35_apply]
  show val_main_v33 (F := Ideal) x0 x1 x2 (idx_main_v35 i) = _
  rw [val_main_v33_apply, val_main_v32_apply]
  unfold attn
  rw [Finset.sum_range]
  refine Finset.sum_congr rfl fun k _ => ?_
  rw [values_eq, weights_eq f0 f1 (ridx_main_v32 (idx_main_v33 (idx_main_v35 i)) k) (idx_main_v23 (idx_main_v24 (ridx_main_v32 (idx_main_v33 (idx_main_v35 i)) 0))) rfl]
  have e0 : ((i 0).val * 512 + (i 1).val) / 4194304 = (i 0).val / 8192 := by omega
  have e1 : 8192 * (((i 0).val * 512 + (i 1).val) / 4194304) + ((i 0).val * 512 + (i 1).val) / 512 % 8192 = (i 0).val := by omega
  have e2 : ((i 0).val * 512 + (i 1).val) / 64 % 8 = (i 1).val / 64 := by omega
  have e3 : ((i 0).val * 512 + (i 1).val) % 64 = (i 1).val % 64 := by omega
  show vl x2 (((i 0).val * 512 + (i 1).val) / 4194304) (((i 0).val * 512 + (i 1).val) / 64 % 8) (((i 0).val * 512 + (i 1).val) % 64) k.val
    * share x0 x1 (((i 0).val * 512 + (i 1).val) / 64 % 8)
        (8192 * (((i 0).val * 512 + (i 1).val) / 4194304) + ((i 0).val * 512 + (i 1).val) / 512 % 8192) _ k.val = _
  rw [e1, e0, e2, e3]
  rfl

end Cert.ReferenceIdeal.Hand

end
-- ==== Proof.Value.lean ====
module

public import proofs.«01_k».proof.Defs
public import proofs.«01_k».proof.Proof.Final
public import proofs.«01_k».proof.Proof.Reference
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores
public import Idealize.ShloMosaic.Lib.ReduceAll

@[expose] public section

set_option maxRecDepth 16384

noncomputable section

/-! The kernel and the reference compute one array at the extended reals. -/

namespace Cert.Proof

open Idealize.ShloMosaic Idealize.ShloMosaic.TcCoe Idealize.SL.Sem Cert.Softmax

/-- An extended real whose absolute value is below infinity is a real number. -/
theorem real_of_abs_lt (x : EReal) (h : Ideal.cmp .olt (max x (-x)) (Ideal.ofBits .bf16 0x7F80#16) = 1#1) : ((x.toReal : ℝ) : EReal) = x := by
  rw [ofBits_inf] at h
  have h' : max x (-x) < ⊤ := by
    by_contra hn
    rw [show Ideal.cmp .olt (max x (-x)) ⊤ = BitVec.ofBool (decide (max x (-x) < ⊤)) from rfl, decide_eq_false hn] at h
    exact absurd h (by decide)
  refine EReal.coe_toReal (fun e => ?_) (fun e => ?_) <;> subst e <;> simp at h'

/-- The condition says that the queries and the keys are real numbers. -/
theorem real_of_pre (m : (ℓ : Loc Cert.KernelIdeal.nD Cert.KernelIdeal.τ Cert.KernelIdeal.sig) → Buf (Elt Ideal) ℓ)
    (h : Cert.Pre_KernelIdeal_finite_scores m) (c : Dev Cert.KernelIdeal.nD) :
    Real2 (Cert.KernelIdeal.Hand.arr0 m c) ∧ Real2 (Cert.KernelIdeal.Hand.arr1 m c) := by
  have e0 := congrFun (h c).1 (fun a => a.elim0)
  have e1 := congrFun (h c).2 (fun a => a.elim0)
  have hs : Subsingleton Cert.Pre_finite_scores.S_.Idx := ⟨fun a b => funext fun i => i.elim0⟩
  dsimp only [Cert.Pre_finite_scores.fn] at e0 e1
  have h0 := Host.reduce_andi_all _ _ _ _ _ e0
  have h1 := Host.reduce_andi_all _ _ _ _ _ e1
  exact ⟨fun j => real_of_abs_lt (Cert.KernelIdeal.Hand.arr0 m c j) (h0 j), fun j => real_of_abs_lt (Cert.KernelIdeal.Hand.arr1 m c j) (h1 j)⟩

/-- From the same queries, keys and values, of real queries and keys, the kernel and the reference leave the same array. -/
theorem same : Cert.algebraic_KernelIdeal_ReferenceIdeal_pre_finite_scores := fun m g m' g' hp hm => by
  refine ⟨fun c => Cert.ReferenceIdeal.Value.res_main_v35 m' c, ?_, Cert.ReferenceIdeal.Value.run (F := Ideal) m' g'⟩
  refine (θ_run Cert.KernelIdeal.defs _ _).mono (fun r h c => ?_) (Cert.KernelIdeal.Hand.run_main m g)
  refine ⟨((h.1 c).1 5).trans ?_,
    ((h.1 c).1 0).trans (((Cert.KernelIdeal.Hand.dats m 0 c).arrAt_in 0 rfl _).trans (Cert.KernelIdeal.Hand.A_eq m c 0)),
    ((h.1 c).1 3).trans (((Cert.KernelIdeal.Hand.dats m 0 c).arrAt_in 3 rfl _).trans (Cert.KernelIdeal.Hand.A_eq m c 3)),
    ((h.1 c).1 4).trans (((Cert.KernelIdeal.Hand.dats m 0 c).arrAt_in 4 rfl _).trans (Cert.KernelIdeal.Hand.A_eq m c 4))⟩
  obtain ⟨f0, f1⟩ := real_of_pre m hp c
  show _ = Cert.ReferenceIdeal.Value.res_main_v35 m' c
  rw [Cert.ReferenceIdeal.Read.val_main_v35_eq, (hm c).1, (hm c).2.1, (hm c).2.2]
  refine (Cert.KernelIdeal.Hand.final_eq m c f0 f1 (Cert.ReferenceIdeal.Hand.greatest (Cert.KernelIdeal.Hand.arr0 m c) (Cert.KernelIdeal.Hand.arr1 m c))).trans (funext fun y => ?_)
  exact (Cert.ReferenceIdeal.Hand.result_eq (x0 := Cert.KernelIdeal.Hand.arr0 m c) (x1 := Cert.KernelIdeal.Hand.arr1 m c)
    (Cert.KernelIdeal.Hand.arr2 m c) f0 f1 y).symm

end Cert.Proof

end
-- ==== Proof.FfnSpec.lean ====
module

public import proofs.«01_k».proof.Proof.Spec
public import Idealize.ShloMosaic.PureOps.Ideal.Laws

@[expose] public section

noncomputable section

/-! The output projection and the feed-forward part of a layer as one formula over what one token row meets. -/

namespace Cert.Ffn

open Idealize.ShloMosaic Idealize.ShloMosaic.ValueIdx Cert.Softmax
open scoped BigOperators

/-- An entry of a rank-3 array by its coordinates, 0 outside it. -/
def cell3 {a b c : ℕ} {φ : FTy} (X : FVec Ideal ⟨3, ![a, b, c]⟩ φ) (l r k : ℕ) : EReal :=
  if h : l < a ∧ r < b ∧ k < c then X (ix3 ⟨l, h.1⟩ ⟨r, h.2.1⟩ ⟨k, h.2.2⟩) else 0

theorem cell3_eq {a b c : ℕ} {φ : FTy} (X : FVec Ideal ⟨3, ![a, b, c]⟩ φ) (j : (⟨3, ![a, b, c]⟩ : Shape).Idx) :
    X j = cell3 X (j 0).val (j 1).val (j 2).val := by
  rw [cell3, dif_pos ⟨(j 0).isLt, (j 1).isLt, (j 2).isLt⟩]
  exact congrArg X (eq_ix3 j)

/-- An entry of a rank-4 array by its coordinates, 0 outside it. -/
def cell4 {a b c d : ℕ} {φ : FTy} (X : FVec Ideal ⟨4, ![a, b, c, d]⟩ φ) (l r k e : ℕ) : EReal :=
  if h : l < a ∧ r < b ∧ k < c ∧ e < d then X (ix4 ⟨l, h.1⟩ ⟨r, h.2.1⟩ ⟨k, h.2.2.1⟩ ⟨e, h.2.2.2⟩) else 0

theorem cell4_eq {a b c d : ℕ} {φ : FTy} (X : FVec Ideal ⟨4, ![a, b, c, d]⟩ φ) (j : (⟨4, ![a, b, c, d]⟩ : Shape).Idx) :
    X j = cell4 X (j 0).val (j 1).val (j 2).val (j 3).val := by
  rw [cell4, dif_pos ⟨(j 0).isLt, (j 1).isLt, (j 2).isLt, (j 3).isLt⟩]
  exact congrArg X (eq_ix4 j)

/-- What one token row meets: its own rows, and the layer's. -/
structure Row where
  /-- the residual stream -/
  x : ℕ → EReal
  /-- the first head group's output -/
  na : ℕ → EReal
  /-- the third head group's output -/
  mla : ℕ → EReal
  /-- the recurrence's state, its two directions added -/
  h : ℕ → EReal
  /-- the gate of the second head group, before its sigmoid -/
  o : ℕ → EReal
  /-- the gain of the second head group's heads -/
  hg : ℕ → EReal
  /-- the gain of the feed-forward part's norm -/
  g : ℕ → EReal
  /-- row `i` of the modulation -/
  mod : ℕ → ℕ → EReal
  /-- the output projection -/
  w : ℕ → ℕ → EReal
  /-- the feed-forward part's two halves into the hidden layer -/
  wab : ℕ → ℕ → EReal
  /-- the feed-forward part out of the hidden layer -/
  wfo : ℕ → ℕ → EReal

/-- The small number under the norms' roots. -/
def eps : EReal := Ideal.ofBits .f32 0x358637BD#32

/-- The sigmoid. -/
def sigmoid (x : EReal) : EReal := Ideal.div 1 (1 + Ideal.exp (-x))

namespace Row
variable (R : Row)

/-- The second head group's output: the state normalised over its head, times the gain and the gate. -/
def ob (k : ℕ) : EReal :=
  R.h k * Ideal.rsqrt (Ideal.div (∑ e : Fin 64, R.h (64 * (k / 64) + e.val) * R.h (64 * (k / 64) + e.val)) ((64 : ℝ) : EReal) + eps) * R.hg k * sigmoid (R.o k)

/-- The three head groups together. -/
def heads (k : ℕ) : EReal := if k < 256 then R.na k else if k < 512 then R.ob (k - 256) else R.mla (k - 512)

/-- The residual stream after the output projection. -/
def mid (d : ℕ) : EReal := R.x d + R.mod 2 d * ∑ k : Fin 1024, R.heads k.val * R.w k.val d

/-- The factor of the feed-forward part's norm. -/
def scale : EReal := Ideal.rsqrt (Ideal.div (∑ d : Fin 1024, R.mid d.val * R.mid d.val) ((1024 : ℝ) : EReal) + eps)

/-- The feed-forward part's input. -/
def inp (d : ℕ) : EReal := R.mid d * R.scale * R.g d * (1 + R.mod 4 d) + R.mod 3 d

/-- Column `j` of the feed-forward part's product into the hidden layer. -/
def up (j : ℕ) : EReal := ∑ d : Fin 1024, R.inp d.val * R.wab d.val j

/-- The hidden layer's unit `j`. -/
def act (j : ℕ) : EReal := R.up j * sigmoid (R.up j) * R.up (2816 + j)

/-- The result. -/
def out (d : ℕ) : EReal := R.mid d + R.mod 5 d * ∑ j ∈ Finset.range 2816, R.act j * R.wfo j d
end Row

section
variable (x0 : FVec Ideal ⟨2, ![16896, 1024]⟩ .f32) (x1 : FVec Ideal ⟨4, ![4, 8, 6, 1024]⟩ .f32) (x2 : FVec Ideal ⟨2, ![16384, 256]⟩ .bf16)
  (x3 : FVec Ideal ⟨2, ![16384, 512]⟩ .bf16) (x4 x5 x6 : FVec Ideal ⟨2, ![16896, 256]⟩ .f32) (x7 : FVec Ideal ⟨3, ![4, 1, 256]⟩ .f32)
  (x8 : FVec Ideal ⟨3, ![4, 1024, 1024]⟩ .bf16) (x9 : FVec Ideal ⟨3, ![4, 1, 1024]⟩ .f32) (x10 : FVec Ideal ⟨3, ![4, 1024, 5632]⟩ .bf16)
  (x11 : FVec Ideal ⟨3, ![4, 2816, 1024]⟩ .bf16)

/-- What token row `y` meets in the call's arrays, in the last layer. -/
def rowOf (y : ℕ) : Row where
  x := cell x0 y
  na := cell x2 y
  mla := cell x3 y
  h k := cell x4 y k + cell x5 y k
  o := cell x6 y
  hg := cell3 x7 3 0
  g := cell3 x9 3 0
  mod := cell4 x1 3 (y / 8192)
  w := cell3 x8 3
  wab := cell3 x10 3
  wfo := cell3 x11 3
end

theorem ofBits_64 : Ideal.ofBits .f32 0x42800000#32 = ((64 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

end Cert.Ffn

end
-- ==== Proof.FfnTile.lean ====
module

public import proofs.«01_k».proof.Proof.FfnSpec
public import proofs.«01_k».proof.Proof.Head
public import proofs.«01_k».proof.Proof.Gen.Kernel2Ideal.Frame
public import Idealize.ShloMosaic.Lib.Pipeline.Value
public import Idealize.ShloMosaic.Lib.ValueLayoutCasts

@[expose] public section

set_option maxRecDepth 16384

noncomputable section

/-! One row of the second kernel's tile at the extended reals: what the body computes from what the row meets. -/

namespace Cert.Kernel2Ideal.Hand

open Cert.Kernel2Ideal Cert.Kernel2Ideal.Gen Cert.Softmax Cert.Ffn
open Idealize.ShloMosaic Idealize.ShloMosaic.ValueIdx
open Cert.KernelIdeal.Hand (mm_apply)
open scoped BigOperators

theorem ofBits_64th : Ideal.ofBits .f32 0x3C800000#32 = ((64⁻¹ : ℝ) : EReal) := by
  simp [Ideal.ofBits, Ideal.ieee, -EReal.coe_mul]; norm_num

/-- A 64th of a number is the number over 64. -/
theorem mul_64th (x : EReal) : x * Ideal.ofBits .f32 0x3C800000#32 = Ideal.div x ((64 : ℝ) : EReal) := by
  rw [ofBits_64th, Ideal.div, if_neg (by norm_num), EReal.coe_inv]

theorem sigmoid_eq (x : EReal) :
    Ideal.div (Ideal.ofBits .f32 0x3F800000#32) (Ideal.ofBits .f32 0x3F800000#32 + Ideal.exp (Ideal.ofBits .f32 0x00000000#32 - x)) = sigmoid x := by
  rw [Ideal.ofBits_one_f32, Ideal.ofBits_zero_f32, sub_eq_add_neg, zero_add]
  rfl

/-- A sum over 256 columns of what lies in one group of 64. -/
theorem group_sum (f : ℕ → EReal) (g : ℕ) (hg : g < 4) :
    ∑ j : Fin 256, f j.val * (if j.val / 64 = g then 1 else 0) = ∑ e : Fin 64, f (64 * g + e.val) := by
  rw [← (finProdFinEquiv (m := 4) (n := 64)).sum_comp (fun j : Fin 256 => f j.val * (if j.val / 64 = g then 1 else 0)), Fintype.sum_prod_type,
    Finset.sum_eq_single (⟨g, hg⟩ : Fin 4)]
  · refine Finset.sum_congr rfl fun e _ => ?_
    have e1 : ((finProdFinEquiv ((⟨g, hg⟩ : Fin 4), e) : Fin (4 * 64)) : ℕ) = 64 * g + e.val := by
      show e.val + 64 * g = _
      omega
    rw [e1, if_pos (by omega), mul_one]
  · intro b _ hb
    refine Finset.sum_eq_zero fun e _ => ?_
    have hb' : b.val ≠ g := fun h => hb (Fin.ext h)
    have e1 : ((finProdFinEquiv (b, e) : Fin (4 * 64)) : ℕ) = e.val + 64 * b.val := rfl
    rw [e1, if_neg (by omega), mul_zero]
  · exact fun h => absurd (Finset.mem_univ _) h

section
variable {R : Row} {r : Fin 512}

/-- The means of squares of the state's heads: the squares' second half is nothing when the state is real. -/
theorem groups_apply (a b : Vec Ideal S512x256 .f32) (bd : Vec Ideal S256x256 .bf16) (h : ∀ k : Fin 256, a (ix2 r k) + b (ix2 r k) = R.h k.val)
    (hr : ∀ k, ∃ x : ℝ, R.h k = (x : EReal)) (hbd : ∀ j k : Fin 256, bd (ix2 j k) = if j.val / 64 = k.val / 64 then 1 else 0) (k : Fin 256) :
    k0_pay8 a b bd (ix2 r k) = Ideal.div (∑ e : Fin 64, R.h (64 * (k.val / 64) + e.val) * R.h (64 * (k.val / 64) + e.val)) ((64 : ℝ) : EReal) := by
  show (FloatOps.matmul (φ₁ := .bf16) (φ₂ := .bf16) (DotDims.plain 512 256 256) none (mulf (k0_pay7 a b) (k0_pay7 a b))
      bd (constant (F := Ideal) ⟨2, ![512, 256]⟩ .f32 0x00000000#32) (ix2 r k)
    + FloatOps.matmul (φ₁ := .bf16) (φ₂ := .bf16) (DotDims.plain 512 256 256) none (subf (mulf (k0_pay7 a b) (k0_pay7 a b)) (mulf (k0_pay7 a b) (k0_pay7 a b)))
      bd (constant (F := Ideal) ⟨2, ![512, 256]⟩ .f32 0x00000000#32) (ix2 r k)) * Ideal.ofBits .f32 0x3C800000#32 = _
  rw [mm_apply, mm_apply]
  have e0 : ∀ j : Fin 256, mulf (k0_pay7 a b) (k0_pay7 a b) (ix2 r j) = R.h j.val * R.h j.val := fun j => by
    show (a (ix2 r j) + b (ix2 r j)) * (a (ix2 r j) + b (ix2 r j)) = _
    rw [h]
  have z : ∀ j : Fin 256, subf (mulf (k0_pay7 a b) (k0_pay7 a b)) (mulf (k0_pay7 a b) (k0_pay7 a b)) (ix2 r j) = 0 := fun j => by
    show mulf (k0_pay7 a b) (k0_pay7 a b) (ix2 r j) - mulf (k0_pay7 a b) (k0_pay7 a b) (ix2 r j) = 0
    obtain ⟨x, hx⟩ := hr j.val
    rw [e0, hx, ← EReal.coe_mul, ← EReal.coe_sub, sub_self, EReal.coe_zero]
  rw [mul_64th]
  refine (congrArg (Ideal.div · _) (congrArg₂ (· + ·) (Finset.sum_congr rfl fun j _ => congrArg₂ (· * ·) (e0 j) (hbd j k))
    (Finset.sum_congr rfl fun j _ => congrArg₂ (· * ·) (z j) (hbd j k)))).trans ?_
  rw [group_sum (fun j => R.h j * R.h j) _ (by omega)]
  simp

/-- The second head group's output, of the body. -/
def obBlk (v15 v26 : FVec Ideal S512x256 .f32) (v32 : Vec Ideal S1x1x256 .f32) (v36 : Vec Ideal S512x256 .f32) : FVec Ideal S512x256 .f32 :=
  mulf (mulf (mulf v15 (rsqrt (addf v26 (broadcast S512x256 (Scalar.ofBits .f32 0x358637BD#32)))))
      (broadcastTo S512x256 (shapeCast S1x256 v32 shapeCasts_S1x1x256_S1x256) broadcasts_S1x256_S512x256))
    (divf (broadcast S512x256 (Scalar.ofBits .f32 0x3F800000#32)) (addf (broadcast S512x256 (Scalar.ofBits .f32 0x3F800000#32))
      (exp (subf (broadcast S512x256 (Scalar.ofBits .f32 0x00000000#32)) v36))))

theorem obBlk_apply (v15 v26 : FVec Ideal S512x256 .f32) (v32 : Vec Ideal S1x1x256 .f32) (v36 : Vec Ideal S512x256 .f32) (k : Fin 256)
    (h15 : v15 (ix2 r k) = R.h k.val)
    (h26 : v26 (ix2 r k) = Ideal.div (∑ e : Fin 64, R.h (64 * (k.val / 64) + e.val) * R.h (64 * (k.val / 64) + e.val)) ((64 : ℝ) : EReal))
    (h32 : v32 (ix3 (0 : Fin 1) (0 : Fin 1) k) = R.hg k.val) (h36 : v36 (ix2 r k) = R.o k.val) :
    obBlk v15 v26 v32 v36 (ix2 r k) = R.ob k.val := by
  show v15 (ix2 r k) * Ideal.rsqrt (v26 (ix2 r k) + eps)
      * broadcastTo S512x256 (shapeCast S1x256 v32 shapeCasts_S1x1x256_S1x256) broadcasts_S1x256_S512x256 (ix2 r k)
      * Ideal.div (Ideal.ofBits .f32 0x3F800000#32) (Ideal.ofBits .f32 0x3F800000#32 + Ideal.exp (Ideal.ofBits .f32 0x00000000#32 - v36 (ix2 r k))) = _
  rw [sigmoid_eq, broadcastTo_1b_ab_apply, shapeCast_1ab_ab_apply, h15, h26, h32, h36]
  rfl

/-- The residual stream after the output projection. -/
theorem mid_apply (v0 : Vec Ideal S512x1024 .f32) (v4 : Vec Ideal S512x512 .bf16) (v6 : FVec Ideal S1x1024 .f32) (v15 v26 : FVec Ideal S512x256 .f32)
    (v32 : Vec Ideal S1x1x256 .f32) (v36 : Vec Ideal S512x256 .f32) (v46 : Vec Ideal S512x256 .bf16) (v48 : Vec Ideal S1x1024x1024 .bf16)
    (h0 : ∀ d : Fin 1024, v0 (ix2 r d) = R.x d.val) (h4 : ∀ k : Fin 512, v4 (ix2 r k) = R.mla k.val) (h6 : ∀ d : Fin 1024, v6 (ix2 (0 : Fin 1) d) = R.mod 2 d.val)
    (hob : ∀ k : Fin 256, obBlk v15 v26 v32 v36 (ix2 r k) = R.ob k.val) (h46 : ∀ k : Fin 256, v46 (ix2 r k) = R.na k.val)
    (h48 : ∀ k d : Fin 1024, v48 (ix3 (0 : Fin 1) k d) = R.w k.val d.val) (d : Fin 1024) :
    k0_pay9 v0 v4 v6 v15 v26 v32 v36 v46 v48 (ix2 r d) = R.mid d.val := by
  have hc : ∀ k : Fin 1024, concatenate S512x1024 1 [⟨S512x256, v46⟩, ⟨S512x256, obBlk v15 v26 v32 v36⟩, ⟨S512x512, v4⟩]
      concatenates_S512x256_S512x256_S512x512_S512x1024_d1 (ix2 r k) = R.heads k.val := fun k => by
    unfold Row.heads
    by_cases ha : k.val < 256
    · rw [if_pos ha, concatenate_apply_piece (1 : Fin 2) _ _ (ix2 r k) 0 (by simp) S512x256 _ rfl rfl 0 rfl (ix2 r ⟨k.val, ha⟩)
        (fun a => match a with | ⟨0, _⟩ => fun _ => rfl | ⟨1, _⟩ => fun h => absurd rfl h) (Nat.zero_add _), h46]
    · rw [if_neg ha]
      by_cases hb : k.val < 512
      · rw [if_pos hb, concatenate_apply_piece (1 : Fin 2) _ _ (ix2 r k) 1 (by simp) S512x256 _ rfl rfl 256 rfl (ix2 r ⟨k.val - 256, by omega⟩)
          (fun a => match a with | ⟨0, _⟩ => fun _ => rfl | ⟨1, _⟩ => fun h => absurd rfl h) (by show 256 + (k.val - 256) = k.val; omega), hob]
      · rw [if_neg hb, concatenate_apply_piece (1 : Fin 2) _ _ (ix2 r k) 2 (by simp) S512x512 _ rfl rfl 512 rfl (ix2 r ⟨k.val - 512, by omega⟩)
          (fun a => match a with | ⟨0, _⟩ => fun _ => rfl | ⟨1, _⟩ => fun h => absurd rfl h) (by show 512 + (k.val - 512) = k.val; omega), h4]
  show v0 (ix2 r d) + broadcastTo S512x1024 v6 broadcasts_S1x1024_S512x1024 (ix2 r d)
    * FloatOps.matmul (φ₁ := .bf16) (φ₂ := .bf16) (DotDims.plain 512 1024 1024) none
        (concatenate S512x1024 1 [⟨S512x256, v46⟩, ⟨S512x256, obBlk v15 v26 v32 v36⟩, ⟨S512x512, v4⟩] concatenates_S512x256_S512x256_S512x512_S512x1024_d1)
        (shapeCast S1024x1024 v48 shapeCasts_S1x1024x1024_S1024x1024) (constant (F := Ideal) ⟨2, ![512, 1024]⟩ .f32 0x00000000#32) (ix2 r d) = _
  rw [mm_apply, broadcastTo_1b_ab_apply, h0, h6]
  unfold Row.mid
  refine congrArg₂ (· + ·) rfl (congrArg₂ (· * ·) rfl (Finset.sum_congr rfl fun k _ => ?_))
  rw [hc, shapeCast_1ab_ab_apply, h48]

/-- The feed-forward part's norm, of the body. -/
def normBlk (x : FVec Ideal S512x1024 .f32) : FVec Ideal S512x1024 .f32 :=
  mulf x (broadcastTo S512x1024 (rsqrt (addf (divf (shapeCast S512x1 (multiReduction .add [1] S512 (mulf x x) 0x00000000#32 reduces_S512x1024_S512 (.inl rfl) rfl)
    shapeCasts_S512_S512x1) (broadcast S512x1 (Scalar.ofBits .f32 0x44800000#32))) (broadcast S512x1 (Scalar.ofBits .f32 0x358637BD#32)))) broadcasts_S512x1_S512x1024)

theorem row_sum_apply (x : FVec Ideal S512x1024 .f32) (r : Fin 512) :
    multiReduction .add [1] S512 x 0x00000000#32 reduces_S512x1024_S512 (.inl rfl) rfl (ix1 r) = ∑ k : Fin 1024, x (ix2 r k) :=
  (Ideal.multiReduction_add_single x _ reduces_S512x1024_S512 (.inl rfl) rfl (ix1 r)).trans
    (Finset.sum_congr rfl fun k _ => congrArg x (funext fun a => match a with | ⟨0, _⟩ => rfl | ⟨1, _⟩ => rfl))

theorem normBlk_apply (x : FVec Ideal S512x1024 .f32) (h : ∀ d : Fin 1024, x (ix2 r d) = R.mid d.val) (d : Fin 1024) :
    normBlk x (ix2 r d) = R.mid d.val * R.scale := by
  show x (ix2 r d) * broadcastTo S512x1024 _ broadcasts_S512x1_S512x1024 (ix2 r d) = _
  rw [h, broadcastTo_apply _ broadcasts_S512x1_S512x1024 (ix2 r d) (ix2 r (0 : Fin 1)) fun a => match a with | ⟨0, _⟩ => rfl | ⟨1, _⟩ => rfl]
  show _ * Ideal.rsqrt (Ideal.div (shapeCast S512x1 _ shapeCasts_S512_S512x1 (ix2 r (0 : Fin 1))) (Ideal.ofBits .f32 0x44800000#32) + eps) = _
  rw [shapeCast_a_a1_apply, ofBits_1024]
  exact congrArg (R.mid d.val * ·) (congrArg (fun s => Ideal.rsqrt (Ideal.div s _ + eps))
    ((row_sum_apply (mulf x x) r).trans (Finset.sum_congr rfl fun k _ => congrArg₂ (· * ·) (h k) (h k))))

/-- The feed-forward part's input. -/
theorem inp_apply (v8 v10 : FVec Ideal S1x1024 .f32) (x : FVec Ideal S512x1024 .f32) (v65 : FVec Ideal S512x1024 .f32)
    (h8 : ∀ d : Fin 1024, v8 (ix2 (0 : Fin 1) d) = R.mod 3 d.val) (h10 : ∀ d : Fin 1024, v10 (ix2 (0 : Fin 1) d) = R.mod 4 d.val)
    (h : ∀ d : Fin 1024, x (ix2 r d) = R.mid d.val * R.scale) (h65 : ∀ d : Fin 1024, v65 (ix2 r d) = R.g d.val) (d : Fin 1024) :
    k0_pay12 v8 v10 x v65 (ix2 r d) = R.inp d.val := by
  show x (ix2 r d) * v65 (ix2 r d)
      * broadcastTo S512x1024 (addf (broadcast S1x1024 (Scalar.ofBits .f32 0x3F800000#32)) v10) broadcasts_S1x1024_S512x1024 (ix2 r d)
    + broadcastTo S512x1024 v8 broadcasts_S1x1024_S512x1024 (ix2 r d) = _
  rw [broadcastTo_1b_ab_apply, broadcastTo_1b_ab_apply, h, h8, h65]
  refine congrArg₂ (· + ·) (congrArg₂ (· * ·) rfl (congrArg₂ (· + ·) Ideal.ofBits_one_f32 (h10 d))) rfl

/-- The feed-forward part's product into a stretch of `W` columns of the hidden layer, of the body. -/
def upBlk (W : ℕ) (X : FVec Ideal ⟨2, ![512, 1024]⟩ .bf16) (A : FVec Ideal ⟨3, ![1, 1024, W]⟩ .bf16)
    (hc : (⟨3, ![1, 1024, W]⟩ : Shape).ShapeCasts ⟨2, ![1024, W]⟩) : FVec Ideal ⟨2, ![512, W]⟩ .f32 :=
  FloatOps.matmul (φ₁ := .bf16) (φ₂ := .bf16) (DotDims.plain 512 1024 W) none X (shapeCast ⟨2, ![1024, W]⟩ A hc) (constant (F := Ideal) ⟨2, ![512, W]⟩ .f32 0x00000000#32)

/-- The hidden layer's units of a stretch, of the body, from the two products. -/
def actBlk (W : ℕ) (a b : FVec Ideal ⟨2, ![512, W]⟩ .f32) : FVec Ideal ⟨2, ![512, W]⟩ .f32 :=
  mulf (mulf a (divf (broadcast ⟨2, ![512, W]⟩ (Scalar.ofBits .f32 0x3F800000#32)) (addf (broadcast ⟨2, ![512, W]⟩ (Scalar.ofBits .f32 0x3F800000#32))
    (exp (subf (broadcast ⟨2, ![512, W]⟩ (Scalar.ofBits .f32 0x00000000#32)) a))))) b

/-- A stretch's share of the feed-forward part's result, of the body. -/
def downBlk (W : ℕ) (h : FVec Ideal ⟨2, ![512, W]⟩ .f32) (D : FVec Ideal ⟨3, ![1, W, 1024]⟩ .bf16)
    (hd : (⟨3, ![1, W, 1024]⟩ : Shape).ShapeCasts ⟨2, ![W, 1024]⟩) : FVec Ideal ⟨2, ![512, 1024]⟩ .f32 :=
  FloatOps.matmul (φ₁ := .bf16) (φ₂ := .bf16) (DotDims.plain 512 W 1024) none h (shapeCast ⟨2, ![W, 1024]⟩ D hd)
    (constant (F := Ideal) ⟨2, ![512, 1024]⟩ .f32 0x00000000#32)

theorem upBlk_apply (W c : ℕ) (X : FVec Ideal ⟨2, ![512, 1024]⟩ .bf16) (A : FVec Ideal ⟨3, ![1, 1024, W]⟩ .bf16)
    (hc : (⟨3, ![1, 1024, W]⟩ : Shape).ShapeCasts ⟨2, ![1024, W]⟩)
    (hX : ∀ d : Fin 1024, X (ix2 r d) = R.inp d.val) (hA : ∀ (d : Fin 1024) (j : Fin W), A (ix3 (0 : Fin 1) d j) = R.wab d.val (c + j.val)) (j : Fin W) :
    upBlk W X A hc (ix2 r j) = R.up (c + j.val) := by
  unfold upBlk
  rw [mm_apply]
  exact Finset.sum_congr rfl fun k _ => by rw [hX, shapeCast_1ab_ab_apply, hA]

theorem actBlk_apply (W : ℕ) (a b : FVec Ideal ⟨2, ![512, W]⟩ .f32) (x y : EReal) (j : Fin W) (ha : a (ix2 r j) = x) (hb : b (ix2 r j) = y) :
    actBlk W a b (ix2 r j) = x * sigmoid x * y := by
  rw [← ha, ← hb, ← sigmoid_eq]
  rfl

theorem stretch_apply (W c : ℕ) (X : FVec Ideal ⟨2, ![512, 1024]⟩ .bf16) (A B : FVec Ideal ⟨3, ![1, 1024, W]⟩ .bf16) (D : FVec Ideal ⟨3, ![1, W, 1024]⟩ .bf16)
    (hc : (⟨3, ![1, 1024, W]⟩ : Shape).ShapeCasts ⟨2, ![1024, W]⟩) (hd : (⟨3, ![1, W, 1024]⟩ : Shape).ShapeCasts ⟨2, ![W, 1024]⟩)
    (hX : ∀ d : Fin 1024, X (ix2 r d) = R.inp d.val) (hA : ∀ (d : Fin 1024) (j : Fin W), A (ix3 (0 : Fin 1) d j) = R.wab d.val (c + j.val))
    (hB : ∀ (d : Fin 1024) (j : Fin W), B (ix3 (0 : Fin 1) d j) = R.wab d.val (2816 + c + j.val))
    (hD : ∀ (j : Fin W) (d : Fin 1024), D (ix3 (0 : Fin 1) j d) = R.wfo (c + j.val) d.val) (d : Fin 1024) :
    downBlk W (actBlk W (upBlk W X A hc) (upBlk W X B hc)) D hd (ix2 r d) = ∑ j ∈ Finset.range W, R.act (c + j) * R.wfo (c + j) d.val := by
  unfold downBlk
  rw [mm_apply, Finset.sum_range]
  refine Finset.sum_congr rfl fun j _ => ?_
  rw [shapeCast_1ab_ab_apply, hD, actBlk_apply W _ _ _ _ j (upBlk_apply W c X A hc hX hA j) (upBlk_apply W (2816 + c) X B hc hX hB j), Nat.add_assoc]
  rfl

/-- The sum over the hidden layer, in the body's five stretches. -/
theorem stretches (f : ℕ → EReal) : ∑ j ∈ Finset.range 2816, f j
    = 0 + ∑ j ∈ Finset.range 512, f (0 + j) + ∑ j ∈ Finset.range 512, f (512 + j) + ∑ j ∈ Finset.range 512, f (1024 + j) + ∑ j ∈ Finset.range 512, f (1536 + j)
      + ∑ j ∈ Finset.range 768, f (2048 + j) := by
  rw [show 2816 = 512 + 512 + 512 + 512 + 768 from rfl, Finset.sum_range_add, Finset.sum_range_add, Finset.sum_range_add, Finset.sum_range_add, zero_add]
  simp only [Nat.zero_add, Nat.reduceAdd]

/-- A grid point's blocks show, in row `r`, what `R` names. -/
structure Meets (R : Row) (r : Fin 512) (x0 : Vec Ideal S512x1024 .f32) (x2 : Vec Ideal S1x1x6x1024 .f32) (x3 : Vec Ideal S512x256 .bf16)
    (x4 : Vec Ideal S512x512 .bf16) (x6 x7 x8 : Vec Ideal S512x256 .f32) (x9 : Vec Ideal S1x1x256 .f32) (x10 : Vec Ideal S256x256 .bf16)
    (x11 : Vec Ideal S1x1024x1024 .bf16) (x12 : Vec Ideal S1x1x1024 .f32) (x13 : Vec Ideal S1x1024x5632 .bf16) (x14 : Vec Ideal S1x2816x1024 .bf16) : Prop where
  x : ∀ d : Fin 1024, x0 (ix2 r d) = R.x d.val
  mod : ∀ (n : Fin 6) (d : Fin 1024), x2 (ix4 (0 : Fin 1) (0 : Fin 1) n d) = R.mod n.val d.val
  na : ∀ k : Fin 256, x3 (ix2 r k) = R.na k.val
  mla : ∀ k : Fin 512, x4 (ix2 r k) = R.mla k.val
  h : ∀ k : Fin 256, x6 (ix2 r k) + x7 (ix2 r k) = R.h k.val
  o : ∀ k : Fin 256, x8 (ix2 r k) = R.o k.val
  hg : ∀ k : Fin 256, x9 (ix3 (0 : Fin 1) (0 : Fin 1) k) = R.hg k.val
  bd : ∀ j k : Fin 256, x10 (ix2 j k) = if j.val / 64 = k.val / 64 then 1 else 0
  w : ∀ k d : Fin 1024, x11 (ix3 (0 : Fin 1) k d) = R.w k.val d.val
  g : ∀ d : Fin 1024, x12 (ix3 (0 : Fin 1) (0 : Fin 1) d) = R.g d.val
  wab : ∀ (d : Fin 1024) (j : Fin 5632), x13 (ix3 (0 : Fin 1) d j) = R.wab d.val j.val
  wfo : ∀ (j : Fin 2816) (d : Fin 1024), x14 (ix3 (0 : Fin 1) j d) = R.wfo j.val d.val
  real : ∀ k, ∃ x : ℝ, R.h k = (x : EReal)

section
variable {x0 : Vec Ideal S512x1024 .f32} {x2 : Vec Ideal S1x1x6x1024 .f32} {x3 : Vec Ideal S512x256 .bf16}
  {x4 : Vec Ideal S512x512 .bf16} {x6 x7 x8 : Vec Ideal S512x256 .f32} {x9 : Vec Ideal S1x1x256 .f32} {x10 : Vec Ideal S256x256 .bf16}
  {x11 : Vec Ideal S1x1024x1024 .bf16} {x12 : Vec Ideal S1x1x1024 .f32} {x13 : Vec Ideal S1x1024x5632 .bf16} {x14 : Vec Ideal S1x2816x1024 .bf16}
  (M : Meets R r x0 x2 x3 x4 x6 x7 x8 x9 x10 x11 x12 x13 x14)
include M

/-- A stretch of the weights into the hidden layer, loaded. -/
theorem Meets.wab_ld (c W : ℕ) (inb : ∀ a, (![0, 0, c] : Fin 3 → ℕ) a + (![1, 1024, W] : Fin 3 → ℕ) a ≤ S1x1024x5632.size a) (d : Fin 1024) (j : Fin W) :
    (View.ld x13 (Rect.unit (s := S1x1024x5632) ![0, 0, c] ![1, 1024, W] inb) : Vec Ideal ⟨3, ![1, 1024, W]⟩ .bf16) (ix3 (0 : Fin 1) d j) = R.wab d.val (c + j.val) := by
  have hc : c + W ≤ 5632 := inb 2
  refine (congrArg x13 ?_).trans (M.wab d ⟨c + j.val, by omega⟩)
  exact funext fun a => Fin.ext (match a with
    | ⟨0, _⟩ => rfl
    | ⟨1, _⟩ => by show 0 + 1 * d.val = d.val; omega
    | ⟨2, _⟩ => by show c + 1 * j.val = c + j.val; omega)

/-- A stretch of the weights out of the hidden layer, loaded. -/
theorem Meets.wfo_ld (c W : ℕ) (inb : ∀ a, (![0, c, 0] : Fin 3 → ℕ) a + (![1, W, 1024] : Fin 3 → ℕ) a ≤ S1x2816x1024.size a) (j : Fin W) (d : Fin 1024) :
    (View.ld x14 (Rect.unit (s := S1x2816x1024) ![0, c, 0] ![1, W, 1024] inb) : Vec Ideal ⟨3, ![1, W, 1024]⟩ .bf16) (ix3 (0 : Fin 1) j d) = R.wfo (c + j.val) d.val := by
  have hc : c + W ≤ 2816 := inb 1
  refine (congrArg x14 ?_).trans (M.wfo ⟨c + j.val, by omega⟩ d)
  exact funext fun a => Fin.ext (match a with
    | ⟨0, _⟩ => rfl
    | ⟨1, _⟩ => by show c + 1 * j.val = c + j.val; omega
    | ⟨2, _⟩ => by show 0 + 1 * d.val = d.val; omega)

/-- A row of the modulation, loaded. -/
theorem Meets.mod_ld (n : Fin 6) (inb : ∀ a, (![0, 0, n.val, 0] : Fin 4 → ℕ) a + (![1, 1, 1, 1024] : Fin 4 → ℕ) a ≤ S1x1x6x1024.size a) (d : Fin 1024) :
    shapeCast S1x1024 (View.ld x2 (Rect.unit (s := S1x1x6x1024) ![0, 0, n.val, 0] ![1, 1, 1, 1024] inb) : Vec Ideal S1x1x1x1024 .f32)
      shapeCasts_S1x1x1x1024_S1x1024 (ix2 (0 : Fin 1) d) = R.mod n.val d.val := by
  rw [shapeCast_apply _ shapeCasts_S1x1x1x1024_S1x1024 (ix2 (0 : Fin 1) d) (ix4 (0 : Fin 1) (0 : Fin 1) (0 : Fin 1) d)
    (by rw [Shape.rowMajor_val_four, Shape.rowMajor_val_two]; rfl)]
  refine (congrArg x2 ?_).trans (M.mod n d)
  exact funext fun a => Fin.ext (match a with
    | ⟨0, _⟩ => rfl
    | ⟨1, _⟩ => rfl
    | ⟨2, _⟩ => by show n.val + 1 * 0 = n.val; omega
    | ⟨3, _⟩ => by show 0 + 1 * d.val = d.val; omega)

/-- The row's result. -/
theorem Meets.out (i : grid0.Coords) (x1 : Vec Ideal S512x1024 .f32) (x5 : Vec Ideal S512x512 .bf16) (d : Fin 1024) :
    out0_15 i x0 x1 x2 x3 x4 x5 x6 x7 x8 x9 x10 x11 x12 x13 x14 (ix2 r d) = R.out d.val := by
  have e4 : k0_pay19 i x0 x1 x2 x3 x4 x5 x6 x7 x8 x9 x10 x11 x12 x13 x14 = x4 := by
    unfold k0_pay19
    rw [View.ld_unit_lit _ x4 (by decide), View.ld_unit_lit _ x5 (by decide)]
    have hi : Scalar.cmpi .slt (BitVec.ofNat 32 (i 0).val) 32#32 = 1#1 := by
      have : ∀ n : Fin 32, Scalar.cmpi .slt (BitVec.ofNat 32 n.val) 32#32 = 1#1 := by decide
      exact this (i 0)
    show Scalar.select (Scalar.cmpi .slt (BitVec.ofNat 32 (i 0).val) 32#32) x4 x5 = x4
    rw [hi]
    rfl
  have hmid : ∀ d : Fin 1024, k0_pay9 x0 (k0_pay19 i x0 x1 x2 x3 x4 x5 x6 x7 x8 x9 x10 x11 x12 x13 x14) (k0_pay20 i x0 x1 x2 x3 x4 x5 x6 x7 x8 x9 x10 x11 x12 x13 x14) (k0_pay7 x6 x7) (k0_pay8 x6 x7 x10) x9 x8 x3 x11 (ix2 r d) = R.mid d.val := by
    rw [e4]
    exact mid_apply _ _ _ _ _ _ _ _ _ M.x M.mla (M.mod_ld 2 inb_S1x1x6x1024_S1x1x1x1024_0_0_2_0)
      (fun k => obBlk_apply _ _ _ _ k (M.h k) (groups_apply x6 x7 x10 M.h M.real M.bd k) (M.hg k) (M.o k)) M.na M.w
  have hinp : ∀ d : Fin 1024, k0_pay27 i x0 x1 x2 x3 x4 x5 x6 x7 x8 x9 x10 x11 x12 x13 x14 (ix2 r d) = R.inp d.val := by
    unfold k0_pay27 k0_pay25 k0_pay23 k0_pay24
    rw [View.ld_unit_lit _ x0 (by decide), View.ld_unit_lit _ x6 (by decide), View.ld_unit_lit _ x7 (by decide), View.ld_unit_lit _ x10 (by decide),
      View.ld_unit_lit _ x9 (by decide), View.ld_unit_lit _ x8 (by decide), View.ld_unit_lit _ x3 (by decide), View.ld_unit_lit _ x11 (by decide)]
    refine inp_apply _ _ _ _ (M.mod_ld 3 inb_S1x1x6x1024_S1x1x1x1024_0_0_3_0) (M.mod_ld 4 inb_S1x1x6x1024_S1x1x1x1024_0_0_4_0) (normBlk_apply _ hmid) fun d => ?_
    unfold k0_pay26
    rw [View.ld_unit_lit _ x12 (by decide)]
    unfold k0_pay11
    exact (broadcastTo_1b_ab_apply _ _ _ _).trans ((shapeCast_1ab_ab_apply x12 _ _ _).trans (M.g d))
  have h0 := stretch_apply 512 0 (k0_pay27 i x0 x1 x2 x3 x4 x5 x6 x7 x8 x9 x10 x11 x12 x13 x14) (View.ld x13 r0_11) (View.ld x13 r0_12) (View.ld x14 r0_13) shapeCasts_S1x1024x512_S1024x512 shapeCasts_S1x512x1024_S512x1024
    hinp (M.wab_ld 0 512 _) (M.wab_ld 2816 512 _) (M.wfo_ld 0 512 _) d
  have h1 := stretch_apply 512 512 (k0_pay27 i x0 x1 x2 x3 x4 x5 x6 x7 x8 x9 x10 x11 x12 x13 x14) (View.ld x13 r0_14) (View.ld x13 r0_15) (View.ld x14 r0_16) shapeCasts_S1x1024x512_S1024x512 shapeCasts_S1x512x1024_S512x1024
    hinp (M.wab_ld 512 512 _) (M.wab_ld 3328 512 _) (M.wfo_ld 512 512 _) d
  have h2 := stretch_apply 512 1024 (k0_pay27 i x0 x1 x2 x3 x4 x5 x6 x7 x8 x9 x10 x11 x12 x13 x14) (View.ld x13 r0_17) (View.ld x13 r0_18) (View.ld x14 r0_19) shapeCasts_S1x1024x512_S1024x512 shapeCasts_S1x512x1024_S512x1024
    hinp (M.wab_ld 1024 512 _) (M.wab_ld 3840 512 _) (M.wfo_ld 1024 512 _) d
  have h3 := stretch_apply 512 1536 (k0_pay27 i x0 x1 x2 x3 x4 x5 x6 x7 x8 x9 x10 x11 x12 x13 x14) (View.ld x13 r0_20) (View.ld x13 r0_21) (View.ld x14 r0_22) shapeCasts_S1x1024x512_S1024x512 shapeCasts_S1x512x1024_S512x1024
    hinp (M.wab_ld 1536 512 _) (M.wab_ld 4352 512 _) (M.wfo_ld 1536 512 _) d
  have h4 := stretch_apply 768 2048 (k0_pay27 i x0 x1 x2 x3 x4 x5 x6 x7 x8 x9 x10 x11 x12 x13 x14) (View.ld x13 r0_23) (View.ld x13 r0_24) (View.ld x14 r0_25) shapeCasts_S1x1024x768_S1024x768 shapeCasts_S1x768x1024_S768x1024
    hinp (M.wab_ld 2048 768 _) (M.wab_ld 4864 768 _) (M.wfo_ld 2048 768 _) d
  unfold Row.out
  have h5 : _ = R.mod 5 d.val := M.mod_ld 5 inb_S1x1x6x1024_S1x1x1x1024_0_0_5_0 d
  rw [stretches, ← h0, ← h1, ← h2, ← h3, ← h4, ← hmid, ← h5, ← Ideal.ofBits_zero_f32]
  unfold out0_15
  rw [View.canon_cons_unit_lit _ _ _ (by decide), View.ld_unit_lit _ x0 (by decide),
      View.ld_unit_lit _ x9 (by decide), View.ld_unit_lit _ x8 (by decide), View.ld_unit_lit _ x3 (by decide), View.ld_unit_lit _ x11 (by decide)]
  unfold k0_pay23 k0_pay24
  rw [View.ld_unit_lit _ x6 (by decide), View.ld_unit_lit _ x7 (by decide), View.ld_unit_lit _ x10 (by decide)]
  rfl
end
end

end Cert.Kernel2Ideal.Hand

end
-- ==== Proof.FfnTable.lean ====
module

public import proofs.«01_k».proof.Kernel2Ideal
public import Mathlib.Tactic.IntervalCases

@[expose] public section

set_option maxRecDepth 16384

/-! The table of ones: its entries, from the digits of their positions. -/

namespace Cert.Kernel2Ideal.Hand

open Cert.Kernel2Ideal

/-- The two words of the table, by a condition. -/
abbrev word (p : Prop) [Decidable p] : BitVec 16 := if p then 0x3F80#16 else 0x0000#16

/-- A stretch of 128 entries that repeats and holds what a condition on the last digit says. -/
theorem stretch_word (f : ℕ → BitVec 16) (b : ℕ → Prop) [DecidablePred b] (hm : ∀ i, f (i % 128) = f i) (e : ∀ r : Fin 128, f r.val = word (b r.val))
    (p : Prop) [Decidable p] (i : ℕ) (h : p ↔ b (i % 128)) : f i = word p := by
  rw [← hm, e ⟨i % 128, Nat.mod_lt _ (by decide)⟩]
  exact if_congr h.symm rfl rfl

/-- The three kinds of stretches: ones in the first half, ones in the second half, no ones. -/
theorem first_ones (p : Prop) [Decidable p] (i : ℕ) (h : p ↔ i % 128 < 64) : lit0t0_0 i = word p :=
  stretch_word _ (· < 64) (fun i => by unfold lit0t0_0; rw [Nat.mod_mod]) (by decide +kernel) p i h
theorem last_ones (p : Prop) [Decidable p] (i : ℕ) (h : p ↔ 64 ≤ i % 128) : lit0t0_128 i = word p :=
  stretch_word _ (64 ≤ ·) (fun i => by unfold lit0t0_128; rw [Nat.mod_mod]) (by decide +kernel) p i h
theorem no_ones (p : Prop) [Decidable p] (i : ℕ) (h : ¬p) : lit0t0_1 i = word p :=
  stretch_word _ (fun _ => False) (fun i => by unfold lit0t0_1; rw [Nat.mod_mod]) (by decide +kernel) p i (iff_false_intro h)

set_option maxHeartbeats 4000000 in
/-- Every entry of the table: 1 where the row's and the column's block of 64 agree, else 0. -/
theorem table_word (i : ℕ) (hi : i < 65536) : lit0t i = word (i / 256 / 64 = i % 256 / 64) := by
  obtain ⟨c, hc⟩ : ∃ c, i / 16384 = c := ⟨_, rfl⟩
  obtain ⟨q, hq⟩ : ∃ q, i / 128 % 128 = q := ⟨_, rfl⟩
  have hc4 : c < 4 := by omega
  have hl : q < 128 := by omega
  have hr : i / 256 = 64 * c + q / 2 := by omega
  have hk : i % 256 = 128 * (q % 2) + i % 128 := by omega
  rw [hr, hk]
  have hm : i % 128 < 128 := Nat.mod_lt _ (by decide)
  clear hi
  unfold lit0t lit0t1_0 lit0t1_1 lit0t1_2 lit0t1_3
  rw [hc, hq]
  clear hr hk hq hc
  interval_cases c <;> interval_cases q <;>
    first
    | exact no_ones _ i (by omega)
    | exact first_ones _ i (by omega)
    | exact last_ones _ i (by omega)

end Cert.Kernel2Ideal.Hand
-- ==== Proof.FfnFinal.lean ====
module

public import proofs.«01_k».proof.Proof.FfnTile
public import proofs.«01_k».proof.Proof.FfnTable
public import proofs.«01_k».proof.Proof.Gen.Kernel2Ideal.Value
public import Idealize.ShloMosaic.Lib.Pipeline.ValueKit.Geometry
public import Idealize.ShloMosaic.Lib.StableHlo.RunRead

@[expose] public section

set_option maxRecDepth 16384

noncomputable section

/-! The last layer's array at the extended reals, from its blocks. -/

namespace Cert.Kernel2Ideal.Hand

open Cert.Kernel2Ideal Cert.Kernel2Ideal.Gen Cert.Softmax Cert.Ffn
open Idealize.ShloMosaic Idealize.ShloMosaic.ValueIdx Idealize.ShloMosaic.TcCoe
open scoped BigOperators

section
variable (m : (ℓ : Loc nD τ sig) → Buf (Elt Ideal) ℓ) (c : Dev nD) (t : Fin cfg0.N)

theorem idx0 : ∀ t : Fin cfg0.N, win0_0.index t = ![(grid0.coords t 0).val, 0] := (by decide +kernel : ∀ t : Fin grid0.N, _)
theorem idx2 : ∀ t : Fin cfg0.N, win0_2.index t = ![3, (grid0.coords t 0).val / 16, 0, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![(grid0.coords t 0).val, 0] := (by decide +kernel : ∀ t : Fin grid0.N, _)
theorem idx8 : ∀ t : Fin cfg0.N, win0_8.index t = ![(grid0.coords t 0).val, 0] := (by decide +kernel : ∀ t : Fin grid0.N, _)
theorem idx9 : ∀ t : Fin cfg0.N, win0_9.index t = ![3, 0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![3, 0, 0] := (by decide +kernel : ∀ t : Fin grid0.N, _)
theorem idx12 : ∀ t : Fin cfg0.N, win0_12.index t = ![3, 0, 0] := (by decide +kernel : ∀ t : Fin grid0.N, _)
theorem idx13 : ∀ t : Fin cfg0.N, win0_13.index t = ![3, 0, 0] := (by decide +kernel : ∀ t : Fin grid0.N, _)
theorem idx14 : ∀ t : Fin cfg0.N, win0_14.index t = ![3, 0, 0] := (by decide +kernel : ∀ t : Fin grid0.N, _)
theorem idx15 : ∀ t : Fin cfg0.N, win0_15.index t = ![(grid0.coords t 0).val, 0] := (by decide +kernel : ∀ t : Fin grid0.N, _)

/-- The call's arguments as it finds them. -/
abbrev arr0 (m : (ℓ : Loc nD τ sig) → Buf (Elt Ideal) ℓ) (c : Dev nD) : FVec Ideal ⟨2, ![16896, 1024]⟩ .f32 := V m c main_arg0
abbrev arr1 (m : (ℓ : Loc nD τ sig) → Buf (Elt Ideal) ℓ) (c : Dev nD) : FVec Ideal ⟨4, ![4, 8, 6, 1024]⟩ .f32 := V m c main_arg1
abbrev arr2 (m : (ℓ : Loc nD τ sig) → Buf (Elt Ideal) ℓ) (c : Dev nD) : FVec Ideal ⟨2, ![16384, 256]⟩ .bf16 := V m c main_arg2
abbrev arr3 (m : (ℓ : Loc nD τ sig) → Buf (Elt Ideal) ℓ) (c : Dev nD) : FVec Ideal ⟨2, ![16384, 512]⟩ .bf16 := V m c main_arg3
abbrev arr4 (m : (ℓ : Loc nD τ sig) → Buf (Elt Ideal) ℓ) (c : Dev nD) : FVec Ideal ⟨2, ![16896, 256]⟩ .f32 := V m c main_arg4
abbrev arr5 (m : (ℓ : Loc nD τ sig) → Buf (Elt Ideal) ℓ) (c : Dev nD) : FVec Ideal ⟨2, ![16896, 256]⟩ .f32 := V m c main_arg5
abbrev arr6 (m : (ℓ : Loc nD τ sig) → Buf (Elt Ideal) ℓ) (c : Dev nD) : FVec Ideal ⟨2, ![16896, 256]⟩ .f32 := V m c main_arg6
abbrev arr7 (m : (ℓ : Loc nD τ sig) → Buf (Elt Ideal) ℓ) (c : Dev nD) : FVec Ideal ⟨3, ![4, 1, 256]⟩ .f32 := V m c main_arg7
abbrev arr8 (m : (ℓ : Loc nD τ sig) → Buf (Elt Ideal) ℓ) (c : Dev nD) : FVec Ideal ⟨3, ![4, 1024, 1024]⟩ .bf16 := V m c main_arg8
abbrev arr9 (m : (ℓ : Loc nD τ sig) → Buf (Elt Ideal) ℓ) (c : Dev nD) : FVec Ideal ⟨3, ![4, 1, 1024]⟩ .f32 := V m c main_arg9
abbrev arr10 (m : (ℓ : Loc nD τ sig) → Buf (Elt Ideal) ℓ) (c : Dev nD) : FVec Ideal ⟨3, ![4, 1024, 5632]⟩ .bf16 := V m c main_arg10
abbrev arr11 (m : (ℓ : Loc nD τ sig) → Buf (Elt Ideal) ℓ) (c : Dev nD) : FVec Ideal ⟨3, ![4, 2816, 1024]⟩ .bf16 := V m c main_arg11

/-! The windows' blocks: rows of the token arrays, the last layer of the layer arrays. -/

theorem block0 (j : S512x1024.Idx) : iblk m c 0 t j = cell (arr0 m c) ((grid0.coords t 0).val * 512 + (j 0).val) (j 1).val := by
  blk_simp [iblk]
  refine (cell_eq (arr0 m c) _).trans ?_
  blk_simp [idx0]

theorem block2 (j : S1x1x6x1024.Idx) : iblk m c 2 t j = cell4 (arr1 m c) 3 ((grid0.coords t 0).val / 16) (j 2).val (j 3).val := by
  blk_simp [iblk]
  refine (cell4_eq (arr1 m c) _).trans ?_
  blk_simp [idx2]

theorem block3 (j : S512x256.Idx) : iblk m c 3 t j = cell (arr2 m c) ((grid0.coords t 0).val * 512 + (j 0).val) (j 1).val := by
  blk_simp [iblk]
  refine (cell_eq (arr2 m c) _).trans ?_
  blk_simp [idx3]

theorem block4 (j : S512x512.Idx) : iblk m c 4 t j = cell (arr3 m c) ((grid0.coords t 0).val * 512 + (j 0).val) (j 1).val := by
  blk_simp [iblk]
  refine (cell_eq (arr3 m c) _).trans ?_
  blk_simp [idx4]

theorem block6 (j : S512x256.Idx) : iblk m c 6 t j = cell (arr4 m c) ((grid0.coords t 0).val * 512 + (j 0).val) (j 1).val := by
  blk_simp [iblk]
  refine (cell_eq (arr4 m c) _).trans ?_
  blk_simp [idx6]

theorem block7 (j : S512x256.Idx) : iblk m c 7 t j = cell (arr5 m c) ((grid0.coords t 0).val * 512 + (j 0).val) (j 1).val := by
  blk_simp [iblk]
  refine (cell_eq (arr5 m c) _).trans ?_
  blk_simp [idx7]

theorem block8 (j : S512x256.Idx) : iblk m c 8 t j = cell (arr6 m c) ((grid0.coords t 0).val * 512 + (j 0).val) (j 1).val := by
  blk_simp [iblk]
  refine (cell_eq (arr6 m c) _).trans ?_
  blk_simp [idx8]

theorem block9 (j : S1x1x256.Idx) : iblk m c 9 t j = cell3 (arr7 m c) 3 0 (j 2).val := by
  blk_simp [iblk]
  refine (cell3_eq (arr7 m c) _).trans ?_
  blk_simp [idx9]

theorem block11 (j : S1x1024x1024.Idx) : iblk m c 11 t j = cell3 (arr8 m c) 3 (j 1).val (j 2).val := by
  blk_simp [iblk]
  refine (cell3_eq (arr8 m c) _).trans ?_
  blk_simp [idx11]

theorem block12 (j : S1x1x1024.Idx) : iblk m c 12 t j = cell3 (arr9 m c) 3 0 (j 2).val := by
  blk_simp [iblk]
  refine (cell3_eq (arr9 m c) _).trans ?_
  blk_simp [idx12]

theorem block13 (j : S1x1024x5632.Idx) : iblk m c 13 t j = cell3 (arr10 m c) 3 (j 1).val (j 2).val := by
  blk_simp [iblk]
  refine (cell3_eq (arr10 m c) _).trans ?_
  blk_simp [idx13]

theorem block14 (j : S1x2816x1024.Idx) : iblk m c 14 t j = cell3 (arr11 m c) 3 (j 1).val (j 2).val := by
  blk_simp [iblk]
  refine (cell3_eq (arr11 m c) _).trans ?_
  blk_simp [idx14]

/-- The table of ones as the call finds it. -/
abbrev ones (m : (ℓ : Loc nD τ sig) → Buf (Elt Ideal) ℓ) (c : Dev nD) : FVec Ideal ⟨2, ![256, 256]⟩ .bf16 := V m c main_cst

theorem block10 (j : S256x256.Idx) : iblk m c 10 t j = ones m c j := by
  blk_simp [iblk]
  refine congrArg (ones m c) (funext fun a => Fin.ext ?_)
  blk_simp [idx10]
  match a with
  | ⟨0, _⟩ => exact (congrArg (· + (j 0).val) (Nat.zero_mul _)).trans (Nat.zero_add _)
  | ⟨1, _⟩ => exact (congrArg (· + (j 1).val) (Nat.zero_mul _)).trans (Nat.zero_add _)

/-- The table of ones holds 1 in its diagonal blocks of 64, 0 elsewhere. -/
theorem ones_apply (j k : Fin 256) : ones m c (ix2 j k) = if j.val / 64 = k.val / 64 then (1 : EReal) else 0 := by
  have e : ones m c (ix2 j k) = Ideal.ofBits .bf16 (lit0 (S256x256.rowMajor (ix2 j k))) := by
    unfold ones V
    after_reads_simp
    rfl
  have hp : (S256x256.rowMajor (ix2 j k)).val = j.val * 256 + k.val := Shape.rowMajor_val_two _
  have ht : lit0 (S256x256.rowMajor (ix2 j k)) = lit0t (S256x256.rowMajor (ix2 j k)).val := rfl
  have hj := j.isLt
  have hk := k.isLt
  rw [e, ht, hp, table_word _ (by omega), show (j.val * 256 + k.val) / 256 = j.val by omega, show (j.val * 256 + k.val) % 256 = k.val by omega]
  unfold word
  split
  · exact Ideal.ofBits_one_bf16
  · exact Ideal.ofBits_zero_bf16

/-- The row of token `512 i + r`, at grid point `i`. -/
theorem meets (r : Fin 512) (hh : ∀ i k, ∃ x : ℝ, cell (arr4 m c) i k + cell (arr5 m c) i k = (x : EReal)) :
    Meets (rowOf (arr0 m c) (arr1 m c) (arr2 m c) (arr3 m c) (arr4 m c) (arr5 m c) (arr6 m c) (arr7 m c) (arr8 m c) (arr9 m c) (arr10 m c) (arr11 m c)
      ((grid0.coords t 0).val * 512 + r.val)) r (iblk m c 0 t) (iblk m c 2 t) (iblk m c 3 t) (iblk m c 4 t) (iblk m c 6 t) (iblk m c 7 t) (iblk m c 8 t)
      (iblk m c 9 t) (iblk m c 10 t) (iblk m c 11 t) (iblk m c 12 t) (iblk m c 13 t) (iblk m c 14 t) where
  x d := block0 m c t _
  mod n d := (block2 m c t _).trans (by
    show cell4 (arr1 m c) 3 _ n.val d.val = cell4 (arr1 m c) 3 (((grid0.coords t 0).val * 512 + r.val) / 8192) n.val d.val
    congr 1
    have := r.isLt
    omega)
  na k := block3 m c t _
  mla k := block4 m c t _
  h k := congrArg₂ (· + ·) (block6 m c t _) (block7 m c t _)
  o k := block8 m c t _
  hg k := block9 m c t _
  bd j k := (block10 m c t _).trans (ones_apply m c j k)
  w k d := block11 m c t _
  g d := block12 m c t _
  wab d j := block13 m c t _
  wfo j d := block14 m c t _
  real k := hh _ k

/-- A grid point's output block. -/
theorem out_block (hh : ∀ i k, ∃ x : ℝ, cell (arr4 m c) i k + cell (arr5 m c) i k = (x : EReal)) (y : S512x1024.Idx) :
    out0_15 (grid0.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) y
    = (rowOf (arr0 m c) (arr1 m c) (arr2 m c) (arr3 m c) (arr4 m c) (arr5 m c) (arr6 m c) (arr7 m c) (arr8 m c) (arr9 m c) (arr10 m c) (arr11 m c)
      ((grid0.coords t 0).val * 512 + (y 0).val)).out (y 1).val := by
  obtain ⟨r, d, rfl⟩ : ∃ (r : Fin 512) (d : Fin 1024), y = ix2 r d := ⟨y 0, y 1, eq_ix2 y⟩
  exact (meets m c t r hh).out (grid0.coords t) (iblk m c 1 t) (iblk m c 5 t) d

/-- The call's array: each token row's result. -/
theorem final_eq (hh : ∀ i k, ∃ x : ℝ, cell (arr4 m c) i k + cell (arr5 m c) i k = (x : EReal)) :
    (dats m 0 c).arrAt 15 cfg0.N = fun y : S16384x1024.Idx => (rowOf (arr0 m c) (arr1 m c) (arr2 m c) (arr3 m c) (arr4 m c) (arr5 m c) (arr6 m c) (arr7 m c)
      (arr8 m c) (arr9 m c) (arr10 m c) (arr11 m c) (y 0).val).out (y 1).val := by
  refine (dats m 0 c).arrAt_eq_of_covers 15 _ (by decide +kernel) fun t hf y => ?_
  blk_simp
  rw [after0_15, idx15]
  refine (out_block m c t hh y).trans ?_
  show Cert.Ffn.Row.out _ _ = Cert.Ffn.Row.out _ (0 * 1024 + (y 1).val)
  rw [Nat.zero_mul, Nat.zero_add]
  rfl
end

end Cert.Kernel2Ideal.Hand

end
-- ==== Proof.FfnReference.lean ====
module

public import proofs.«01_k».proof.Proof.FfnSpec
public import proofs.«01_k».proof.Proof.Gen.Reference2Ideal.Read
public import Idealize.ShloMosaic.Lib.Pipeline.Value

@[expose] public section

set_option maxRecDepth 16384

noncomputable section

/-! The second reference's result at the extended reals, stage by stage. -/

namespace Cert.Reference2Ideal.Hand

open Cert.Reference2Ideal Cert.Reference2Ideal.Gen Cert.Reference2Ideal.Read Cert.Softmax Cert.Ffn
open Idealize.ShloMosaic Idealize.ShloMosaic.ValueIdx
open scoped BigOperators

section
variable (x4 x5 : FVec Ideal S16896x256 .f32)

theorem state_eq (i : S2x8192x4x64.Idx) : val_main_v11 (F := Ideal) x4 x5 i
    = cell x4 (8192 * (i 0).val + (i 1).val) (64 * (i 2).val + (i 3).val) + cell x5 (8192 * (i 0).val + (i 1).val) (64 * (i 2).val + (i 3).val) := by
  have h1 : (i 1).val < 8192 := (i 1).isLt
  have h2 : (i 2).val < 4 := (i 2).isLt
  have h3 : (i 3).val < 64 := (i 3).isLt
  rw [val_main_v11_apply, val_main_v10_apply, val_main_v9_apply, val_main_v8_apply]
  show x4 _ + x5 _ = _
  rw [cell_eq x4, cell_eq x5]
  have e0 : ((idx_main_v9 (idx_main_v10 (idx_main_v11 i))) 0).val = 8192 * (i 0).val + (i 1).val := by
    show ((((((i 0).val * 8192 + (i 1).val) * 4 + (i 2).val) * 64 + (i 3).val) / 2097152 * 8192
      + ((((i 0).val * 8192 + (i 1).val) * 4 + (i 2).val) * 64 + (i 3).val) / 256 % 8192) * 256
      + ((((i 0).val * 8192 + (i 1).val) * 4 + (i 2).val) * 64 + (i 3).val) % 256) / 256 = _
    omega
  have e1 : ((idx_main_v9 (idx_main_v10 (idx_main_v11 i))) 1).val = 64 * (i 2).val + (i 3).val := by
    show ((((((i 0).val * 8192 + (i 1).val) * 4 + (i 2).val) * 64 + (i 3).val) / 2097152 * 8192
      + ((((i 0).val * 8192 + (i 1).val) * 4 + (i 2).val) * 64 + (i 3).val) / 256 % 8192) * 256
      + ((((i 0).val * 8192 + (i 1).val) * 4 + (i 2).val) * 64 + (i 3).val) % 256) % 256 = _
    omega
  rw [e0, e1]
end

theorem gate_eq (x6 : FVec Ideal S16896x256 .f32) (i : S2x8192x4x64.Idx) : val_main_v36 (F := Ideal) x6 i
    = sigmoid (cell x6 (8192 * (i 0).val + (i 1).val) (64 * (i 2).val + (i 3).val)) := by
  have h1 : (i 1).val < 8192 := (i 1).isLt
  have h2 : (i 2).val < 4 := (i 2).isLt
  have h3 : (i 3).val < 64 := (i 3).isLt
  have e : val_main_v30 (F := Ideal) x6 i = cell x6 (8192 * (i 0).val + (i 1).val) (64 * (i 2).val + (i 3).val) := by
    rw [val_main_v30_apply, val_main_v29_apply, val_main_v28_apply, cell_eq x6]
    refine congrArg₂ (cell x6) ?_ ?_
    · show ((((((i 0).val * 8192 + (i 1).val) * 4 + (i 2).val) * 64 + (i 3).val) / 2097152 * 8192
        + ((((i 0).val * 8192 + (i 1).val) * 4 + (i 2).val) * 64 + (i 3).val) / 256 % 8192) * 256
        + ((((i 0).val * 8192 + (i 1).val) * 4 + (i 2).val) * 64 + (i 3).val) % 256) / 256 = _
      omega
    · show ((((((i 0).val * 8192 + (i 1).val) * 4 + (i 2).val) * 64 + (i 3).val) / 2097152 * 8192
        + ((((i 0).val * 8192 + (i 1).val) * 4 + (i 2).val) * 64 + (i 3).val) / 256 % 8192) * 256
        + ((((i 0).val * 8192 + (i 1).val) * 4 + (i 2).val) * 64 + (i 3).val) % 256) % 256 = _
      omega
  rw [val_main_v36_apply, val_main_v35_apply, val_main_v34_apply, val_main_v33_apply, val_main_v32_apply, val_main_v31_apply, e]
  show Ideal.div (Ideal.ofBits .f32 0x3F800000#32) (Ideal.ofBits .f32 0x3F800000#32 + Ideal.exp (-_)) = _
  rw [Ideal.ofBits_one_f32]
  rfl

section
variable (x1 : FVec Ideal S4x8x6x1024 .f32)

theorem mod_row {n : ℕ} (j : S4x8x6x1024.Idx) (b d : ℕ) (h0 : (j 0).val = 3) (h1 : (j 1).val = b) (h2 : (j 2).val = n) (h3 : (j 3).val = d) :
    x1 j = cell4 x1 3 b n d := by
  rw [cell4_eq x1, h0, h1, h2, h3]

theorem gate1_eq (i : S2x8192x1024.Idx) : val_main_v51 (F := Ideal) x1 i = cell4 x1 3 (i 0).val 2 (i 2).val := by
  have h0 : (i 0).val < 2 := (i 0).isLt
  have h2 : (i 2).val < 1024 := (i 2).isLt
  rw [val_main_v51_apply, val_main_v50_apply, val_main_v1_apply, val_main_v0_apply]
  refine mod_row x1 _ _ _ rfl ?_ rfl ?_
  · show ((i 0).val * 1024 + (i 2).val) / 1024 % 2 = _
    omega
  · show ((i 0).val * 1024 + (i 2).val) % 1024 = _
    omega

theorem shift_eq (i : S2x8192x1024.Idx) : val_main_v75 (F := Ideal) x1 i = cell4 x1 3 (i 0).val 3 (i 2).val := by
  have h0 : (i 0).val < 2 := (i 0).isLt
  have h2 : (i 2).val < 1024 := (i 2).isLt
  rw [val_main_v75_apply, val_main_v74_apply, val_main_v3_apply, val_main_v2_apply]
  refine mod_row x1 _ _ _ rfl ?_ rfl ?_
  · show ((i 0).val * 1024 + (i 2).val) / 1024 % 2 = _
    omega
  · show ((i 0).val * 1024 + (i 2).val) % 1024 = _
    omega

theorem scale_eq (i : S2x8192x1024.Idx) : val_main_v72 (F := Ideal) x1 i = 1 + cell4 x1 3 (i 0).val 4 (i 2).val := by
  have h0 : (i 0).val < 2 := (i 0).isLt
  have h2 : (i 2).val < 1024 := (i 2).isLt
  rw [val_main_v72_apply, val_main_v71_apply, val_main_v70_apply, val_main_v69_apply, val_main_v5_apply, val_main_v4_apply]
  refine congrArg₂ (· + ·) Ideal.ofBits_one_f32 (mod_row x1 _ _ _ rfl ?_ rfl ?_)
  · show ((i 0).val * 1024 + (i 2).val) / 1024 % 2 = _
    omega
  · show ((i 0).val * 1024 + (i 2).val) % 1024 = _
    omega

theorem gate2_eq (i : S2x8192x1024.Idx) : val_main_v90 (F := Ideal) x1 i = cell4 x1 3 (i 0).val 5 (i 2).val := by
  have h0 : (i 0).val < 2 := (i 0).isLt
  have h2 : (i 2).val < 1024 := (i 2).isLt
  rw [val_main_v90_apply, val_main_v77_apply, val_main_v7_apply, val_main_v6_apply]
  refine mod_row x1 _ _ _ rfl ?_ rfl ?_
  · show ((i 0).val * 1024 + (i 2).val) / 1024 % 2 = _
    omega
  · show ((i 0).val * 1024 + (i 2).val) % 1024 = _
    omega
end

theorem head_gain_eq (x7 : FVec Ideal S4x1x256 .f32) (i : S2x8192x4x64.Idx) :
    val_main_v26 (F := Ideal) x7 i = cell3 x7 3 0 (64 * (i 2).val + (i 3).val) := by
  have h2 : (i 2).val < 4 := (i 2).isLt
  have h3 : (i 3).val < 64 := (i 3).isLt
  rw [val_main_v26_apply, val_main_v25_apply, val_main_v14_apply, val_main_v13_apply, val_main_v12_apply, cell3_eq x7]
  refine congrArg (cell3 x7 3 0) ?_
  dsimp only [idx_main_v12, idx_main_v13, idx_main_v14, idx_main_v25, idx_main_v26]
  omega

theorem norm_gain_eq (x9 : FVec Ideal S4x1x1024 .f32) (i : S2x8192x1024.Idx) : val_main_v67 (F := Ideal) x9 i = cell3 x9 3 0 (i 2).val := by
  have h2 : (i 2).val < 1024 := (i 2).isLt
  rw [val_main_v67_apply, val_main_v66_apply, val_main_v55_apply, val_main_v54_apply, cell3_eq x9]
  refine congrArg (cell3 x9 3 0) ?_
  show (i 2).val % 1024 = _
  omega

theorem out_weights_eq (x8 : FVec Ideal S4x1024x1024 .bf16) (i : S1024x1024.Idx) : val_main_v46 (F := Ideal) x8 i = cell3 x8 3 (i 0).val (i 1).val := by
  have h0 : (i 0).val < 1024 := (i 0).isLt
  have h1 : (i 1).val < 1024 := (i 1).isLt
  rw [val_main_v46_apply, val_main_v45_apply, val_main_v44_apply]
  show x8 _ = _
  rw [cell3_eq x8]
  refine congrArg₂ (cell3 x8 3) ?_ ?_
  · show ((i 0).val * 1024 + (i 1).val) / 1024 % 1024 = _
    omega
  · show ((i 0).val * 1024 + (i 1).val) % 1024 = _
    omega

theorem in_weights_eq (x10 : FVec Ideal S4x1024x5632 .bf16) (i : S1024x5632.Idx) : val_main_v80 (F := Ideal) x10 i = cell3 x10 3 (i 0).val (i 1).val := by
  have h0 : (i 0).val < 1024 := (i 0).isLt
  have h1 : (i 1).val < 5632 := (i 1).isLt
  rw [val_main_v80_apply, val_main_v79_apply, val_main_v78_apply]
  show x10 _ = _
  rw [cell3_eq x10]
  refine congrArg₂ (cell3 x10 3) ?_ ?_
  · show ((i 0).val * 5632 + (i 1).val) / 5632 % 1024 = _
    omega
  · show ((i 0).val * 5632 + (i 1).val) % 5632 = _
    omega

theorem down_weights_eq (x11 : FVec Ideal S4x2816x1024 .bf16) (i : S2816x1024.Idx) : val_main_v83 (F := Ideal) x11 i = cell3 x11 3 (i 0).val (i 1).val := by
  have h0 : (i 0).val < 2816 := (i 0).isLt
  have h1 : (i 1).val < 1024 := (i 1).isLt
  rw [val_main_v83_apply, val_main_v82_apply, val_main_v81_apply]
  show x11 _ = _
  rw [cell3_eq x11]
  refine congrArg₂ (cell3 x11 3) ?_ ?_
  · show ((i 0).val * 1024 + (i 1).val) / 1024 % 2816 = _
    omega
  · show ((i 0).val * 1024 + (i 1).val) % 1024 = _
    omega

theorem stream_eq (x0 : FVec Ideal S16896x1024 .f32) (i : S2x8192x1024.Idx) :
    val_main_v49 (F := Ideal) x0 i = cell x0 (8192 * (i 0).val + (i 1).val) (i 2).val := by
  have h1 : (i 1).val < 8192 := (i 1).isLt
  have h2 : (i 2).val < 1024 := (i 2).isLt
  rw [val_main_v49_apply, val_main_v48_apply, cell_eq x0]
  refine congrArg₂ (cell x0) ?_ ?_
  · show (((i 0).val * 8192 + (i 1).val) * 1024 + (i 2).val) / 1024 = _
    omega
  · show (((i 0).val * 8192 + (i 1).val) * 1024 + (i 2).val) % 1024 = _
    omega

section
variable (x0 : FVec Ideal S16896x1024 .f32) (x1 : FVec Ideal S4x8x6x1024 .f32) (x2 : FVec Ideal S16384x256 .bf16) (x3 : FVec Ideal S16384x512 .bf16)
  (x4 x5 x6 : FVec Ideal S16896x256 .f32) (x7 : FVec Ideal S4x1x256 .f32) (x8 : FVec Ideal S4x1024x1024 .bf16) (x9 : FVec Ideal S4x1x1024 .f32)
  (x10 : FVec Ideal S4x1024x5632 .bf16) (x11 : FVec Ideal S4x2816x1024 .bf16)

/-- What token `s` of batch `b` meets. -/
abbrev tokenRow (b s : ℕ) : Row := rowOf x0 x1 x2 x3 x4 x5 x6 x7 x8 x9 x10 x11 (8192 * b + s)

theorem ob_eq (i : S2x8192x4x64.Idx) : val_main_v37 (F := Ideal) x4 x5 x6 x7 i
    = (tokenRow x0 x1 x2 x3 x4 x5 x6 x7 x8 x9 x10 x11 (i 0).val (i 1).val).ob (64 * (i 2).val + (i 3).val) := by
  have h3 : (i 3).val < 64 := (i 3).isLt
  rw [val_main_v37_apply, val_main_v27_apply, val_main_v24_apply, val_main_v23_apply, val_main_v22_apply, val_main_v21_apply, val_main_v20_apply,
    val_main_v19_apply, val_main_v18_apply, val_main_v17_apply, val_main_v16_apply, gate_eq, head_gain_eq, state_eq]
  unfold Row.ob
  rw [show (64 * (i 2).val + (i 3).val) / 64 = (i 2).val by omega]
  refine congrArg₂ (· * ·) (congrArg₂ (· * ·) (congrArg₂ (· * ·) rfl (congrArg Ideal.rsqrt (congrArg₂ (· + ·) (congrArg₂ Ideal.div ?_ ofBits_64) rfl))) rfl) rfl
  show Ideal.ofBits .f32 0x00000000#32 + _ = _
  rw [Ideal.ofBits_zero_f32, zero_add]
  refine Finset.sum_congr rfl fun e _ => ?_
  rw [val_main_v15_apply, state_eq]
  rfl

theorem heads_eq (i : S2x8192x1024.Idx) : val_main_v43 (F := Ideal) x2 x3 x4 x5 x6 x7 i
    = (tokenRow x0 x1 x2 x3 x4 x5 x6 x7 x8 x9 x10 x11 (i 0).val (i 1).val).heads (i 2).val := by
  have h1 : (i 1).val < 8192 := (i 1).isLt
  have h2 : (i 2).val < 1024 := (i 2).isLt
  unfold val_main_v43 Row.heads
  by_cases ha : (i 2).val < 256
  · rw [if_pos ha, concatenate_apply_piece (2 : Fin 3) _ _ i 0 (by simp) S2x8192x256 _ rfl rfl 0 rfl (ix3 (i 0) (i 1) ⟨(i 2).val, ha⟩)
      (fun a => match a with | ⟨0, _⟩ => fun _ => rfl | ⟨1, _⟩ => fun _ => rfl | ⟨2, _⟩ => fun h => absurd rfl h) (Nat.zero_add _),
      val_main_v40_apply, val_main_v39_apply]
    show x2 _ = cell x2 _ _
    rw [cell_eq x2]
    refine congrArg₂ (cell x2) ?_ ?_
    · show (((i 0).val * 8192 + (i 1).val) * 256 + (i 2).val) / 256 = _
      omega
    · show (((i 0).val * 8192 + (i 1).val) * 256 + (i 2).val) % 256 = _
      omega
  · rw [if_neg ha]
    by_cases hb : (i 2).val < 512
    · rw [if_pos hb, concatenate_apply_piece (2 : Fin 3) _ _ i 1 (by simp) S2x8192x256 _ rfl rfl 256 rfl (ix3 (i 0) (i 1) ⟨(i 2).val - 256, by omega⟩)
        (fun a => match a with | ⟨0, _⟩ => fun _ => rfl | ⟨1, _⟩ => fun _ => rfl | ⟨2, _⟩ => fun h => absurd rfl h)
        (by show 256 + ((i 2).val - 256) = (i 2).val; omega), val_main_v38_apply, ob_eq x0 x1 x2 x3 x4 x5 x6 x7 x8 x9 x10 x11]
      refine congrArg₂ Row.ob (congrArg₂ (tokenRow x0 x1 x2 x3 x4 x5 x6 x7 x8 x9 x10 x11) ?_ ?_) ?_
      · show (((i 0).val * 8192 + (i 1).val) * 256 + ((i 2).val - 256)) / 2097152 = _
        omega
      · show (((i 0).val * 8192 + (i 1).val) * 256 + ((i 2).val - 256)) / 256 % 8192 = _
        omega
      · show 64 * ((((i 0).val * 8192 + (i 1).val) * 256 + ((i 2).val - 256)) / 64 % 4) + (((i 0).val * 8192 + (i 1).val) * 256 + ((i 2).val - 256)) % 64 = _
        omega
    · rw [if_neg hb, concatenate_apply_piece (2 : Fin 3) _ _ i 2 (by simp) S2x8192x512 _ rfl rfl 512 rfl (ix3 (i 0) (i 1) ⟨(i 2).val - 512, by omega⟩)
        (fun a => match a with | ⟨0, _⟩ => fun _ => rfl | ⟨1, _⟩ => fun _ => rfl | ⟨2, _⟩ => fun h => absurd rfl h)
        (by show 512 + ((i 2).val - 512) = (i 2).val; omega), val_main_v42_apply, val_main_v41_apply]
      show x3 _ = cell x3 _ _
      rw [cell_eq x3]
      refine congrArg₂ (cell x3) ?_ ?_
      · show (((i 0).val * 8192 + (i 1).val) * 512 + ((i 2).val - 512)) / 512 = _
        omega
      · show (((i 0).val * 8192 + (i 1).val) * 512 + ((i 2).val - 512)) % 512 = _
        omega

theorem mod_at {b s : ℕ} (h : s < 8192) (n d : ℕ) : (tokenRow x0 x1 x2 x3 x4 x5 x6 x7 x8 x9 x10 x11 b s).mod n d = cell4 x1 3 b n d := by
  show cell4 x1 3 ((8192 * b + s) / 8192) n d = _
  rw [show (8192 * b + s) / 8192 = b by omega]

theorem mid_eq (i : S2x8192x1024.Idx) : val_main_v53 (F := Ideal) x0 x1 x2 x3 x4 x5 x6 x7 x8 i
    = (tokenRow x0 x1 x2 x3 x4 x5 x6 x7 x8 x9 x10 x11 (i 0).val (i 1).val).mid (i 2).val := by
  rw [val_main_v53_apply, val_main_v52_apply, stream_eq, gate1_eq, val_main_v47_apply]
  unfold Row.mid
  rw [mod_at x0 x1 x2 x3 x4 x5 x6 x7 x8 x9 x10 x11 (i 1).isLt]
  refine congrArg₂ (· + ·) rfl (congrArg₂ (· * ·) rfl (Finset.sum_congr rfl fun k _ => ?_))
  rw [heads_eq x0 x1 x2 x3 x4 x5 x6 x7 x8 x9 x10 x11, out_weights_eq]
  rfl

theorem inp_eq (i : S2x8192x1024.Idx) : val_main_v76 (F := Ideal) x0 x1 x2 x3 x4 x5 x6 x7 x8 x9 i
    = (tokenRow x0 x1 x2 x3 x4 x5 x6 x7 x8 x9 x10 x11 (i 0).val (i 1).val).inp (i 2).val := by
  rw [val_main_v76_apply, val_main_v73_apply, val_main_v68_apply, val_main_v65_apply, val_main_v64_apply, val_main_v63_apply, val_main_v62_apply,
    val_main_v61_apply, val_main_v60_apply, val_main_v59_apply, val_main_v58_apply, val_main_v57_apply, shift_eq, scale_eq, norm_gain_eq,
    mid_eq x0 x1 x2 x3 x4 x5 x6 x7 x8 x9 x10 x11]
  unfold Row.inp Row.scale
  rw [mod_at x0 x1 x2 x3 x4 x5 x6 x7 x8 x9 x10 x11 (i 1).isLt, mod_at x0 x1 x2 x3 x4 x5 x6 x7 x8 x9 x10 x11 (i 1).isLt]
  refine congrArg₂ (· + ·) (congrArg₂ (· * ·) (congrArg₂ (· * ·) (congrArg₂ (· * ·) rfl
    (congrArg Ideal.rsqrt (congrArg₂ (· + ·) (congrArg₂ Ideal.div ?_ ofBits_1024) rfl))) rfl) rfl) rfl
  show Ideal.ofBits .f32 0x00000000#32 + _ = _
  rw [Ideal.ofBits_zero_f32, zero_add]
  refine Finset.sum_congr rfl fun e _ => ?_
  rw [val_main_v56_apply, mid_eq x0 x1 x2 x3 x4 x5 x6 x7 x8 x9 x10 x11]
  rfl

theorem up_eq (i : S2x8192x5632.Idx) : val_main_v84 (F := Ideal) x0 x1 x2 x3 x4 x5 x6 x7 x8 x9 x10 i
    = (tokenRow x0 x1 x2 x3 x4 x5 x6 x7 x8 x9 x10 x11 (i 0).val (i 1).val).up (i 2).val := by
  rw [val_main_v84_apply]
  unfold Row.up
  refine Finset.sum_congr rfl fun k _ => ?_
  rw [inp_eq x0 x1 x2 x3 x4 x5 x6 x7 x8 x9 x10 x11, in_weights_eq]
  rfl

theorem act_eq (i : S2x8192x2816.Idx) : val_main_v88 (F := Ideal) x0 x1 x2 x3 x4 x5 x6 x7 x8 x9 x10 i
    = (tokenRow x0 x1 x2 x3 x4 x5 x6 x7 x8 x9 x10 x11 (i 0).val (i 1).val).act (i 2).val := by
  have e : val_main_v85 (F := Ideal) x0 x1 x2 x3 x4 x5 x6 x7 x8 x9 x10 i
      = (tokenRow x0 x1 x2 x3 x4 x5 x6 x7 x8 x9 x10 x11 (i 0).val (i 1).val).up (i 2).val := by
    rw [val_main_v85_apply, up_eq x0 x1 x2 x3 x4 x5 x6 x7 x8 x9 x10 x11]
  rw [val_main_v88_apply, val_main_v87_apply, val_main_v86_apply, val_main_call0_v5_apply, val_main_call0_v4_apply, val_main_call0_v3_apply,
    val_main_call0_v2_apply, val_main_call0_v1_apply, val_main_call0_v0_apply, e, up_eq x0 x1 x2 x3 x4 x5 x6 x7 x8 x9 x10 x11]
  unfold Row.act sigmoid
  refine congrArg₂ (· * ·) (congrArg₂ (· * ·) rfl ?_) rfl
  show Ideal.div (Ideal.ofBits .f32 0x3F800000#32) (Ideal.ofBits .f32 0x3F800000#32 + Ideal.exp (-_)) = _
  rw [Ideal.ofBits_one_f32]

/-- The reference's result. -/
theorem result_eq (i : S16384x1024.Idx) : val_main_v93 (F := Ideal) x0 x1 x2 x3 x4 x5 x6 x7 x8 x9 x10 x11 i
    = (rowOf x0 x1 x2 x3 x4 x5 x6 x7 x8 x9 x10 x11 (i 0).val).out (i 1).val := by
  have h1 : (i 1).val < 1024 := (i 1).isLt
  have e0 : 8192 * ((idx_main_v93 i) 0).val + ((idx_main_v93 i) 1).val = (i 0).val := by
    show 8192 * (((i 0).val * 1024 + (i 1).val) / 8388608) + ((i 0).val * 1024 + (i 1).val) / 1024 % 8192 = _
    omega
  have e2 : ((idx_main_v93 i) 2).val = (i 1).val := by
    show ((i 0).val * 1024 + (i 1).val) % 1024 = _
    omega
  rw [val_main_v93_apply, val_main_v92_apply, val_main_v91_apply, gate2_eq, val_main_v89_apply, mid_eq x0 x1 x2 x3 x4 x5 x6 x7 x8 x9 x10 x11,
    ← mod_at x0 x1 x2 x3 x4 x5 x6 x7 x8 x9 x10 x11 ((idx_main_v93 i) 1).isLt]
  unfold Row.out
  rw [Finset.sum_range, ← e0, ← e2]
  refine congrArg₂ (· + ·) rfl (congrArg₂ (· * ·) rfl (Finset.sum_congr rfl fun k _ => ?_))
  rw [act_eq x0 x1 x2 x3 x4 x5 x6 x7 x8 x9 x10 x11, down_weights_eq]
  rfl
end

end Cert.Reference2Ideal.Hand

end
-- ==== Proof.FfnValue.lean ====
module

public import proofs.«01_k».proof.Defs
public import proofs.«01_k».proof.Proof.FfnFinal
public import proofs.«01_k».proof.Proof.FfnReference
public import proofs.«01_k».proof.Proof.Value
public import proofs.«01_k».proof.Proof.Gen.Kernel2Ideal
public import proofs.«01_k».proof.Proof.Gen.Reference2Ideal
public import proofs.«01_k».proof.Proof.Gen.Reference2Ideal.Run
public import proofs.«01_k».proof.Proof.Gen.Pre_finite_state

@[expose] public section

set_option maxRecDepth 16384

noncomputable section

/-! The last layer's kernel and its reference compute one array at the extended reals. -/

namespace Cert.Proof

open Idealize.ShloMosaic Idealize.ShloMosaic.ValueIdx Idealize.ShloMosaic.TcCoe Idealize.SL.Sem Cert.Softmax

theorem ofBits_top : Ideal.ofBits .f32 0x7F800000#32 = (⊤ : EReal) := by simp [Ideal.ofBits, Ideal.ieee]

/-- The condition says that the two directions' states add up to real numbers. -/
theorem state_of_pre (m : (ℓ : Loc Cert.Kernel2Ideal.nD Cert.Kernel2Ideal.τ Cert.Kernel2Ideal.sig) → Buf (Elt Ideal) ℓ)
    (h : Cert.Pre_Kernel2Ideal_finite_state m) (c : Dev Cert.Kernel2Ideal.nD) (i k : ℕ) :
    ∃ x : ℝ, cell (Cert.Kernel2Ideal.Hand.arr4 m c) i k + cell (Cert.Kernel2Ideal.Hand.arr5 m c) i k = (x : EReal) := by
  unfold cell
  split
  · next hik =>
    have e0 := congrFun (h c) (fun a => a.elim0)
    have hs : Subsingleton Cert.Pre_finite_state.S_.Idx := ⟨fun a b => funext fun i => i.elim0⟩
    dsimp only [Cert.Pre_finite_state.fn] at e0
    have h0 := Host.reduce_andi_all _ _ _ _ _ e0 (ix2 ⟨i, hik.1⟩ ⟨k, hik.2⟩)
    rw [Cert.Kernel2Ideal.Hand.arr4, Cert.Kernel2Ideal.Hand.arr5, Cert.Kernel2Ideal.Gen.V_main_arg4, Cert.Kernel2Ideal.Gen.V_main_arg5]
    exact ⟨_, (real_of_abs_lt _ ((congrArg (fun z => Ideal.cmp .olt _ z) (Cert.Softmax.ofBits_inf.trans ofBits_top.symm)).trans h0)).symm⟩
  · exact ⟨0, by simp⟩

/-- From the same arguments, of a state of real numbers, the last layer's kernel and its reference leave the same array. -/
theorem same_ffn : Cert.algebraic_Kernel2Ideal_Reference2Ideal_pre_finite_state := fun m g m' g' hp hm => by
  refine ⟨fun c => Cert.Reference2Ideal.Value.res_main_v93 m' c, ?_, Cert.Reference2Ideal.Value.run (F := Ideal) m' g'⟩
  refine (θ_run Cert.Kernel2Ideal.defs _ _).mono (fun r h c => ⟨(h c).1.trans ?_, (h c).2⟩) (Cert.Kernel2Ideal.Value.run_blocks m g)
  obtain ⟨h0, h1, h2, h3, h4, h5, h6, h7, h8, h9, h10, h11⟩ := hm c
  show _ = Cert.Reference2Ideal.Value.res_main_v93 m' c
  rw [Cert.Reference2Ideal.Read.val_main_v93_eq, h0, h1, h2, h3, h4, h5, h6, h7, h8, h9, h10, h11]
  refine (Cert.Kernel2Ideal.Hand.final_eq m c (state_of_pre m hp c)).trans (funext fun y => ?_)
  refine Eq.trans ?_ (Cert.Reference2Ideal.Hand.result_eq _ _ _ _ _ _ _ _ _ _ _ _ y).symm
  unfold Cert.Kernel2Ideal.Hand.arr0 Cert.Kernel2Ideal.Hand.arr1 Cert.Kernel2Ideal.Hand.arr2 Cert.Kernel2Ideal.Hand.arr3 Cert.Kernel2Ideal.Hand.arr4
    Cert.Kernel2Ideal.Hand.arr5 Cert.Kernel2Ideal.Hand.arr6 Cert.Kernel2Ideal.Hand.arr7 Cert.Kernel2Ideal.Hand.arr8 Cert.Kernel2Ideal.Hand.arr9
    Cert.Kernel2Ideal.Hand.arr10 Cert.Kernel2Ideal.Hand.arr11
  rw [Cert.Kernel2Ideal.Gen.V_main_arg0, Cert.Kernel2Ideal.Gen.V_main_arg1, Cert.Kernel2Ideal.Gen.V_main_arg2, Cert.Kernel2Ideal.Gen.V_main_arg3,
    Cert.Kernel2Ideal.Gen.V_main_arg4, Cert.Kernel2Ideal.Gen.V_main_arg5, Cert.Kernel2Ideal.Gen.V_main_arg6, Cert.Kernel2Ideal.Gen.V_main_arg7,
    Cert.Kernel2Ideal.Gen.V_main_arg8, Cert.Kernel2Ideal.Gen.V_main_arg9, Cert.Kernel2Ideal.Gen.V_main_arg10, Cert.Kernel2Ideal.Gen.V_main_arg11]

end Cert.Proof

end
-- ==== Proof.ProjRun.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384
set_option maxHeartbeats 4000000

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The projection call runs at any floats: what each of its ten output buffers holds after the body at a grid point, and
that the arguments end unchanged. -/

variable (m : (ℓ : Loc nD τ sig) → Buf (Elt F) ℓ) (ρ : Dev nD → PrngReg)

/-- Core `c`'s buffers when the grid is entered: as launched. -/
abbrev V (c : Dev nD) (b : Ref sig .tc) : Buf (Elt F) ((c : Thread nD τ).loc b) := m ((c : Thread nD τ).loc b)

/-- The program is the grid alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev r0_0 : Rect S512x1024 := Rect.unit (s := S512x1024) ![0, 0] S512x1024.size inb_S512x1024_S512x1024_0_0
abbrev r0_1 : Rect S1x1x6x1024 := Rect.unit (s := S1x1x6x1024) ![0, 0, 0, 0] S1x1x1x1024.size inb_S1x1x6x1024_S1x1x1x1024_0_0_0_0
abbrev r0_2 : Rect S1x1x6x1024 := Rect.unit (s := S1x1x6x1024) ![0, 0, 1, 0] S1x1x1x1024.size inb_S1x1x6x1024_S1x1x1x1024_0_0_1_0
abbrev r0_3 : Rect S1x1x1024 := Rect.unit (s := S1x1x1024) ![0, 0, 0] S1x1x1024.size inb_S1x1x1024_S1x1x1024_0_0_0
abbrev r0_4 : Rect S256x256 := Rect.unit (s := S256x256) ![0, 0] S256x256.size inb_S256x256_S256x256_0_0
abbrev r0_5 : Rect S1x1024x2688 := Rect.unit (s := S1x1024x2688) ![0, 0, 1792] S1x1024x896.size inb_S1x1024x2688_S1x1024x896_0_0_1792
abbrev r0_6 : Rect S512x128 := Rect.unit (s := S512x128) ![0, 0] S512x128.size inb_S512x128_S512x128_0_0
abbrev r0_7 : Rect S1x1x384 := Rect.unit (s := S1x1x384) ![0, 0, 0] S1x1x384.size inb_S1x1x384_S1x1x384_0_0_0
abbrev r0_8 : Rect S1x1x256 := Rect.unit (s := S1x1x256) ![0, 0, 0] S1x1x256.size inb_S1x1x256_S1x1x256_0_0_0
abbrev r0_9 : Rect S1x1024x2688 := Rect.unit (s := S1x1024x2688) ![0, 0, 0] S1x1024x768.size inb_S1x1024x2688_S1x1024x768_0_0_0
abbrev r0_10 : Rect S256x512 := Rect.unit (s := S256x512) ![0, 0] S256x512.size inb_S256x512_S256x512_0_0
abbrev r0_11 : Rect S1x384x1024 := Rect.unit (s := S1x384x1024) ![0, 0, 0] S1x384x1024.size inb_S1x384x1024_S1x384x1024_0_0_0
abbrev r0_12 : Rect S1x256x1024 := Rect.unit (s := S1x256x1024) ![0, 0, 0] S1x256x1024.size inb_S1x256x1024_S1x256x1024_0_0_0
abbrev r0_13 : Rect S1x256x512 := Rect.unit (s := S1x256x512) ![0, 0, 0] S1x256x512.size inb_S1x256x512_S1x256x512_0_0_0
abbrev r0_14 : Rect S512x512 := Rect.unit (s := S512x512) ![0, 0] S512x512.size inb_S512x512_S512x512_0_0
abbrev r0_15 : Rect S1x1024x2688 := Rect.unit (s := S1x1024x2688) ![0, 0, 768] S1x1024x1024.size inb_S1x1024x2688_S1x1024x1024_0_0_768
abbrev r0_16 : Rect S512x256 := Rect.unit (s := S512x256) ![0, 0] S512x256.size inb_S512x256_S512x256_0_0
abbrev r0_17 : Rect S1x1x1024 := Rect.unit (s := S1x1x1024) ![0, 0, 0] S1x1x128.size inb_S1x1x1024_S1x1x128_0_0_0
abbrev r0_18 : Rect S512x1024 := Rect.unit (s := S512x1024) ![0, 0] S512x128.size inb_S512x1024_S512x128_0_0
abbrev r0_19 : Rect S1x1x1024 := Rect.unit (s := S1x1x1024) ![0, 0, 128] S1x1x128.size inb_S1x1x1024_S1x1x128_0_0_128
abbrev r0_20 : Rect S512x1024 := Rect.unit (s := S512x1024) ![0, 128] S512x128.size inb_S512x1024_S512x128_0_128
abbrev r0_21 : Rect S1x1x1024 := Rect.unit (s := S1x1x1024) ![0, 0, 256] S1x1x128.size inb_S1x1x1024_S1x1x128_0_0_256
abbrev r0_22 : Rect S512x1024 := Rect.unit (s := S512x1024) ![0, 256] S512x128.size inb_S512x1024_S512x128_0_256
abbrev r0_23 : Rect S1x1x1024 := Rect.unit (s := S1x1x1024) ![0, 0, 384] S1x1x128.size inb_S1x1x1024_S1x1x128_0_0_384
abbrev r0_24 : Rect S512x1024 := Rect.unit (s := S512x1024) ![0, 384] S512x128.size inb_S512x1024_S512x128_0_384
abbrev r0_25 : Rect S1x1x1024 := Rect.unit (s := S1x1x1024) ![0, 0, 512] S1x1x128.size inb_S1x1x1024_S1x1x128_0_0_512
abbrev r0_26 : Rect S512x1024 := Rect.unit (s := S512x1024) ![0, 512] S512x128.size inb_S512x1024_S512x128_0_512
abbrev r0_27 : Rect S1x1x1024 := Rect.unit (s := S1x1x1024) ![0, 0, 640] S1x1x128.size inb_S1x1x1024_S1x1x128_0_0_640
abbrev r0_28 : Rect S512x1024 := Rect.unit (s := S512x1024) ![0, 640] S512x128.size inb_S512x1024_S512x128_0_640
abbrev r0_29 : Rect S1x1x1024 := Rect.unit (s := S1x1x1024) ![0, 0, 768] S1x1x128.size inb_S1x1x1024_S1x1x128_0_0_768
abbrev r0_30 : Rect S512x1024 := Rect.unit (s := S512x1024) ![0, 768] S512x128.size inb_S512x1024_S512x128_0_768
abbrev r0_31 : Rect S1x1x1024 := Rect.unit (s := S1x1x1024) ![0, 0, 896] S1x1x128.size inb_S1x1x1024_S1x1x128_0_0_896
abbrev r0_32 : Rect S512x1024 := Rect.unit (s := S512x1024) ![0, 896] S512x128.size inb_S512x1024_S512x128_0_896

/-! ## What the body leaves in each output's buffer

The values that more than one store needs are named, in terms of the input blocks `x0`, `x1`, …: the normed tokens, the
scalars of the gates, the low-rank vectors, the products from which the queries and keys are made, and their shares. -/

section

variable (x0 : Vec F S512x1024 .f32) (x1 : Vec F S512x1024 .f32) (x2 : Vec F S1x1x6x1024 .f32) (x3 : Vec F S1x1x1024 .f32) (x4 : Vec F S1x1024x2688 .bf16) (x5 : Vec F S1x384x1024 .bf16) (x6 : Vec F S1x384x1024 .bf16) (x7 : Vec F S1x256x1024 .bf16) (x8 : Vec F S1x256x512 .bf16) (x9 : Vec F S1x1x384 .f32) (x10 : Vec F S1x1x256 .f32) (x11 : Vec F S1x1x256 .f32) (x12 : Vec F S1x1x256 .f32) (x13 : Vec F S1x1x1024 .f32) (x14 : Vec F S1x1x1024 .f32) (x15 : Vec F S1x1x1024 .f32) (x16 : Vec F S1x1x1024 .f32) (x17 : Vec F S256x256 .bf16) (x18 : Vec F S256x256 .bf16) (x19 : Vec F S512x128 .f32) (x20 : Vec F S512x128 .f32)

def k0_pay58 : FVec F S512x1024 .bf16 :=
  k0_pay2 (View.ld x0 r0_0) (View.ld x2 r0_1) (View.ld x2 r0_2) (View.ld x3 r0_3)
def k0_pay59 : FVec F S512x128 .f32 :=
  k0_pay6 (View.ld x0 r0_0) (View.ld x2 r0_1) (View.ld x2 r0_2) (View.ld x3 r0_3) (View.ld x4 r0_5)
def k0_pay60 : FVec F S512x384 .bf16 :=
  k0_pay8 (k0_pay4 (View.ld x0 r0_0) (View.ld x2 r0_1) (View.ld x2 r0_2) (View.ld x3 r0_3) (View.ld x4 r0_5)) (View.ld x9 r0_7)
def k0_pay61 : FVec F S512x256 .bf16 :=
  k0_pay9 (k0_pay5 (View.ld x0 r0_0) (View.ld x2 r0_1) (View.ld x2 r0_2) (View.ld x3 r0_3) (View.ld x4 r0_5)) (View.ld x10 r0_8)
def k0_pay62 : FVec F S512x256 .f32 :=
  k0_pay12 (k0_pay58 x0 x2 x3) (View.ld x4 r0_9)
def k0_pay63 : FVec F S512x1024 .f32 :=
  k0_pay14 (k0_pay60 x0 x2 x3 x4 x9) (View.ld x5 r0_11)
def k0_pay64 : FVec F S512x1024 .f32 :=
  k0_pay15 (k0_pay60 x0 x2 x3 x4 x9) (View.ld x6 r0_11)
def k0_pay65 : FVec F S512x1024 .f32 :=
  k0_pay16 (k0_pay59 x0 x2 x3 x4) (k0_pay61 x0 x2 x3 x4 x10) (View.ld x7 r0_12)
def k0_pay66 : FVec F S512x1024 .f32 :=
  k0_pay18 (k0_pay58 x0 x2 x3) (View.ld x4 r0_15)
def k0_pay67 : FVec F S512x1024 .f32 :=
  k0_pay25 (View.ld x18 r0_4) (k0_pay63 x0 x2 x3 x4 x5 x9)
def k0_pay68 : FVec F S512x1024 .f32 :=
  k0_pay26 (View.ld x18 r0_4) (k0_pay65 x0 x2 x3 x4 x7 x10)
def k0_pay69 : FVec F S512x128 .f32 :=
  k0_pay27 (k0_pay7 (k0_pay3 (View.ld x0 r0_0) (View.ld x2 r0_1) (View.ld x2 r0_2) (View.ld x3 r0_3) (View.ld x4 r0_5))) (View.ld x20 r0_6)

/-- What the body leaves in output 21's buffer: its stores, the last one first. -/
def out0_21 : Vec F S512x256 .bf16 :=
  View.canon [⟨r0_16, k0_pay22 (View.ld x17 r0_4) (k0_pay11 (k0_pay58 x0 x2 x3) (View.ld x4 r0_9)) (View.ld x11 r0_8)⟩]

/-- What the body leaves in output 22's buffer: its stores, the last one first. -/
def out0_22 : Vec F S512x256 .bf16 :=
  View.canon [⟨r0_16, k0_pay24 (k0_pay62 x0 x2 x3 x4) (k0_pay23 (View.ld x17 r0_4) (k0_pay62 x0 x2 x3 x4)) (View.ld x12 r0_8)⟩]

/-- What the body leaves in output 23's buffer: its stores, the last one first. -/
def out0_23 : Vec F S512x512 .f32 :=
  View.canon [⟨r0_14, k0_pay19 (k0_pay58 x0 x2 x3) (View.ld x4 r0_15)⟩]

/-- What the body leaves in output 24's buffer: its stores, the last one first. -/
def out0_24 : Vec F S512x256 .bf16 :=
  View.canon [⟨r0_16, k0_pay20 (k0_pay66 x0 x2 x3 x4)⟩]

/-- What the body leaves in output 25's buffer: its stores, the last one first. -/
def out0_25 : Vec F S512x256 .f32 :=
  View.canon [⟨r0_16, k0_pay21 (k0_pay66 x0 x2 x3 x4)⟩]

/-- What the body leaves in output 26's buffer: its stores, the last one first. -/
def out0_26 : Vec F S512x128 .f32 :=
  View.canon [⟨r0_6, k0_pay59 x0 x2 x3 x4⟩]

/-- What the body leaves in output 27's buffer: its stores, the last one first. -/
def out0_27 : Vec F S512x1024 .bf16 :=
  View.canon [⟨r0_32, k0_pay55 (k0_pay63 x0 x2 x3 x4 x5 x9) (k0_pay64 x0 x2 x3 x4 x6 x9) (View.ld x19 r0_6) (View.ld x20 r0_6) (k0_pay67 x0 x2 x3 x4 x5 x9 x18) (View.ld x13 r0_31) (View.ld x15 r0_31)⟩,
    ⟨r0_30, k0_pay53 (View.ld x20 r0_6) (k0_pay50 (k0_pay67 x0 x2 x3 x4 x5 x9 x18)) (k0_pay51 (k0_pay63 x0 x2 x3 x4 x5 x9) (View.ld x19 r0_6) (View.ld x13 r0_29)) (k0_pay52 (k0_pay64 x0 x2 x3 x4 x6 x9) (View.ld x15 r0_29))⟩,
    ⟨r0_28, k0_pay48 (k0_pay64 x0 x2 x3 x4 x6 x9) (View.ld x19 r0_6) (View.ld x20 r0_6) (k0_pay45 (k0_pay67 x0 x2 x3 x4 x5 x9 x18)) (k0_pay46 (k0_pay63 x0 x2 x3 x4 x5 x9)) (k0_pay47 (View.ld x13 r0_27)) (View.ld x15 r0_27)⟩,
    ⟨r0_26, k0_pay43 (k0_pay63 x0 x2 x3 x4 x5 x9) (k0_pay64 x0 x2 x3 x4 x6 x9) (View.ld x19 r0_6) (View.ld x20 r0_6) (k0_pay67 x0 x2 x3 x4 x5 x9 x18) (View.ld x13 r0_25) (View.ld x15 r0_25)⟩,
    ⟨r0_24, k0_pay41 (k0_pay63 x0 x2 x3 x4 x5 x9) (k0_pay64 x0 x2 x3 x4 x6 x9) (View.ld x19 r0_6) (View.ld x20 r0_6) (k0_pay67 x0 x2 x3 x4 x5 x9 x18) (View.ld x13 r0_23) (View.ld x15 r0_23)⟩,
    ⟨r0_22, k0_pay37 (k0_pay63 x0 x2 x3 x4 x5 x9) (k0_pay64 x0 x2 x3 x4 x6 x9) (View.ld x19 r0_6) (View.ld x20 r0_6) (k0_pay67 x0 x2 x3 x4 x5 x9 x18) (View.ld x13 r0_21) (View.ld x15 r0_21)⟩,
    ⟨r0_20, k0_pay33 (k0_pay63 x0 x2 x3 x4 x5 x9) (k0_pay64 x0 x2 x3 x4 x6 x9) (View.ld x19 r0_6) (View.ld x20 r0_6) (k0_pay67 x0 x2 x3 x4 x5 x9 x18) (View.ld x13 r0_19) (View.ld x15 r0_19)⟩,
    ⟨r0_18, k0_pay31 (View.ld x20 r0_6) (k0_pay28 (k0_pay67 x0 x2 x3 x4 x5 x9 x18)) (k0_pay29 (k0_pay63 x0 x2 x3 x4 x5 x9) (View.ld x19 r0_6) (View.ld x13 r0_17)) (k0_pay30 (k0_pay64 x0 x2 x3 x4 x6 x9) (View.ld x15 r0_17))⟩]

/-- What the body leaves in output 28's buffer: its stores, the last one first. -/
def out0_28 : Vec F S512x1024 .bf16 :=
  View.canon [⟨r0_32, k0_pay1 (View.ld x19 r0_6) (k0_pay69 x0 x2 x3 x4 x20) (k0_pay56 (k0_pay68 x0 x2 x3 x4 x7 x10 x18)) (k0_pay57 (k0_pay65 x0 x2 x3 x4 x7 x10)) (View.ld x14 r0_31) (View.ld x16 r0_31)⟩,
    ⟨r0_30, k0_pay54 (k0_pay65 x0 x2 x3 x4 x7 x10) (View.ld x19 r0_6) (k0_pay68 x0 x2 x3 x4 x7 x10 x18) (k0_pay69 x0 x2 x3 x4 x20) (View.ld x14 r0_29) (View.ld x16 r0_29)⟩,
    ⟨r0_28, k0_pay49 (k0_pay65 x0 x2 x3 x4 x7 x10) (View.ld x19 r0_6) (k0_pay68 x0 x2 x3 x4 x7 x10 x18) (k0_pay69 x0 x2 x3 x4 x20) (View.ld x14 r0_27) (View.ld x16 r0_27)⟩,
    ⟨r0_26, k0_pay44 (k0_pay65 x0 x2 x3 x4 x7 x10) (View.ld x19 r0_6) (k0_pay68 x0 x2 x3 x4 x7 x10 x18) (k0_pay69 x0 x2 x3 x4 x20) (View.ld x14 r0_25) (View.ld x16 r0_25)⟩,
    ⟨r0_24, k0_pay42 (k0_pay65 x0 x2 x3 x4 x7 x10) (View.ld x19 r0_6) (k0_pay68 x0 x2 x3 x4 x7 x10 x18) (k0_pay69 x0 x2 x3 x4 x20) (View.ld x14 r0_23) (View.ld x16 r0_23)⟩,
    ⟨r0_22, k0_pay40 (k0_pay69 x0 x2 x3 x4 x20) (k0_pay38 (k0_pay68 x0 x2 x3 x4 x7 x10 x18)) (k0_pay39 (k0_pay65 x0 x2 x3 x4 x7 x10) (View.ld x19 r0_6) (View.ld x14 r0_21)) (View.ld x16 r0_21)⟩,
    ⟨r0_20, k0_pay36 (View.ld x19 r0_6) (k0_pay69 x0 x2 x3 x4 x20) (k0_pay34 (k0_pay68 x0 x2 x3 x4 x7 x10 x18)) (k0_pay35 (k0_pay65 x0 x2 x3 x4 x7 x10)) (View.ld x14 r0_19) (View.ld x16 r0_19)⟩,
    ⟨r0_18, k0_pay32 (k0_pay65 x0 x2 x3 x4 x7 x10) (View.ld x19 r0_6) (k0_pay68 x0 x2 x3 x4 x7 x10 x18) (k0_pay69 x0 x2 x3 x4 x20) (View.ld x14 r0_17) (View.ld x16 r0_17)⟩]

/-- What the body leaves in output 29's buffer: its stores, the last one first. -/
def out0_29 : Vec F S256x512 .bf16 :=
  View.canon [⟨r0_10, k0_pay13 (k0_pay58 x0 x2 x3) (View.ld x4 r0_9)⟩]

/-- What the body leaves in output 30's buffer: its stores, the last one first. -/
def out0_30 : Vec F S512x512 .bf16 :=
  View.canon [⟨r0_14, k0_pay17 (k0_pay61 x0 x2 x3 x4 x10) (View.ld x8 r0_13)⟩]

/-! ## The body's triple -/

/-- The body, on whole buffers that hold the input blocks and anything in the outputs', leaves the inputs' as they were
and in each output's what is stated above. -/
theorem sound_kernel (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S1x1x6x1024 .f32) (harg3 : arg3.IsWhole) (arg4 : Memref sig .tc .vmem S1x1x1024 .f32) (harg4 : arg4.IsWhole) (arg5 : Memref sig .tc .vmem S1x1024x2688 .bf16) (harg5 : arg5.IsWhole) (arg6 : Memref sig .tc .vmem S1x384x1024 .bf16) (harg6 : arg6.IsWhole) (arg7 : Memref sig .tc .vmem S1x384x1024 .bf16) (harg7 : arg7.IsWhole) (arg8 : Memref sig .tc .vmem S1x256x1024 .bf16) (harg8 : arg8.IsWhole) (arg9 : Memref sig .tc .vmem S1x256x512 .bf16) (harg9 : arg9.IsWhole) (arg10 : Memref sig .tc .vmem S1x1x384 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x256 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S512x128 .f32) (harg20 : arg20.IsWhole) (arg21 : Memref sig .tc .vmem S512x128 .f32) (harg21 : arg21.IsWhole) (arg22 : Memref sig .tc .vmem S512x256 .bf16) (harg22 : arg22.IsWhole) (arg23 : Memref sig .tc .vmem S512x256 .bf16) (harg23 : arg23.IsWhole) (arg24 : Memref sig .tc .vmem S512x512 .f32) (harg24 : arg24.IsWhole) (arg25 : Memref sig .tc .vmem S512x256 .bf16) (harg25 : arg25.IsWhole) (arg26 : Memref sig .tc .vmem S512x256 .f32) (harg26 : arg26.IsWhole) (arg27 : Memref sig .tc .vmem S512x128 .f32) (harg27 : arg27.IsWhole) (arg28 : Memref sig .tc .vmem S512x1024 .bf16) (harg28 : arg28.IsWhole) (arg29 : Memref sig .tc .vmem S512x1024 .bf16) (harg29 : arg29.IsWhole) (arg30 : Memref sig .tc .vmem S256x512 .bf16) (harg30 : arg30.IsWhole) (arg31 : Memref sig .tc .vmem S512x512 .bf16) (harg31 : arg31.IsWhole)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out0_21 x0 x2 x3 x4 x11 x17) ∗ owns (c : Thread nD τ) arg23 fullShare (out0_22 x0 x2 x3 x4 x12 x17) ∗ owns (c : Thread nD τ) arg24 fullShare (out0_23 x0 x2 x3 x4) ∗ owns (c : Thread nD τ) arg25 fullShare (out0_24 x0 x2 x3 x4) ∗ owns (c : Thread nD τ) arg26 fullShare (out0_25 x0 x2 x3 x4) ∗ owns (c : Thread nD τ) arg27 fullShare (out0_26 x0 x2 x3 x4) ∗ owns (c : Thread nD τ) arg28 fullShare (out0_27 x0 x2 x3 x4 x5 x6 x9 x13 x15 x18 x19 x20) ∗ owns (c : Thread nD τ) arg29 fullShare (out0_28 x0 x2 x3 x4 x7 x10 x14 x16 x18 x19 x20) ∗ owns (c : Thread nD τ) arg30 fullShare (out0_29 x0 x2 x3 x4) ∗ owns (c : Thread nD τ) arg31 fullShare (out0_30 x0 x2 x3 x4 x8 x10)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; (· ipureintro; rfl); iexact H0
  isplitl [H1]
  · iexists f1; isplitr; (· ipureintro; rfl); iexact H1
  isplitl [H2]
  · iexists f2; isplitr; (· ipureintro; rfl); iexact H2
  isplitl [H3]
  · iexists f3; isplitr; (· ipureintro; rfl); iexact H3
  isplitl [H4]
  · iexists f4; isplitr; (· ipureintro; rfl); iexact H4
  isplitl [H5]
  · iexists f5; isplitr; (· ipureintro; rfl); iexact H5
  isplitl [H6]
  · iexists f6; isplitr; (· ipureintro; rfl); iexact H6
  isplitl [H7]
  · iexists f7; isplitr; (· ipureintro; rfl); iexact H7
  isplitl [H8]
  · iexists f8; isplitr; (· ipureintro; rfl); iexact H8
  isplitl [H9]
  · iexists f9; isplitr; (· ipureintro; rfl); iexact H9
  isplitl [H10]
  · iexists f10; isplitr; (· ipureintro; rfl); iexact H10
  isplitl [H11]
  · iexists f11; isplitr; (· ipureintro; rfl); iexact H11
  isplitl [H12]
  · iexists f12; isplitr; (· ipureintro; rfl); iexact H12
  isplitl [H13]
  · iexists f13; isplitr; (· ipureintro; rfl); iexact H13
  isplitl [H14]
  · iexists f14; isplitr; (· ipureintro; rfl); iexact H14
  isplitl [H15]
  · iexists f15; isplitr; (· ipureintro; rfl); iexact H15
  isplitl [H16]
  · iexists f16; isplitr; (· ipureintro; rfl); iexact H16
  isplitl [H17]
  · iexists f17; isplitr; (· ipureintro; rfl); iexact H17
  isplitl [H18]
  · iexists f18; isplitr; (· ipureintro; rfl); iexact H18
  isplitl [H19]
  · iexists f19; isplitr; (· ipureintro; rfl); iexact H19
  isplitl [H20]
  · iexists f20; isplitr; (· ipureintro; rfl); iexact H20
  isplitl [H21]
  · iexists _; isplitr
    swap; · iexact H21
    ipureintro
    refine Eq.trans (View.read_writes_eq_canon _ _ _ fun y => View.cover_of_tiled _ S512x256.size ?_ y) ?_ <;> rfl
  isplitl [H22]
  · iexists _; isplitr
    swap; · iexact H22
    ipureintro
    refine Eq.trans (View.read_writes_eq_canon _ _ _ fun y => View.cover_of_tiled _ S512x256.size ?_ y) ?_ <;> rfl
  isplitl [H23]
  · iexists _; isplitr
    swap; · iexact H23
    ipureintro
    refine Eq.trans (View.read_writes_eq_canon _ _ _ fun y => View.cover_of_tiled _ S512x512.size ?_ y) ?_ <;> rfl
  isplitl [H24]
  · iexists _; isplitr
    swap; · iexact H24
    ipureintro
    refine Eq.trans (View.read_writes_eq_canon _ _ _ fun y => View.cover_of_tiled _ S512x256.size ?_ y) ?_ <;> rfl
  isplitl [H25]
  · iexists _; isplitr
    swap; · iexact H25
    ipureintro
    refine Eq.trans (View.read_writes_eq_canon _ _ _ fun y => View.cover_of_tiled _ S512x256.size ?_ y) ?_ <;> rfl
  isplitl [H26]
  · iexists _; isplitr
    swap; · iexact H26
    ipureintro
    refine Eq.trans (View.read_writes_eq_canon _ _ _ fun y => View.cover_of_tiled _ S512x128.size ?_ y) ?_ <;> rfl
  isplitl [H27]
  · iexists _; isplitr
    swap; · iexact H27
    ipureintro
    refine Eq.trans (View.read_writes_eq_canon _ _ _ fun (y : S512x1024.Idx) => View.cover_of_tiled (s := S512x1024) _ S512x128.size ?_ y) ?_ <;> rfl
  isplitl [H28]
  · iexists _; isplitr
    swap; · iexact H28
    ipureintro
    refine Eq.trans (View.read_writes_eq_canon _ _ _ fun (y : S512x1024.Idx) => View.cover_of_tiled (s := S512x1024) _ S512x128.size ?_ y) ?_ <;> rfl
  isplitl [H29]
  · iexists _; isplitr
    swap; · iexact H29
    ipureintro
    refine Eq.trans (View.read_writes_eq_canon _ _ _ fun y => View.cover_of_tiled _ S256x512.size ?_ y) ?_ <;> rfl
  iexists _; isplitr
  swap; · iexact H30
  ipureintro
  refine Eq.trans (View.read_writes_eq_canon _ _ _ fun y => View.cover_of_tiled _ S512x512.size ?_ y) ?_ <;> rfl

end

/-! ## The grid's data -/

/-- The arrays as launched; after the body at point `t` each input's buffer at its block and each output's at what the
body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (iblk m c 0 t) (iblk m c 2 t) (iblk m c 3 t) (iblk m c 4 t) (iblk m c 11 t) (iblk m c 17 t)
    | ⟨22, _⟩ => out0_22 (iblk m c 0 t) (iblk m c 2 t) (iblk m c 3 t) (iblk m c 4 t) (iblk m c 12 t) (iblk m c 17 t)
    | ⟨23, _⟩ => out0_23 (iblk m c 0 t) (iblk m c 2 t) (iblk m c 3 t) (iblk m c 4 t)
    | ⟨24, _⟩ => out0_24 (iblk m c 0 t) (iblk m c 2 t) (iblk m c 3 t) (iblk m c 4 t)
    | ⟨25, _⟩ => out0_25 (iblk m c 0 t) (iblk m c 2 t) (iblk m c 3 t) (iblk m c 4 t)
    | ⟨26, _⟩ => out0_26 (iblk m c 0 t) (iblk m c 2 t) (iblk m c 3 t) (iblk m c 4 t)
    | ⟨27, _⟩ => out0_27 (iblk m c 0 t) (iblk m c 2 t) (iblk m c 3 t) (iblk m c 4 t) (iblk m c 5 t) (iblk m c 6 t) (iblk m c 9 t) (iblk m c 13 t) (iblk m c 15 t) (iblk m c 18 t) (iblk m c 19 t) (iblk m c 20 t)
    | ⟨28, _⟩ => out0_28 (iblk m c 0 t) (iblk m c 2 t) (iblk m c 3 t) (iblk m c 4 t) (iblk m c 7 t) (iblk m c 10 t) (iblk m c 14 t) (iblk m c 16 t) (iblk m c 18 t) (iblk m c 19 t) (iblk m c 20 t)
    | ⟨29, _⟩ => out0_29 (iblk m c 0 t) (iblk m c 2 t) (iblk m c 3 t) (iblk m c 4 t)
    | ⟨30, _⟩ => out0_30 (iblk m c 0 t) (iblk m c 2 t) (iblk m c 3 t) (iblk m c 4 t) (iblk m c 8 t) (iblk m c 10 t)
    | ⟨_ + 31, h⟩ => absurd h (Nat.not_lt.2 (Nat.le_add_left _ _))
  Φ _ := Pipeline.ΦA spec0 c
  q w := Pipeline.shareOf spec0 w
  owed _ := 0

/-- The arrays are the launched ones. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (iblk m c 0 t) (iblk m c 2 t) (iblk m c 3 t) (iblk m c 4 t) (iblk m c 11 t) (iblk m c 17 t) := by dsimp only [dats]
theorem after0_22 (c : Dev nD) (t : Fin cfg0.N) : (dats m 0 c).after 22 t = out0_22 (iblk m c 0 t) (iblk m c 2 t) (iblk m c 3 t) (iblk m c 4 t) (iblk m c 12 t) (iblk m c 17 t) := by dsimp only [dats]
theorem after0_23 (c : Dev nD) (t : Fin cfg0.N) : (dats m 0 c).after 23 t = out0_23 (iblk m c 0 t) (iblk m c 2 t) (iblk m c 3 t) (iblk m c 4 t) := by dsimp only [dats]
theorem after0_24 (c : Dev nD) (t : Fin cfg0.N) : (dats m 0 c).after 24 t = out0_24 (iblk m c 0 t) (iblk m c 2 t) (iblk m c 3 t) (iblk m c 4 t) := by dsimp only [dats]
theorem after0_25 (c : Dev nD) (t : Fin cfg0.N) : (dats m 0 c).after 25 t = out0_25 (iblk m c 0 t) (iblk m c 2 t) (iblk m c 3 t) (iblk m c 4 t) := by dsimp only [dats]
theorem after0_26 (c : Dev nD) (t : Fin cfg0.N) : (dats m 0 c).after 26 t = out0_26 (iblk m c 0 t) (iblk m c 2 t) (iblk m c 3 t) (iblk m c 4 t) := by dsimp only [dats]
theorem after0_27 (c : Dev nD) (t : Fin cfg0.N) : (dats m 0 c).after 27 t = out0_27 (iblk m c 0 t) (iblk m c 2 t) (iblk m c 3 t) (iblk m c 4 t) (iblk m c 5 t) (iblk m c 6 t) (iblk m c 9 t) (iblk m c 13 t) (iblk m c 15 t) (iblk m c 18 t) (iblk m c 19 t) (iblk m c 20 t) := by dsimp only [dats]
theorem after0_28 (c : Dev nD) (t : Fin cfg0.N) : (dats m 0 c).after 28 t = out0_28 (iblk m c 0 t) (iblk m c 2 t) (iblk m c 3 t) (iblk m c 4 t) (iblk m c 7 t) (iblk m c 10 t) (iblk m c 14 t) (iblk m c 16 t) (iblk m c 18 t) (iblk m c 19 t) (iblk m c 20 t) := by dsimp only [dats]
theorem after0_29 (c : Dev nD) (t : Fin cfg0.N) : (dats m 0 c).after 29 t = out0_29 (iblk m c 0 t) (iblk m c 2 t) (iblk m c 3 t) (iblk m c 4 t) := by dsimp only [dats]
theorem after0_30 (c : Dev nD) (t : Fin cfg0.N) : (dats m 0 c).after 30 t = out0_30 (iblk m c 0 t) (iblk m c 2 t) (iblk m c 3 t) (iblk m c 4 t) (iblk m c 8 t) (iblk m c 10 t) := by dsimp only [dats]

/-! An input's buffer holds its block at every point, whether it was fetched there or kept. -/

theorem before0_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before0_6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl
theorem before0_7 (c : Dev nD) (t : Fin cfg0.N) (d) : (dats m 0 c).before 7 t d = iblk m c 7 t :=
  ((dats m 0 c).before_in_eq_fetched 7 rfl (fun _ => rfl) (fun _ _ _ => rfl) (fun _ => rfl) t d).trans rfl
theorem before0_8 (c : Dev nD) (t : Fin cfg0.N) (d) : (dats m 0 c).before 8 t d = iblk m c 8 t :=
  ((dats m 0 c).before_in_eq_fetched 8 rfl (fun _ => rfl) (fun _ _ _ => rfl) (fun _ => rfl) t d).trans rfl
theorem before0_9 (c : Dev nD) (t : Fin cfg0.N) (d) : (dats m 0 c).before 9 t d = iblk m c 9 t :=
  ((dats m 0 c).before_in_eq_fetched 9 rfl (fun _ => rfl) (fun _ _ _ => rfl) (fun _ => rfl) t d).trans rfl
theorem before0_10 (c : Dev nD) (t : Fin cfg0.N) (d) : (dats m 0 c).before 10 t d = iblk m c 10 t :=
  ((dats m 0 c).before_in_eq_fetched 10 rfl (fun _ => rfl) (fun _ _ _ => rfl) (fun _ => rfl) t d).trans rfl
theorem before0_11 (c : Dev nD) (t : Fin cfg0.N) (d) : (dats m 0 c).before 11 t d = iblk m c 11 t :=
  ((dats m 0 c).before_in_eq_fetched 11 rfl (fun _ => rfl) (fun _ _ _ => rfl) (fun _ => rfl) t d).trans rfl
theorem before0_12 (c : Dev nD) (t : Fin cfg0.N) (d) : (dats m 0 c).before 12 t d = iblk m c 12 t :=
  ((dats m 0 c).before_in_eq_fetched 12 rfl (fun _ => rfl) (fun _ _ _ => rfl) (fun _ => rfl) t d).trans rfl
theorem before0_13 (c : Dev nD) (t : Fin cfg0.N) (d) : (dats m 0 c).before 13 t d = iblk m c 13 t :=
  ((dats m 0 c).before_in_eq_fetched 13 rfl (fun _ => rfl) (fun _ _ _ => rfl) (fun _ => rfl) t d).trans rfl
theorem before0_14 (c : Dev nD) (t : Fin cfg0.N) (d) : (dats m 0 c).before 14 t d = iblk m c 14 t :=
  ((dats m 0 c).before_in_eq_fetched 14 rfl (fun _ => rfl) (fun _ _ _ => rfl) (fun _ => rfl) t d).trans rfl
theorem before0_15 (c : Dev nD) (t : Fin cfg0.N) (d) : (dats m 0 c).before 15 t d = iblk m c 15 t :=
  ((dats m 0 c).before_in_eq_fetched 15 rfl (fun _ => rfl) (fun _ _ _ => rfl) (fun _ => rfl) t d).trans rfl
theorem before0_16 (c : Dev nD) (t : Fin cfg0.N) (d) : (dats m 0 c).before 16 t d = iblk m c 16 t :=
  ((dats m 0 c).before_in_eq_fetched 16 rfl (fun _ => rfl) (fun _ _ _ => rfl) (fun _ => rfl) t d).trans rfl
theorem before0_17 (c : Dev nD) (t : Fin cfg0.N) (d) : (dats m 0 c).before 17 t d = iblk m c 17 t :=
  ((dats m 0 c).before_in_eq_fetched 17 rfl (fun _ => rfl) (fun _ _ _ => rfl) (fun _ => rfl) t d).trans rfl
theorem before0_18 (c : Dev nD) (t : Fin cfg0.N) (d) : (dats m 0 c).before 18 t d = iblk m c 18 t :=
  ((dats m 0 c).before_in_eq_fetched 18 rfl (fun _ => rfl) (fun _ _ _ => rfl) (fun _ => rfl) t d).trans rfl
theorem before0_19 (c : Dev nD) (t : Fin cfg0.N) (d) : (dats m 0 c).before 19 t d = iblk m c 19 t :=
  ((dats m 0 c).before_in_eq_fetched 19 rfl (fun _ => rfl) (fun _ _ _ => rfl) (fun _ => rfl) t d).trans rfl
theorem before0_20 (c : Dev nD) (t : Fin cfg0.N) (d) : (dats m 0 c).before 20 t d = iblk m c 20 t :=
  ((dats m 0 c).before_in_eq_fetched 20 rfl (fun _ => rfl) (fun _ _ _ => rfl) (fun _ => rfl) t d).trans rfl

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (sound_kernel (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  iframe H0 H1 H2 H3 H4 H5 H6 H7 H8 H9 H10 H11 H12 H13 H14 H15 H16 H17 H18 H19 H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  iintro H
  isplitl [HΦ]; · iexact HΦ
  isplitl [Ho]; · iexact Ho
  iexact H

/-- The row of the table of calls at point `t` is the body. -/
theorem defs₀_row (t : Fin cfg0.N) :
    defs₀ (F := F) .tc cfg0.body (cfg0.bodyArgs t (cfg0.slots t)) = bodyAt0 t := by
  unfold defs₀; rw [Defs.onTc_tc]

/-- What the grid asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: it ends with every array at what the grid leaves in it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- An argument that window `w` stages ends as it was. -/
theorem staged (r : PUnit × MemSt nD τ sig (Elt F)) (h : Pipeline.FramePost cfgs (dats m) 0 (V m) r) (c : Dev nD) (w : Fin cfg0.W)
    (hw : (cfg0.win w).isOut = false) : r.2.mem ((c : Thread nD τ).loc (Pipeline.arrRef spec0 w)) = V m c (Pipeline.arrRef spec0 w) :=
  ((h c).1 w).trans (((dats m 0 c).arrAt_in w hw _).trans (A_eq m c w))

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun r h => ⟨fun c => ⟨staged m r h.1 c 1 rfl, staged m r h.1 c 2 rfl, staged m r h.1 c 3 rfl, staged m r h.1 c 4 rfl, staged m r h.1 c 5 rfl,
      staged m r h.1 c 6 rfl, staged m r h.1 c 7 rfl, staged m r h.1 c 8 rfl, staged m r h.1 c 9 rfl, staged m r h.1 c 10 rfl,
      staged m r h.1 c 11 rfl, staged m r h.1 c 12 rfl, staged m r h.1 c 13 rfl, staged m r h.1 c 14 rfl, staged m r h.1 c 15 rfl,
      staged m r h.1 c 16 rfl, staged m r h.1 c 17 rfl, staged m r h.1 c 18 rfl, staged m r h.1 c 19 rfl, staged m r h.1 c 20 rfl⟩, h.2⟩)
    (run_main_quiescent m ρ)

end Cert.Kernel3Ideal.Gen

end
-- ==== Proof.Bits.lean ====
module

public import proofs.«01_k».proof.Defs
public import proofs.«01_k».proof.Proof.Gen.Kernel
public import proofs.«01_k».proof.Proof.Gen.KernelIdeal
public import proofs.«01_k».proof.Proof.Gen.Kernel3
public import proofs.«01_k».proof.Proof.Gen.Kernel3Ideal
public import proofs.«01_k».proof.Proof.Run
public import proofs.«01_k».proof.Proof.ProjRun

@[expose] public section

set_option maxRecDepth 65536
set_option maxHeartbeats 4000000

noncomputable section

/-! No operation is replaced in the attention call or in the projection call, so the program each is proved for and
the program it runs as are one text. The frame is proved once, at any floats, and holds at bit level. -/

namespace Cert.Proof

open Idealize.ShloMosaic Idealize.ShloMosaic.TcCoe Idealize.SL.Sem

section

variable {F : FTy → Type} [FloatOps F]

/-- The two programs of the attention call make the same nested calls. -/
theorem attn_calls_eq : Cert.Kernel.defs₀ (F := F) = Cert.KernelIdeal.defs₀ (F := F) := by
  refine congrArg Defs.onTc (funext fun ℓ => funext fun a => ?_)
  revert a
  show ∀ a : Cert.Kernel.Λ₀.Args ℓ, _
  revert ℓ
  refine (fun (ℓ : Fin 1) => ?_)
  match ℓ with
  | ⟨0, _⟩ => exact fun (t, s) => rfl
  | ⟨_ + 1, h⟩ => exact absurd h (Nat.not_lt.2 (Nat.le_add_left _ _))

/-- So they are the same whole programs. -/
theorem attn_defs_eq : Cert.Kernel.defs (F := F) = Cert.KernelIdeal.defs (F := F) :=
  congrArg (Pipeline.defs Cert.KernelIdeal.pcfgs) attn_calls_eq

/-- The two programs of the projection call make the same nested calls. -/
theorem proj_calls_eq : Cert.Kernel3.defs₀ (F := F) = Cert.Kernel3Ideal.defs₀ (F := F) := by
  refine congrArg Defs.onTc (funext fun ℓ => funext fun a => ?_)
  revert a
  show ∀ a : Cert.Kernel3.Λ₀.Args ℓ, _
  revert ℓ
  refine (fun (ℓ : Fin 1) => ?_)
  match ℓ with
  | ⟨0, _⟩ => exact fun (t, s) => rfl
  | ⟨_ + 1, h⟩ => exact absurd h (Nat.not_lt.2 (Nat.le_add_left _ _))

/-- So they are the same whole programs. -/
theorem proj_defs_eq : Cert.Kernel3.defs (F := F) = Cert.Kernel3Ideal.defs (F := F) :=
  congrArg (Pipeline.defs Cert.Kernel3Ideal.pcfgs) proj_calls_eq

end

/-- The attention call at bit level runs, and leaves its arguments alone. -/
theorem frame_attn : Cert.quiescent_Kernel := fun m ρ _ => by
  have h := Cert.KernelIdeal.Hand.frame_main (F := Bits) m ρ
  rw [attn_defs_eq]
  exact h

/-- The projection call at bit level runs, and leaves its arguments alone. -/
theorem frame_proj : Cert.quiescent_Kernel3 := fun m ρ _ => by
  have h := Cert.Kernel3Ideal.Gen.frame (F := Bits) m ρ
  rw [proj_defs_eq]
  exact h

end Cert.Proof

end
-- ==== Proof.ProjSpec.lean ====
module

public import proofs.«01_k».proof.Proof.FfnSpec

@[expose] public section

noncomputable section

/-! A layer's modulated norm, its input projection and its latent values as formulas over what one token row meets. -/

namespace Cert.Proj

open Idealize.ShloMosaic Idealize.ShloMosaic.ValueIdx Cert.Softmax Cert.Ffn
open scoped BigOperators

/-- What one token row meets: its own row of the residual stream, and the layer's weights. -/
structure Token where
  /-- the residual stream -/
  x : ℕ → EReal
  /-- the gain of the norm -/
  g : ℕ → EReal
  /-- row `i` of the modulation: the shift in row 0, the scale in row 1 -/
  mod : ℕ → ℕ → EReal
  /-- the input projection -/
  w : ℕ → ℕ → EReal
  /-- the gain of the latent's norm -/
  gl : ℕ → EReal
  /-- the values' projection out of the latent -/
  wv : ℕ → ℕ → EReal

namespace Token
variable (T : Token)

/-- The modulated norm of the residual stream. -/
def inp (d : ℕ) : EReal :=
  T.x d * Ideal.rsqrt (Ideal.div (∑ e : Fin 1024, T.x e.val * T.x e.val) ((1024 : ℝ) : EReal) + eps) * T.g d * (1 + T.mod 1 d) + T.mod 0 d

/-- Column `j` of the input projection. -/
def proj (j : ℕ) : EReal := ∑ d : Fin 1024, T.inp d.val * T.w d.val j

/-- The normalised latent, columns 2176 to 2431 of the projection. -/
def lat (k : ℕ) : EReal :=
  T.proj (2176 + k) * Ideal.rsqrt (Ideal.div (∑ e : Fin 256, T.proj (2176 + e.val) * T.proj (2176 + e.val)) ((256 : ℝ) : EReal) + eps) * T.gl k

/-- Column `j` of the values out of the latent. -/
def val (j : ℕ) : EReal := ∑ k : Fin 256, T.lat k.val * T.wv k.val j
end Token

/-- What token row `y` meets in the call's arrays, in the last layer. -/
def tokenOf (x0 : FVec Ideal ⟨2, ![16896, 1024]⟩ .f32) (x1 : FVec Ideal ⟨4, ![4, 8, 6, 1024]⟩ .f32) (x2 : FVec Ideal ⟨3, ![4, 1, 1024]⟩ .f32)
    (x3 : FVec Ideal ⟨3, ![4, 1024, 2688]⟩ .bf16) (x7 : FVec Ideal ⟨3, ![4, 256, 512]⟩ .bf16) (x9 : FVec Ideal ⟨3, ![4, 1, 256]⟩ .f32) (y : ℕ) : Token where
  x := cell x0 y
  g := cell3 x2 3 0
  mod := cell4 x1 3 (y / 8192)
  w := cell3 x3 3
  gl := cell3 x9 3 0
  wv := cell3 x7 3

theorem ofBits_256 : Ideal.ofBits .f32 0x43800000#32 = ((256 : ℝ) : EReal) := by
  simp [Ideal.ofBits, Ideal.ieee, -EReal.coe_mul]; norm_num

end Cert.Proj

end
-- ==== Proof.ProjTile.lean ====
module

public import proofs.«01_k».proof.Proof.ProjSpec
public import proofs.«01_k».proof.Proof.FfnTile
public import proofs.«01_k».proof.Proof.Gen.Kernel3Ideal.Skeleton
public import Idealize.ShloMosaic.Lib.Pipeline.Value
public import Idealize.ShloMosaic.Lib.ValueLayoutCasts

@[expose] public section

set_option maxRecDepth 16384

noncomputable section

/-! One row of the third kernel's tile at the extended reals: what the body computes from what the row meets. -/

namespace Cert.Kernel3Ideal.Hand

open Cert.Kernel3Ideal Cert.Kernel3Ideal.Gen Cert.Softmax Cert.Ffn Cert.Proj
open Idealize.ShloMosaic Idealize.ShloMosaic.ValueIdx
open Cert.KernelIdeal.Hand (mm_apply)
open scoped BigOperators

/-- A grid point's blocks show, in row `r`, what `T` names. -/
structure Meets (T : Token) (r : Fin 512) (x0 : Vec Ideal S512x1024 .f32) (x2 : Vec Ideal S1x1x6x1024 .f32) (x3 : Vec Ideal S1x1x1024 .f32)
    (x4 : Vec Ideal S1x1024x2688 .bf16) (x8 : Vec Ideal S1x256x512 .bf16) (x10 : Vec Ideal S1x1x256 .f32) : Prop where
  x : ∀ d : Fin 1024, x0 (ix2 r d) = T.x d.val
  mod : ∀ (n : Fin 6) (d : Fin 1024), x2 (ix4 (0 : Fin 1) (0 : Fin 1) n d) = T.mod n.val d.val
  g : ∀ d : Fin 1024, x3 (ix3 (0 : Fin 1) (0 : Fin 1) d) = T.g d.val
  w : ∀ (d : Fin 1024) (j : Fin 2688), x4 (ix3 (0 : Fin 1) d j) = T.w d.val j.val
  wv : ∀ (k : Fin 256) (j : Fin 512), x8 (ix3 (0 : Fin 1) k j) = T.wv k.val j.val
  gl : ∀ k : Fin 256, x10 (ix3 (0 : Fin 1) (0 : Fin 1) k) = T.gl k.val

section
variable {T : Token} {r : Fin 512}

/-- A product with a stretch of the input projection's columns, of the body. -/
def stretchBlk (W : ℕ) (X : FVec Ideal ⟨2, ![512, 1024]⟩ .bf16) (A : FVec Ideal ⟨3, ![1, 1024, W]⟩ .bf16)
    (hc : (⟨3, ![1, 1024, W]⟩ : Shape).ShapeCasts ⟨2, ![1024, W]⟩) : FVec Ideal ⟨2, ![512, W]⟩ .f32 :=
  FloatOps.matmul (φ₁ := .bf16) (φ₂ := .bf16) (DotDims.plain 512 1024 W) none X (shapeCast ⟨2, ![1024, W]⟩ A hc) (constant (F := Ideal) ⟨2, ![512, W]⟩ .f32 0x00000000#32)

theorem stretchBlk_apply (W c : ℕ) (X : FVec Ideal ⟨2, ![512, 1024]⟩ .bf16) (A : FVec Ideal ⟨3, ![1, 1024, W]⟩ .bf16)
    (hc : (⟨3, ![1, 1024, W]⟩ : Shape).ShapeCasts ⟨2, ![1024, W]⟩) (hX : ∀ d : Fin 1024, X (ix2 r d) = T.inp d.val)
    (hA : ∀ (d : Fin 1024) (j : Fin W), A (ix3 (0 : Fin 1) d j) = T.w d.val (c + j.val)) (j : Fin W) :
    stretchBlk W X A hc (ix2 r j) = T.proj (c + j.val) := by
  unfold stretchBlk
  rw [mm_apply]
  exact Finset.sum_congr rfl fun k _ => by rw [hX, shapeCast_1ab_ab_apply, hA]

/-- A vector's rows over the root of their mean of squares, of the body: `n` says how many columns. -/
def rootBlk (W : ℕ) (n : BitVec 32) (x : FVec Ideal ⟨2, ![512, W]⟩ .f32) (hr : Shape.Reduces ⟨2, ![512, W]⟩ [1] S512)
    (hb : S512x1.Broadcasts ⟨2, ![512, W]⟩) : FVec Ideal ⟨2, ![512, W]⟩ .f32 :=
  mulf x (broadcastTo ⟨2, ![512, W]⟩ (rsqrt (addf (divf (shapeCast S512x1 (multiReduction .add [1] S512 (mulf x x) 0x00000000#32 hr (.inl rfl) rfl)
    shapeCasts_S512_S512x1) (broadcast S512x1 (Scalar.ofBits .f32 n))) (broadcast S512x1 (Scalar.ofBits .f32 0x358637BD#32)))) hb)

theorem row_total (W : ℕ) (x : FVec Ideal ⟨2, ![512, W]⟩ .f32) (hr : Shape.Reduces ⟨2, ![512, W]⟩ [1] S512) (r : Fin 512) :
    multiReduction .add [1] S512 x 0x00000000#32 hr (.inl rfl) rfl (ix1 r) = ∑ k : Fin W, x (ix2 r k) :=
  (Ideal.multiReduction_add_single x _ hr (.inl rfl) rfl (ix1 r)).trans
    (Finset.sum_congr rfl fun k _ => congrArg x (funext fun a => match a with | ⟨0, _⟩ => rfl | ⟨1, _⟩ => rfl))

theorem rootBlk_apply (W : ℕ) (n : BitVec 32) (x : FVec Ideal ⟨2, ![512, W]⟩ .f32) (hr : Shape.Reduces ⟨2, ![512, W]⟩ [1] S512)
    (hb : S512x1.Broadcasts ⟨2, ![512, W]⟩) (f : ℕ → EReal) (q : EReal) (hn : Ideal.ofBits .f32 n = q) (h : ∀ d : Fin W, x (ix2 r d) = f d.val) (d : Fin W) :
    rootBlk W n x hr hb (ix2 r d) = f d.val * Ideal.rsqrt (Ideal.div (∑ e : Fin W, f e.val * f e.val) q + eps) := by
  show x (ix2 r d) * broadcastTo ⟨2, ![512, W]⟩ _ hb (ix2 r d) = _
  rw [h, broadcastTo_apply _ hb (ix2 r d) (ix2 r (0 : Fin 1)) fun a => match a with | ⟨0, _⟩ => rfl | ⟨1, _⟩ => rfl]
  show _ * Ideal.rsqrt (Ideal.div (shapeCast S512x1 _ shapeCasts_S512_S512x1 (ix2 r (0 : Fin 1))) (Ideal.ofBits .f32 n) + eps) = _
  rw [shapeCast_a_a1_apply, hn]
  exact congrArg (f d.val * ·) (congrArg (fun s => Ideal.rsqrt (Ideal.div s _ + eps))
    ((row_total W (mulf x x) hr r).trans (Finset.sum_congr rfl fun k _ => congrArg₂ (· * ·) (h k) (h k))))

section
variable {x0 : Vec Ideal S512x1024 .f32} {x2 : Vec Ideal S1x1x6x1024 .f32} {x3 : Vec Ideal S1x1x1024 .f32}
  {x4 : Vec Ideal S1x1024x2688 .bf16} {x8 : Vec Ideal S1x256x512 .bf16} {x10 : Vec Ideal S1x1x256 .f32} (M : Meets T r x0 x2 x3 x4 x8 x10)
include M

/-- A stretch of the input projection's columns, loaded. -/
theorem Meets.w_ld (c W : ℕ) (inb : ∀ a, (![0, 0, c] : Fin 3 → ℕ) a + (![1, 1024, W] : Fin 3 → ℕ) a ≤ S1x1024x2688.size a) (d : Fin 1024) (j : Fin W) :
    (View.ld x4 (Rect.unit (s := S1x1024x2688) ![0, 0, c] ![1, 1024, W] inb) : Vec Ideal ⟨3, ![1, 1024, W]⟩ .bf16) (ix3 (0 : Fin 1) d j) = T.w d.val (c + j.val) := by
  have hc : c + W ≤ 2688 := inb 2
  refine (congrArg x4 ?_).trans (M.w d ⟨c + j.val, by omega⟩)
  exact funext fun a => Fin.ext (match a with
    | ⟨0, _⟩ => rfl
    | ⟨1, _⟩ => by show 0 + 1 * d.val = d.val; omega
    | ⟨2, _⟩ => by show c + 1 * j.val = c + j.val; omega)

/-- A row of the modulation, loaded. -/
theorem Meets.mod_ld (n : Fin 6) (inb : ∀ a, (![0, 0, n.val, 0] : Fin 4 → ℕ) a + (![1, 1, 1, 1024] : Fin 4 → ℕ) a ≤ S1x1x6x1024.size a) (d : Fin 1024) :
    shapeCast S1x1024 (View.ld x2 (Rect.unit (s := S1x1x6x1024) ![0, 0, n.val, 0] ![1, 1, 1, 1024] inb) : Vec Ideal S1x1x1x1024 .f32)
      shapeCasts_S1x1x1x1024_S1x1024 (ix2 (0 : Fin 1) d) = T.mod n.val d.val := by
  rw [shapeCast_apply _ shapeCasts_S1x1x1x1024_S1x1024 (ix2 (0 : Fin 1) d) (ix4 (0 : Fin 1) (0 : Fin 1) (0 : Fin 1) d)
    (by rw [Shape.rowMajor_val_four, Shape.rowMajor_val_two]; rfl)]
  refine (congrArg x2 ?_).trans (M.mod n d)
  exact funext fun a => Fin.ext (match a with
    | ⟨0, _⟩ => rfl
    | ⟨1, _⟩ => rfl
    | ⟨2, _⟩ => by show n.val + 1 * 0 = n.val; omega
    | ⟨3, _⟩ => by show 0 + 1 * d.val = d.val; omega)

/-- The block of normalised inputs, as the body has it from its loads. -/
abbrev inpBlk (x0 : Vec Ideal S512x1024 .f32) (x2 : Vec Ideal S1x1x6x1024 .f32) (x3 : Vec Ideal S1x1x1024 .f32) : FVec Ideal S512x1024 .bf16 :=
  k0_pay2 x0 (View.ld x2 (Rect.unit (s := S1x1x6x1024) ![0, 0, 0, 0] S1x1x1x1024.size inb_S1x1x6x1024_S1x1x1x1024_0_0_0_0))
    (View.ld x2 (Rect.unit (s := S1x1x6x1024) ![0, 0, 1, 0] S1x1x1x1024.size inb_S1x1x6x1024_S1x1x1x1024_0_0_1_0)) x3

theorem Meets.inp (d : Fin 1024) : inpBlk x0 x2 x3 (ix2 r d) = T.inp d.val := by
  show rootBlk 1024 0x44800000#32 x0 reduces_S512x1024_S512 broadcasts_S512x1_S512x1024 (ix2 r d)
      * broadcastTo S512x1024 (shapeCast S1x1024 x3 shapeCasts_S1x1x1024_S1x1024) broadcasts_S1x1024_S512x1024 (ix2 r d)
      * broadcastTo S512x1024 (addf (broadcast S1x1024 (Scalar.ofBits .f32 0x3F800000#32)) (shapeCast S1x1024 _ shapeCasts_S1x1x1x1024_S1x1024))
        broadcasts_S1x1024_S512x1024 (ix2 r d)
    + broadcastTo S512x1024 (shapeCast S1x1024 _ shapeCasts_S1x1x1x1024_S1x1024) broadcasts_S1x1024_S512x1024 (ix2 r d) = _
  rw [broadcastTo_1b_ab_apply, broadcastTo_1b_ab_apply, broadcastTo_1b_ab_apply, rootBlk_apply 1024 _ x0 _ _ T.x _ ofBits_1024 M.x,
    shapeCast_1ab_ab_apply, M.g]
  exact congrArg₂ (· + ·) (congrArg₂ (· * ·) rfl (congrArg₂ (· + ·) Ideal.ofBits_one_f32 (M.mod_ld 1 inb_S1x1x6x1024_S1x1x1x1024_0_0_1_0 d)))
    (M.mod_ld 0 inb_S1x1x6x1024_S1x1x1x1024_0_0_0_0 d)

/-- The product of the normalised inputs with a stretch of the projection's columns. -/
theorem Meets.stretch (c W : ℕ) (inb : ∀ a, (![0, 0, c] : Fin 3 → ℕ) a + (![1, 1024, W] : Fin 3 → ℕ) a ≤ S1x1024x2688.size a)
    (hc : (⟨3, ![1, 1024, W]⟩ : Shape).ShapeCasts ⟨2, ![1024, W]⟩) (j : Fin W) :
    stretchBlk W (inpBlk x0 x2 x3) (View.ld x4 (Rect.unit (s := S1x1024x2688) ![0, 0, c] ![1, 1024, W] inb)) hc (ix2 r j) = T.proj (c + j.val) :=
  stretchBlk_apply W c _ _ hc M.inp (M.w_ld c W inb) j

/-- A slice of such a product: the columns from `c + o` on. -/
theorem Meets.slice (c W o V : ℕ) (inb : ∀ a, (![0, 0, c] : Fin 3 → ℕ) a + (![1, 1024, W] : Fin 3 → ℕ) a ≤ S1x1024x2688.size a)
    (hc : (⟨3, ![1, 1024, W]⟩ : Shape).ShapeCasts ⟨2, ![1024, W]⟩) (hs : Shape.Slices ⟨2, ![512, W]⟩ ![0, o] ⟨2, ![512, V]⟩) (hW : o + V ≤ W) (j : Fin V) :
    extractStridedSlice ⟨2, ![512, V]⟩ ![0, o]
      (stretchBlk W (inpBlk x0 x2 x3) (View.ld x4 (Rect.unit (s := S1x1024x2688) ![0, 0, c] ![1, 1024, W] inb)) hc) hs (ix2 r j) = T.proj (c + o + j.val) := by
  rw [extractStridedSlice_apply _ _ hs (ix2 r j) (ix2 r (⟨o + j.val, by omega⟩ : Fin W)) (fun a => match a with
    | ⟨0, _⟩ => (Nat.zero_add _).symm
    | ⟨1, _⟩ => rfl), M.stretch, Nat.add_assoc]

/-- The block of normalised latents, as the body has it from its loads. -/
abbrev latBlk (x0 : Vec Ideal S512x1024 .f32) (x2 : Vec Ideal S1x1x6x1024 .f32) (x3 : Vec Ideal S1x1x1024 .f32) (x4 : Vec Ideal S1x1024x2688 .bf16)
    (x10 : Vec Ideal S1x1x256 .f32) : FVec Ideal S512x256 .bf16 :=
  k0_pay9 (k0_pay5 x0 (View.ld x2 (Rect.unit (s := S1x1x6x1024) ![0, 0, 0, 0] S1x1x1x1024.size inb_S1x1x6x1024_S1x1x1x1024_0_0_0_0))
    (View.ld x2 (Rect.unit (s := S1x1x6x1024) ![0, 0, 1, 0] S1x1x1x1024.size inb_S1x1x6x1024_S1x1x1x1024_0_0_1_0)) x3
    (View.ld x4 (Rect.unit (s := S1x1024x2688) ![0, 0, 1792] S1x1024x896.size inb_S1x1024x2688_S1x1024x896_0_0_1792))) x10

theorem Meets.lat (k : Fin 256) : latBlk x0 x2 x3 x4 x10 (ix2 r k) = T.lat k.val := by
  show rootBlk 256 0x43800000#32 (k0_pay5 _ _ _ _ _) reduces_S512x256_S512 broadcasts_S512x1_S512x256 (ix2 r k)
      * broadcastTo S512x256 (shapeCast S1x256 x10 shapeCasts_S1x1x256_S1x256) broadcasts_S1x256_S512x256 (ix2 r k) = _
  rw [broadcastTo_1b_ab_apply, shapeCast_1ab_ab_apply, M.gl]
  refine congrArg₂ (· * ·) (rootBlk_apply 256 _ _ _ _ (fun e => T.proj (2176 + e)) _ ofBits_256 (fun j => ?_) k) rfl
  exact M.slice 1792 896 384 256 inb_S1x1024x2688_S1x1024x896_0_0_1792 shapeCasts_S1x1024x896_S1024x896 slices_S512x896_o0_384_S512x256 (by omega) j

/-- The values out of the latents, one column for each token. -/
theorem Meets.val (j : Fin 512) : k0_pay17 (latBlk x0 x2 x3 x4 x10) x8 (ix2 j r) = T.val j.val := by
  show transpose S512x512 [1, 0] (FloatOps.matmul (φ₁ := .bf16) (φ₂ := .bf16) (DotDims.plain 512 256 512) none (latBlk x0 x2 x3 x4 x10)
    (shapeCast S256x512 x8 shapeCasts_S1x256x512_S256x512) (constant (F := Ideal) ⟨2, ![512, 512]⟩ .f32 0x00000000#32)) transposes_S512x512_p1_0_S512x512 (ix2 j r) = _
  rw [transpose_apply _ _ transposes_S512x512_p1_0_S512x512 (ix2 j r) (ix2 r j) (fun a => match a with | ⟨0, _⟩ => rfl | ⟨1, _⟩ => rfl), mm_apply]
  exact Finset.sum_congr rfl fun k _ => by rw [M.lat, shapeCast_1ab_ab_apply, M.wv]

/-- The first head group's values, one column for each token. -/
theorem Meets.navt (j : Fin 256) :
    k0_pay13 (inpBlk x0 x2 x3) (View.ld x4 (Rect.unit (s := S1x1024x2688) ![0, 0, 0] S1x1024x768.size inb_S1x1024x2688_S1x1024x768_0_0_0)) (ix2 j r)
      = T.proj (512 + j.val) := by
  show transpose S256x512 [1, 0] (extractStridedSlice S512x256 ![0, 512] (stretchBlk 768 (inpBlk x0 x2 x3)
    (View.ld x4 (Rect.unit (s := S1x1024x2688) ![0, 0, 0] S1x1024x768.size inb_S1x1024x2688_S1x1024x768_0_0_0)) shapeCasts_S1x1024x768_S1024x768)
    slices_S512x768_o0_512_S512x256) transposes_S512x256_p1_0_S256x512 (ix2 j r) = _
  rw [transpose_apply _ _ transposes_S512x256_p1_0_S256x512 (ix2 j r) (ix2 r j) (fun a => match a with | ⟨0, _⟩ => rfl | ⟨1, _⟩ => rfl)]
  exact (M.slice 0 768 512 256 inb_S1x1024x2688_S1x1024x768_0_0_0 shapeCasts_S1x1024x768_S1024x768 slices_S512x768_o0_512_S512x256 (by omega) j).trans
    (by rw [Nat.zero_add])
end

end

end Cert.Kernel3Ideal.Hand

end
-- ==== Proof.ProjFinal.lean ====
module

public import proofs.«01_k».proof.Proof.ProjTile
public import proofs.«01_k».proof.Proof.ProjRun
public import Idealize.ShloMosaic.Lib.Pipeline.ValueKit.Geometry

@[expose] public section

set_option maxRecDepth 16384

noncomputable section

/-! Six of the third kernel's arrays at the extended reals, from their blocks. -/

namespace Cert.Kernel3Ideal.Hand

open Cert.Kernel3Ideal Cert.Kernel3Ideal.Gen Cert.Softmax Cert.Ffn Cert.Proj
open Idealize.ShloMosaic Idealize.ShloMosaic.ValueIdx Idealize.ShloMosaic.TcCoe Idealize.SL.Sem
open scoped BigOperators

/-! What the body leaves in row `r` of six of its blocks. -/

section
variable {T : Token} {r : Fin 512} {x0 : Vec Ideal S512x1024 .f32} {x2 : Vec Ideal S1x1x6x1024 .f32} {x3 : Vec Ideal S1x1x1024 .f32}
  {x4 : Vec Ideal S1x1024x2688 .bf16} {x8 : Vec Ideal S1x256x512 .bf16} {x10 : Vec Ideal S1x1x256 .f32} (M : Meets T r x0 x2 x3 x4 x8 x10)

theorem inp_pay : k0_pay58 x0 x2 x3 = inpBlk x0 x2 x3 := by
  unfold k0_pay58
  rw [View.ld_unit_lit _ x0 (by decide), View.ld_unit_lit _ x3 (by decide)]

theorem lat_pay : k0_pay61 x0 x2 x3 x4 x10 = latBlk x0 x2 x3 x4 x10 := by
  unfold k0_pay61
  rw [View.ld_unit_lit _ x0 (by decide), View.ld_unit_lit _ x3 (by decide), View.ld_unit_lit _ x10 (by decide)]

include M

theorem Meets.out23 (j : Fin 512) : out0_23 x0 x2 x3 x4 (ix2 r j) = T.proj (768 + j.val) := by
  unfold out0_23
  rw [View.canon_cons_unit_lit _ _ _ (by decide), inp_pay]
  exact M.slice 768 1024 0 512 inb_S1x1024x2688_S1x1024x1024_0_0_768 shapeCasts_S1x1024x1024_S1024x1024 slices_S512x1024_o0_0_S512x512 (by omega) j

theorem Meets.out24 (j : Fin 256) : out0_24 x0 x2 x3 x4 (ix2 r j) = T.proj (1280 + j.val) := by
  unfold out0_24 k0_pay66
  rw [View.canon_cons_unit_lit _ _ _ (by decide), inp_pay]
  exact M.slice 768 1024 512 256 inb_S1x1024x2688_S1x1024x1024_0_0_768 shapeCasts_S1x1024x1024_S1024x1024 slices_S512x1024_o0_512_S512x256 (by omega) j

theorem Meets.out25 (j : Fin 256) : out0_25 x0 x2 x3 x4 (ix2 r j) = T.proj (1536 + j.val) := by
  unfold out0_25 k0_pay66
  rw [View.canon_cons_unit_lit _ _ _ (by decide), inp_pay]
  exact M.slice 768 1024 768 256 inb_S1x1024x2688_S1x1024x1024_0_0_768 shapeCasts_S1x1024x1024_S1024x1024 slices_S512x1024_o0_768_S512x256 (by omega) j

theorem Meets.out26 (j : Fin 128) : out0_26 x0 x2 x3 x4 (ix2 r j) = T.proj (2432 + j.val) := by
  unfold out0_26 k0_pay59
  rw [View.canon_cons_unit_lit _ _ _ (by decide), View.ld_unit_lit _ x0 (by decide), View.ld_unit_lit _ x3 (by decide)]
  exact M.slice 1792 896 640 128 inb_S1x1024x2688_S1x1024x896_0_0_1792 shapeCasts_S1x1024x896_S1024x896 slices_S512x896_o0_640_S512x128 (by omega) j

theorem Meets.out29 (j : Fin 256) : out0_29 x0 x2 x3 x4 (ix2 j r) = T.proj (512 + j.val) := by
  unfold out0_29
  rw [View.canon_cons_unit_lit _ _ _ (by decide), inp_pay]
  exact M.navt j

theorem Meets.out30 (j : Fin 512) : out0_30 x0 x2 x3 x4 x8 x10 (ix2 j r) = T.val j.val := by
  unfold out0_30
  rw [View.canon_cons_unit_lit _ _ _ (by decide), lat_pay, View.ld_unit_lit _ x8 (by decide)]
  exact M.val j
end

section
variable (m : (ℓ : Loc nD τ sig) → Buf (Elt Ideal) ℓ) (c : Dev nD) (t : Fin cfg0.N)

theorem idx0 : ∀ t : Fin cfg0.N, win0_0.index t = ![(grid0.coords t 0).val, 0] := (by decide +kernel : ∀ t : Fin grid0.N, _)
theorem idx2 : ∀ t : Fin cfg0.N, win0_2.index t = ![3, (grid0.coords t 0).val / 16, 0, 0] := (by decide +kernel : ∀ t : Fin grid0.N, _)
theorem idx3 : ∀ t : Fin cfg0.N, win0_3.index t = ![3, 0, 0] := (by decide +kernel : ∀ t : Fin grid0.N, _)
theorem idx4 : ∀ t : Fin cfg0.N, win0_4.index t = ![3, 0, 0] := (by decide +kernel : ∀ t : Fin grid0.N, _)
theorem idx8 : ∀ t : Fin cfg0.N, win0_8.index t = ![3, 0, 0] := (by decide +kernel : ∀ t : Fin grid0.N, _)
theorem idx10 : ∀ t : Fin cfg0.N, win0_10.index t = ![3, 0, 0] := (by decide +kernel : ∀ t : Fin grid0.N, _)
theorem idx23 : ∀ t : Fin cfg0.N, win0_23.index t = ![(grid0.coords t 0).val, 0] := (by decide +kernel : ∀ t : Fin grid0.N, _)
theorem idx24 : ∀ t : Fin cfg0.N, win0_24.index t = ![(grid0.coords t 0).val, 0] := (by decide +kernel : ∀ t : Fin grid0.N, _)
theorem idx25 : ∀ t : Fin cfg0.N, win0_25.index t = ![(grid0.coords t 0).val, 0] := (by decide +kernel : ∀ t : Fin grid0.N, _)
theorem idx26 : ∀ t : Fin cfg0.N, win0_26.index t = ![(grid0.coords t 0).val, 0] := (by decide +kernel : ∀ t : Fin grid0.N, _)
theorem idx29 : ∀ t : Fin cfg0.N, win0_29.index t = ![0, (grid0.coords t 0).val] := (by decide +kernel : ∀ t : Fin grid0.N, _)
theorem idx30 : ∀ t : Fin cfg0.N, win0_30.index t = ![0, (grid0.coords t 0).val] := (by decide +kernel : ∀ t : Fin grid0.N, _)

/-- The call's arguments as it finds them. -/
abbrev arr0 : FVec Ideal ⟨2, ![16896, 1024]⟩ .f32 := V m c main_arg0
abbrev arr1 : FVec Ideal ⟨4, ![4, 8, 6, 1024]⟩ .f32 := V m c main_arg1
abbrev arr2 : FVec Ideal ⟨3, ![4, 1, 1024]⟩ .f32 := V m c main_arg2
abbrev arr3 : FVec Ideal ⟨3, ![4, 1024, 2688]⟩ .bf16 := V m c main_arg3
abbrev arr7 : FVec Ideal ⟨3, ![4, 256, 512]⟩ .bf16 := V m c main_arg7
abbrev arr9 : FVec Ideal ⟨3, ![4, 1, 256]⟩ .f32 := V m c main_arg9

/-- Token `y` of them. -/
abbrev tok (y : ℕ) : Token := tokenOf (arr0 m c) (arr1 m c) (arr2 m c) (arr3 m c) (arr7 m c) (arr9 m c) y

/-! The windows' blocks: rows of the token array, the last layer of the layer arrays. -/

theorem block0 (j : S512x1024.Idx) : iblk m c 0 t j = cell (arr0 m c) ((grid0.coords t 0).val * 512 + (j 0).val) (j 1).val := by
  blk_simp [iblk]
  refine (cell_eq (arr0 m c) _).trans ?_
  blk_simp [idx0]

theorem block2 (j : S1x1x6x1024.Idx) : iblk m c 2 t j = cell4 (arr1 m c) 3 ((grid0.coords t 0).val / 16) (j 2).val (j 3).val := by
  blk_simp [iblk]
  refine (cell4_eq (arr1 m c) _).trans ?_
  blk_simp [idx2]

theorem block3 (j : S1x1x1024.Idx) : iblk m c 3 t j = cell3 (arr2 m c) 3 0 (j 2).val := by
  blk_simp [iblk]
  refine (cell3_eq (arr2 m c) _).trans ?_
  blk_simp [idx3]

theorem block4 (j : S1x1024x2688.Idx) : iblk m c 4 t j = cell3 (arr3 m c) 3 (j 1).val (j 2).val := by
  blk_simp [iblk]
  refine (cell3_eq (arr3 m c) _).trans ?_
  blk_simp [idx4]

theorem block8 (j : S1x256x512.Idx) : iblk m c 8 t j = cell3 (arr7 m c) 3 (j 1).val (j 2).val := by
  blk_simp [iblk]
  refine (cell3_eq (arr7 m c) _).trans ?_
  blk_simp [idx8]

theorem block10 (j : S1x1x256.Idx) : iblk m c 10 t j = cell3 (arr9 m c) 3 0 (j 2).val := by
  blk_simp [iblk]
  refine (cell3_eq (arr9 m c) _).trans ?_
  blk_simp [idx10]

/-- Token `512 i + r`, at grid point `i`. -/
theorem meets (r : Fin 512) : Meets (tok m c ((grid0.coords t 0).val * 512 + r.val)) r (iblk m c 0 t) (iblk m c 2 t) (iblk m c 3 t) (iblk m c 4 t)
    (iblk m c 8 t) (iblk m c 10 t) where
  x d := block0 m c t _
  mod n d := (block2 m c t _).trans (by
    show cell4 (arr1 m c) 3 _ n.val d.val = cell4 (arr1 m c) 3 (((grid0.coords t 0).val * 512 + r.val) / 8192) n.val d.val
    congr 1
    have := r.isLt
    omega)
  g d := block3 m c t _
  w d j := block4 m c t _
  wv k j := block8 m c t _
  gl k := block10 m c t _

/-! The six arrays. -/

theorem final23 : (dats m 0 c).arrAt 23 cfg0.N = fun y : S16896x512.Idx => (tok m c (y 0).val).proj (768 + (y 1).val) := by
  refine (dats m 0 c).arrAt_eq_of_covers 23 _ (by decide +kernel) fun t hf y => ?_
  blk_simp
  rw [after0_23, idx23]
  obtain ⟨r, j, rfl⟩ : ∃ (r : Fin 512) (j : Fin 512), y = ix2 r j := ⟨y 0, y 1, eq_ix2 y⟩
  refine ((meets m c t r).out23 j).trans ?_
  show Token.proj _ _ = Token.proj _ (768 + (0 * 512 + j.val))
  rw [Nat.zero_mul, Nat.zero_add]
  rfl

theorem final24 : (dats m 0 c).arrAt 24 cfg0.N = fun y : S16896x256.Idx => (tok m c (y 0).val).proj (1280 + (y 1).val) := by
  refine (dats m 0 c).arrAt_eq_of_covers 24 _ (by decide +kernel) fun t hf y => ?_
  blk_simp
  rw [after0_24, idx24]
  obtain ⟨r, j, rfl⟩ : ∃ (r : Fin 512) (j : Fin 256), y = ix2 r j := ⟨y 0, y 1, eq_ix2 y⟩
  refine ((meets m c t r).out24 j).trans ?_
  show Token.proj _ _ = Token.proj _ (1280 + (0 * 256 + j.val))
  rw [Nat.zero_mul, Nat.zero_add]
  rfl

theorem final25 : (dats m 0 c).arrAt 25 cfg0.N = fun y : S16896x256.Idx => (tok m c (y 0).val).proj (1536 + (y 1).val) := by
  refine (dats m 0 c).arrAt_eq_of_covers 25 _ (by decide +kernel) fun t hf y => ?_
  blk_simp
  rw [after0_25, idx25]
  obtain ⟨r, j, rfl⟩ : ∃ (r : Fin 512) (j : Fin 256), y = ix2 r j := ⟨y 0, y 1, eq_ix2 y⟩
  refine ((meets m c t r).out25 j).trans ?_
  show Token.proj _ _ = Token.proj _ (1536 + (0 * 256 + j.val))
  rw [Nat.zero_mul, Nat.zero_add]
  rfl

theorem final26 : (dats m 0 c).arrAt 26 cfg0.N = fun y : S16896x128.Idx => (tok m c (y 0).val).proj (2432 + (y 1).val) := by
  refine (dats m 0 c).arrAt_eq_of_covers 26 _ (by decide +kernel) fun t hf y => ?_
  blk_simp
  rw [after0_26, idx26]
  obtain ⟨r, j, rfl⟩ : ∃ (r : Fin 512) (j : Fin 128), y = ix2 r j := ⟨y 0, y 1, eq_ix2 y⟩
  refine ((meets m c t r).out26 j).trans ?_
  show Token.proj _ _ = Token.proj _ (2432 + (0 * 128 + j.val))
  rw [Nat.zero_mul, Nat.zero_add]
  rfl

theorem final29 : (dats m 0 c).arrAt 29 cfg0.N = fun y : S256x16896.Idx => (tok m c (y 1).val).proj (512 + (y 0).val) := by
  refine (dats m 0 c).arrAt_eq_of_covers 29 _ (by decide +kernel) fun t hf y => ?_
  blk_simp
  rw [after0_29, idx29]
  obtain ⟨j, r, rfl⟩ : ∃ (j : Fin 256) (r : Fin 512), y = ix2 j r := ⟨y 0, y 1, eq_ix2 y⟩
  refine ((meets m c t r).out29 j).trans ?_
  show Token.proj _ _ = Token.proj _ (512 + (0 * 256 + j.val))
  rw [Nat.zero_mul, Nat.zero_add]
  rfl

theorem final30 : (dats m 0 c).arrAt 30 cfg0.N = fun y : S512x16896.Idx => (tok m c (y 1).val).val (y 0).val := by
  refine (dats m 0 c).arrAt_eq_of_covers 30 _ (by decide +kernel) fun t hf y => ?_
  blk_simp
  rw [after0_30, idx30]
  obtain ⟨j, r, rfl⟩ : ∃ (j : Fin 512) (r : Fin 512), y = ix2 j r := ⟨y 0, y 1, eq_ix2 y⟩
  refine ((meets m c t r).out30 j).trans ?_
  show Token.val _ _ = Token.val _ (0 * 512 + j.val)
  rw [Nat.zero_mul, Nat.zero_add]
  rfl
end

/-! The call as a whole: what its run leaves in the six arrays, and in its arguments. -/

section
variable (m : (ℓ : Loc nD τ sig) → Buf (Elt Ideal) ℓ) (ρ : Dev nD → PrngReg)

/-- What the six arrays end as, and that the arguments end as they were. -/
theorem run_arrays : θ_run defs (onTc (τ := τ) (main (F := Ideal))) ⟨m, fun _ => 0, ρ⟩ fun r => ∀ c : Dev nD,
      r.2.mem ((c : Thread nD τ).loc main_v0_2) = (fun y : S16896x512.Idx => (tok m c (y 0).val).proj (768 + (y 1).val))
      ∧ r.2.mem ((c : Thread nD τ).loc main_v0_3) = (fun y : S16896x256.Idx => (tok m c (y 0).val).proj (1280 + (y 1).val))
      ∧ r.2.mem ((c : Thread nD τ).loc main_v0_4) = (fun y : S16896x256.Idx => (tok m c (y 0).val).proj (1536 + (y 1).val))
      ∧ r.2.mem ((c : Thread nD τ).loc main_v0_5) = (fun y : S16896x128.Idx => (tok m c (y 0).val).proj (2432 + (y 1).val))
      ∧ r.2.mem ((c : Thread nD τ).loc main_v0_8) = (fun y : S256x16896.Idx => (tok m c (y 1).val).proj (512 + (y 0).val))
      ∧ r.2.mem ((c : Thread nD τ).loc main_v0_9) = (fun y : S512x16896.Idx => (tok m c (y 1).val).val (y 0).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨((h c).1 23).trans (final23 m c), ((h c).1 24).trans (final24 m c), ((h c).1 25).trans (final25 m c),
      ((h c).1 26).trans (final26 m c), ((h c).1 29).trans (final29 m c), ((h c).1 30).trans (final30 m c),
      staged m r h c 1 rfl, staged m r h c 2 rfl, staged m r h c 3 rfl, staged m r h c 4 rfl, staged m r h c 5 rfl,
      staged m r h c 6 rfl, staged m r h c 7 rfl, staged m r h c 8 rfl, staged m r h c 9 rfl, staged m r h c 10 rfl,
      staged m r h c 11 rfl, staged m r h c 12 rfl, staged m r h c 13 rfl, staged m r h c 14 rfl, staged m r h c 15 rfl,
      staged m r h c 16 rfl, staged m r h c 17 rfl, staged m r h c 18 rfl, staged m r h c 19 rfl, staged m r h c 20 rfl⟩)
    (run_main m ρ)
end

end Cert.Kernel3Ideal.Hand

end
-- ==== Proof.ProjReference.lean ====
module

public import proofs.«01_k».proof.Proof.ProjSpec
public import proofs.«01_k».proof.Proof.Gen.Reference3Ideal.Read
public import Idealize.ShloMosaic.Lib.Pipeline.Value

@[expose] public section

set_option maxRecDepth 16384

noncomputable section

/-! The third reference's results at the extended reals, stage by stage. -/

namespace Cert.Reference3Ideal.Hand

open Cert.Reference3Ideal Cert.Reference3Ideal.Gen Cert.Reference3Ideal.Read Cert.Softmax Cert.Ffn Cert.Proj
open Idealize.ShloMosaic Idealize.ShloMosaic.ValueIdx
open scoped BigOperators

section
variable (x0 : FVec Ideal S16896x1024 .f32) (x1 : FVec Ideal S4x8x6x1024 .f32) (x2 : FVec Ideal S4x1x1024 .f32) (x3 : FVec Ideal S4x1024x2688 .bf16)
  (x7 : FVec Ideal S4x256x512 .bf16) (x9 : FVec Ideal S4x1x256 .f32)

theorem mod_entry {n : ℕ} (j : S4x8x6x1024.Idx) (b d : ℕ) (h0 : (j 0).val = 3) (h1 : (j 1).val = b) (h2 : (j 2).val = n) (h3 : (j 3).val = d) :
    x1 j = cell4 x1 3 b n d := by
  rw [cell4_eq x1, h0, h1, h2, h3]

/-- A row for each latent batch, set before a row for the context: each token gets the modulation of its batch. -/
theorem tokens_eq (n : ℕ) (a : FVec Ideal S16384x1024 .f32) (b : FVec Ideal S512x1024 .f32) (h : Shape.Concatenates [S16384x1024, S512x1024] S16896x1024 0)
    (ha : ∀ i, a i = cell4 x1 3 ((i 0).val / 8192) n (i 1).val) (hb : ∀ i, b i = cell4 x1 3 2 n (i 1).val) (i : S16896x1024.Idx) :
    concatenate S16896x1024 0 [⟨S16384x1024, a⟩, ⟨S512x1024, b⟩] h i = cell4 x1 3 ((i 0).val / 8192) n (i 1).val := by
  have h0 : (i 0).val < 16896 := (i 0).isLt
  by_cases hi : (i 0).val < 16384
  · rw [concatenate_apply_piece (0 : Fin 2) _ _ i 0 (by simp) S16384x1024 _ rfl rfl 0 rfl (ix2 ⟨(i 0).val, hi⟩ (i 1))
      (fun a => match a with | ⟨0, _⟩ => fun h => absurd rfl h | ⟨1, _⟩ => fun _ => rfl) (Nat.zero_add _), ha]
  · rw [concatenate_apply_piece (0 : Fin 2) _ _ i 1 (by simp) S512x1024 _ rfl rfl 16384 rfl (ix2 ⟨(i 0).val - 16384, by omega⟩ (i 1))
      (fun a => match a with | ⟨0, _⟩ => fun h => absurd rfl h | ⟨1, _⟩ => fun _ => rfl) (by show 16384 + ((i 0).val - 16384) = (i 0).val; omega), hb,
      show (i 0).val / 8192 = 2 by omega]

theorem scale_eq (i : S16896x1024.Idx) : val_main_v23 (F := Ideal) x1 i = cell4 x1 3 ((i 0).val / 8192) 1 (i 1).val := by
  refine tokens_eq x1 1 _ _ _ (fun j => ?_) (fun j => ?_) i
  · have h0 : (j 0).val < 16384 := (j 0).isLt
    have h1 : (j 1).val < 1024 := (j 1).isLt
    rw [val_main_v19_apply, val_main_v18_apply, val_main_v17_apply, val_main_v16_apply, val_main_v15_apply]
    refine mod_entry x1 _ _ _ rfl ?_ rfl ?_
    · show (((j 0).val * 1024 + (j 1).val) / 8388608 * 1024 + ((j 0).val * 1024 + (j 1).val) % 1024) / 1024 % 2 = _
      omega
    · show (((j 0).val * 1024 + (j 1).val) / 8388608 * 1024 + ((j 0).val * 1024 + (j 1).val) % 1024) % 1024 = _
      omega
  · have h1 : (j 1).val < 1024 := (j 1).isLt
    rw [val_main_v22_apply, val_main_v21_apply, val_main_v20_apply]
    refine mod_entry x1 _ _ _ rfl rfl rfl ?_
    show (0 * 1024 + (j 1).val) % 1024 = _
    omega

theorem shift_eq (i : S16896x1024.Idx) : val_main_v35 (F := Ideal) x1 i = cell4 x1 3 ((i 0).val / 8192) 0 (i 1).val := by
  refine tokens_eq x1 0 _ _ _ (fun j => ?_) (fun j => ?_) i
  · have h0 : (j 0).val < 16384 := (j 0).isLt
    have h1 : (j 1).val < 1024 := (j 1).isLt
    rw [val_main_v31_apply, val_main_v30_apply, val_main_v29_apply, val_main_v28_apply, val_main_v27_apply]
    refine mod_entry x1 _ _ _ rfl ?_ rfl ?_
    · show (((j 0).val * 1024 + (j 1).val) / 8388608 * 1024 + ((j 0).val * 1024 + (j 1).val) % 1024) / 1024 % 2 = _
      omega
    · show (((j 0).val * 1024 + (j 1).val) / 8388608 * 1024 + ((j 0).val * 1024 + (j 1).val) % 1024) % 1024 = _
      omega
  · have h1 : (j 1).val < 1024 := (j 1).isLt
    rw [val_main_v34_apply, val_main_v33_apply, val_main_v32_apply]
    refine mod_entry x1 _ _ _ rfl rfl rfl ?_
    show (0 * 1024 + (j 1).val) % 1024 = _
    omega

theorem gain_eq (i : S16896x1024.Idx) : val_main_v13 (F := Ideal) x2 i = cell3 x2 3 0 (i 1).val := by
  have h1 : (i 1).val < 1024 := (i 1).isLt
  rw [val_main_v13_apply, val_main_v12_apply, val_main_v1_apply, val_main_v0_apply, cell3_eq x2]
  refine congrArg (cell3 x2 3 0) ?_
  show (i 1).val % 1024 = _
  omega

theorem latent_gain_eq (i : S16896x256.Idx) : val_main_v55 (F := Ideal) x9 i = cell3 x9 3 0 (i 1).val := by
  have h1 : (i 1).val < 256 := (i 1).isLt
  rw [val_main_v55_apply, val_main_v54_apply, val_main_v43_apply, val_main_v42_apply, cell3_eq x9]
  refine congrArg (cell3 x9 3 0) ?_
  show (i 1).val % 256 = _
  omega

theorem weights_eq (i : S1024x2688.Idx) : val_main_v39 (F := Ideal) x3 i = cell3 x3 3 (i 0).val (i 1).val := by
  have h0 : (i 0).val < 1024 := (i 0).isLt
  have h1 : (i 1).val < 2688 := (i 1).isLt
  rw [val_main_v39_apply, val_main_v38_apply, val_main_v37_apply]
  show x3 _ = _
  rw [cell3_eq x3]
  refine congrArg₂ (cell3 x3 3) ?_ ?_
  · show ((i 0).val * 2688 + (i 1).val) / 2688 % 1024 = _
    omega
  · show ((i 0).val * 2688 + (i 1).val) % 2688 = _
    omega

theorem value_weights_eq (i : S256x512.Idx) : val_main_v59 (F := Ideal) x7 i = cell3 x7 3 (i 0).val (i 1).val := by
  have h0 : (i 0).val < 256 := (i 0).isLt
  have h1 : (i 1).val < 512 := (i 1).isLt
  rw [val_main_v59_apply, val_main_v58_apply, val_main_v57_apply]
  show x7 _ = _
  rw [cell3_eq x7]
  refine congrArg₂ (cell3 x7 3) ?_ ?_
  · show ((i 0).val * 512 + (i 1).val) / 512 % 256 = _
    omega
  · show ((i 0).val * 512 + (i 1).val) % 512 = _
    omega

/-- The modulated norm. -/
theorem inp_eq (i : S16896x1024.Idx) : val_main_v36 (F := Ideal) x0 x1 x2 i = (tokenOf x0 x1 x2 x3 x7 x9 (i 0).val).inp (i 1).val := by
  rw [val_main_v36_apply, val_main_v26_apply, val_main_v25_apply, val_main_v24_apply, val_main_cst_2_apply, scale_eq, shift_eq, val_main_v14_apply, gain_eq,
    val_main_v11_apply, val_main_v10_apply, val_main_v9_apply, val_main_v8_apply, val_main_v7_apply, val_main_v6_apply, val_main_v5_apply,
    val_main_v4_apply, val_main_v3_apply, cell_eq x0]
  refine congrArg₂ (· + ·) (congrArg₂ (· * ·) (congrArg₂ (· * ·) (congrArg₂ (· * ·) rfl
    (congrArg Ideal.rsqrt (congrArg₂ (· + ·) (congrArg₂ Ideal.div ?_ ofBits_1024) rfl))) rfl) (congrArg₂ (· + ·) Ideal.ofBits_one_f32 rfl)) rfl
  show Ideal.ofBits .f32 0x00000000#32 + _ = _
  rw [Ideal.ofBits_zero_f32, zero_add]
  refine Finset.sum_congr rfl fun e _ => ?_
  rw [val_main_v2_apply, cell_eq x0]
  rfl

/-- The input projection. -/
theorem proj_eq (i : S16896x2688.Idx) : val_main_v40 (F := Ideal) x0 x1 x2 x3 i = (tokenOf x0 x1 x2 x3 x7 x9 (i 0).val).proj (i 1).val := by
  rw [val_main_v40_apply]
  refine Finset.sum_congr rfl fun k _ => ?_
  rw [inp_eq x0 x1 x2 x3 x7 x9, weights_eq]
  rfl

/-- The normalised latent. -/
theorem lat_eq (i : S16896x256.Idx) : val_main_v56 (F := Ideal) x0 x1 x2 x3 x9 i = (tokenOf x0 x1 x2 x3 x7 x9 (i 0).val).lat (i 1).val := by
  have e : ∀ j : S16896x256.Idx, val_main_v41 (F := Ideal) x0 x1 x2 x3 j = (tokenOf x0 x1 x2 x3 x7 x9 (j 0).val).proj (2176 + (j 1).val) := fun j => by
    rw [val_main_v41_apply, proj_eq x0 x1 x2 x3 x7 x9]
  rw [val_main_v56_apply, latent_gain_eq, val_main_v53_apply, val_main_v52_apply, val_main_v51_apply, val_main_v50_apply, val_main_v49_apply,
    val_main_v48_apply, val_main_v47_apply, val_main_v46_apply, val_main_v45_apply, e]
  refine congrArg₂ (· * ·) (congrArg₂ (· * ·) rfl (congrArg Ideal.rsqrt (congrArg₂ (· + ·) (congrArg₂ Ideal.div ?_ ofBits_256) rfl))) rfl
  show Ideal.ofBits .f32 0x00000000#32 + _ = _
  rw [Ideal.ofBits_zero_f32, zero_add]
  refine Finset.sum_congr rfl fun k _ => ?_
  rw [val_main_v44_apply, e]
  rfl

/-- The values out of the latent. -/
theorem val_eq (i : S16896x512.Idx) : val_main_v60 (F := Ideal) x0 x1 x2 x3 x7 x9 i = (tokenOf x0 x1 x2 x3 x7 x9 (i 0).val).val (i 1).val := by
  rw [val_main_v60_apply]
  refine Finset.sum_congr rfl fun k _ => ?_
  rw [lat_eq x0 x1 x2 x3 x7 x9, value_weights_eq]
  rfl

/-! The six results. -/

theorem mlqk_eq (i : S16896x512.Idx) : val_main_v61 (F := Ideal) x0 x1 x2 x3 i = (tokenOf x0 x1 x2 x3 x7 x9 (i 0).val).proj (768 + (i 1).val) := by
  rw [val_main_v61_apply, proj_eq x0 x1 x2 x3 x7 x9]

theorem mlv_eq (i : S16896x256.Idx) : val_main_v63 (F := Ideal) x0 x1 x2 x3 i = (tokenOf x0 x1 x2 x3 x7 x9 (i 0).val).proj (1280 + (i 1).val) := by
  rw [val_main_v63_apply, val_main_v62_apply, proj_eq x0 x1 x2 x3 x7 x9]
  rfl

theorem mlo_eq (i : S16896x256.Idx) : val_main_v64 (F := Ideal) x0 x1 x2 x3 i = (tokenOf x0 x1 x2 x3 x7 x9 (i 0).val).proj (1536 + (i 1).val) := by
  rw [val_main_v64_apply, proj_eq x0 x1 x2 x3 x7 x9]

theorem misc_eq (i : S16896x128.Idx) : val_main_v65 (F := Ideal) x0 x1 x2 x3 i = (tokenOf x0 x1 x2 x3 x7 x9 (i 0).val).proj (2432 + (i 1).val) := by
  rw [val_main_v65_apply, proj_eq x0 x1 x2 x3 x7 x9]

theorem navt_eq (i : S256x16896.Idx) : val_main_v68 (F := Ideal) x0 x1 x2 x3 i = (tokenOf x0 x1 x2 x3 x7 x9 (i 1).val).proj (512 + (i 0).val) := by
  rw [val_main_v68_apply, val_main_v67_apply, val_main_v66_apply, proj_eq x0 x1 x2 x3 x7 x9]
  rfl

theorem mvt_eq (i : S512x16896.Idx) : val_main_v70 (F := Ideal) x0 x1 x2 x3 x7 x9 i = (tokenOf x0 x1 x2 x3 x7 x9 (i 1).val).val (i 0).val := by
  rw [val_main_v70_apply, val_main_v69_apply, val_eq]
  rfl
end

end Cert.Reference3Ideal.Hand

end
-- ==== Proof.ProjValue.lean ====
module

public import proofs.«01_k».proof.Defs
public import proofs.«01_k».proof.Proof.ProjFinal
public import proofs.«01_k».proof.Proof.ProjReference
public import proofs.«01_k».proof.Proof.Gen.Kernel3Ideal
public import proofs.«01_k».proof.Proof.Gen.Reference3Ideal
public import proofs.«01_k».proof.Proof.Gen.Reference3Ideal.Run

@[expose] public section

set_option maxRecDepth 16384

noncomputable section

/-! The third kernel and its reference compute six of its arrays alike at the extended reals. -/

namespace Cert.Proof

open Idealize.ShloMosaic Idealize.ShloMosaic.ValueIdx Idealize.ShloMosaic.TcCoe Idealize.SL.Sem Cert.Proj
open Cert.Reference3Ideal.Hand Cert.Reference3Ideal.Read
open Cert.Kernel3Ideal.Hand (tok run_arrays)

/-- From the same arguments, the third kernel and its reference leave the same six arrays. -/
theorem same_proj : Cert.algebraic_Kernel3Ideal_Reference3Ideal := fun m g m' g' _ hm => by
  refine ⟨_, _, _, _, _, _, run_arrays m g, (θ_run Cert.Reference3Ideal.defs _ _).mono (fun r h c => ?_) (Cert.Reference3Ideal.Value.run (F := Ideal) m' g')⟩
  have e : ∀ y, tokenOf (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg7))
      (m' ((c.tc : Thread Cert.Reference3Ideal.nD Cert.Reference3Ideal.τ).loc Cert.Reference3Ideal.main_arg9)) y = tok m c y := fun y => by
    obtain ⟨h0, h1, h2, h3, -, -, -, h7, -, h9, -⟩ := hm c
    rw [h0, h1, h2, h3, h7, h9]
  obtain ⟨r0, r1, r2, r3, r4, r5, kept⟩ := h c
  exact ⟨r0.trans ((val_main_v61_eq _ _ _ _).trans (funext fun y => (mlqk_eq _ _ _ _ _ _ y).trans (congrArg (fun T : Token => T.proj _) (e _)))),
    r1.trans ((val_main_v63_eq _ _ _ _).trans (funext fun y => (mlv_eq _ _ _ _ _ _ y).trans (congrArg (fun T : Token => T.proj _) (e _)))),
    r2.trans ((val_main_v64_eq _ _ _ _).trans (funext fun y => (mlo_eq _ _ _ _ _ _ y).trans (congrArg (fun T : Token => T.proj _) (e _)))),
    r3.trans ((val_main_v65_eq _ _ _ _).trans (funext fun y => (misc_eq _ _ _ _ _ _ y).trans (congrArg (fun T : Token => T.proj _) (e _)))),
    r4.trans ((val_main_v68_eq _ _ _ _).trans (funext fun y => (navt_eq _ _ _ _ _ _ y).trans (congrArg (fun T : Token => T.proj _) (e _)))),
    r5.trans ((val_main_v70_eq m' c).trans (funext fun y => (mvt_eq _ _ _ _ _ _ y).trans (congrArg (fun T : Token => T.val _) (e _)))),
    kept⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Pre_finite_state
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Run
public import proofs.«01_k».proof.Proof.Value
public import proofs.«01_k».proof.Proof.FfnValue
public import proofs.«01_k».proof.Proof.Bits
public import proofs.«01_k».proof.Proof.ProjValue
public import Idealize.ShloMosaic.Adequacy
public import Idealize.ShloMosaic.Init
public import Idealize.ShloMosaic.Lib.Exec

@[expose] public section

noncomputable section

namespace Cert.Proof

open Idealize.ShloMosaic Idealize.ShloMosaic.TcCoe Idealize.SL.Sem

/-- The reference runs, leaves its arguments alone, and declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The last layer's reference runs, leaves its arguments alone, and declares no semaphore. -/
theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The third reference runs, leaves its arguments alone, and declares no semaphore. -/
theorem frame_reference3 : Cert.quiescent_Reference3Ideal := fun m ρ _ =>
  (θ_run Cert.Reference3Ideal.defs _ _).mono (fun r h => ⟨fun c => (h c).2.2.2.2.2.2,
      Idealize.ShloMosaic.sem_eq_zero_of_no_sems (by decide) r.2⟩)
    (Cert.Reference3Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Pre_finite_scores.Gen.facts, Cert.Pre_finite_state.Gen.facts,
  frame_attn, fun m ρ _ => Cert.KernelIdeal.Hand.frame_main m ρ, fun m ρ _ => Cert.KernelIdeal.Hand.frame_main m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  frame_proj, fun m ρ _ => Cert.Kernel3Ideal.Gen.frame m ρ, frame_reference3,
  trivial, same, trivial, same_ffn, trivial, same_proj⟩

end Cert.Proof

end
